-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_KernelQkvIdeal_finite_tokens [hPre_finite_tokens : Cert.Pre_finite_tokens.Facts] (m : (ℓ : Loc Cert.KernelQkvIdeal.nD Cert.KernelQkvIdeal.τ Cert.KernelQkvIdeal.sig) → Buf (Elt Ideal) ℓ) : Prop :=
  ∀ c : Dev Cert.KernelQkvIdeal.nD,
    (Cert.Pre_finite_tokens.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6)) (m ((c.tc : Thread Cert.KernelQkvIdeal.nD Cert.KernelQkvIdeal.τ).loc Cert.KernelQkvIdeal.main_arg7))).1 = (fun _ => 1#1)
    ∧ (Cert.Pre_finite_tokens.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6)) (m ((c.tc : Thread Cert.KernelQkvIdeal.nD Cert.KernelQkvIdeal.τ).loc Cert.KernelQkvIdeal.main_arg7))).2.1 = (fun _ => 1#1)
    ∧ (Cert.Pre_finite_tokens.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6)) (m ((c.tc : Thread Cert.KernelQkvIdeal.nD Cert.KernelQkvIdeal.τ).loc Cert.KernelQkvIdeal.main_arg7))).2.2.1 = (fun _ => 1#1)
    ∧ (Cert.Pre_finite_tokens.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6)) (m ((c.tc : Thread Cert.KernelQkvIdeal.nD Cert.KernelQkvIdeal.τ).loc Cert.KernelQkvIdeal.main_arg7))).2.2.2 = (fun _ => 1#1)

def Pre_ReferenceQkvIdeal (m : (ℓ : Loc Cert.ReferenceQkvIdeal.nD Cert.ReferenceQkvIdeal.τ Cert.ReferenceQkvIdeal.sig) → Buf (Elt Ideal) ℓ) : Prop :=
  True

def Pre_ReferenceQkvIdeal_finite_tokens [hPre_finite_tokens : Cert.Pre_finite_tokens.Facts] (m : (ℓ : Loc Cert.ReferenceQkvIdeal.nD Cert.ReferenceQkvIdeal.τ Cert.ReferenceQkvIdeal.sig) → Buf (Elt Ideal) ℓ) : Prop :=
  ∀ c : Dev Cert.ReferenceQkvIdeal.nD,
    (Cert.Pre_finite_tokens.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6)) (m ((c.tc : Thread Cert.ReferenceQkvIdeal.nD Cert.ReferenceQkvIdeal.τ).loc Cert.ReferenceQkvIdeal.main_arg7))).1 = (fun _ => 1#1)
    ∧ (Cert.Pre_finite_tokens.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6)) (m ((c.tc : Thread Cert.ReferenceQkvIdeal.nD Cert.ReferenceQkvIdeal.τ).loc Cert.ReferenceQkvIdeal.main_arg7))).2.1 = (fun _ => 1#1)
    ∧ (Cert.Pre_finite_tokens.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6)) (m ((c.tc : Thread Cert.ReferenceQkvIdeal.nD Cert.ReferenceQkvIdeal.τ).loc Cert.ReferenceQkvIdeal.main_arg7))).2.2.1 = (fun _ => 1#1)
    ∧ (Cert.Pre_finite_tokens.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6)) (m ((c.tc : Thread Cert.ReferenceQkvIdeal.nD Cert.ReferenceQkvIdeal.τ).loc Cert.ReferenceQkvIdeal.main_arg7))).2.2.2 = (fun _ => 1#1)

def Pre_KernelMods (m : (ℓ : Loc Cert.KernelMods.nD Cert.KernelMods.τ Cert.KernelMods.sig) → Buf (Elt Bits) ℓ) : Prop :=
  True

def Pre_KernelModsIdeal (m : (ℓ : Loc Cert.KernelModsIdeal.nD Cert.KernelModsIdeal.τ Cert.KernelModsIdeal.sig) → Buf (Elt Ideal) ℓ) : Prop :=
  True

def Pre_ReferenceModsIdeal (m : (ℓ : Loc Cert.ReferenceModsIdeal.nD Cert.ReferenceModsIdeal.τ Cert.ReferenceModsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4)
      ∧ r.2.mem ((c.tc : Thread Cert.KernelLast.nD Cert.KernelLast.τ).loc Cert.KernelLast.main_arg5) = m ((c.tc : Thread Cert.KernelLast.nD Cert.KernelLast.τ).loc Cert.KernelLast.main_arg5)
      ∧ r.2.mem ((c.tc : Thread Cert.KernelLast.nD Cert.KernelLast.τ).loc Cert.KernelLast.main_arg6) = m ((c.tc : Thread Cert.KernelLast.nD Cert.KernelLast.τ).loc Cert.KernelLast.main_arg6)
      ∧ r.2.mem ((c.tc : Thread Cert.KernelLast.nD Cert.KernelLast.τ).loc Cert.KernelLast.main_arg7) = m ((c.tc : Thread Cert.KernelLast.nD Cert.KernelLast.τ).loc Cert.KernelLast.main_arg7))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
      ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5)
      ∧ r.2.mem ((c.tc : Thread Cert.KernelLastIdeal.nD Cert.KernelLastIdeal.τ).loc Cert.KernelLastIdeal.main_arg6) = m ((c.tc : Thread Cert.KernelLastIdeal.nD Cert.KernelLastIdeal.τ).loc Cert.KernelLastIdeal.main_arg6)
      ∧ r.2.mem ((c.tc : Thread Cert.KernelLastIdeal.nD Cert.KernelLastIdeal.τ).loc Cert.KernelLastIdeal.main_arg7) = m ((c.tc : Thread Cert.KernelLastIdeal.nD Cert.KernelLastIdeal.τ).loc Cert.KernelLastIdeal.main_arg7))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4)
      ∧ r.2.mem ((c.tc : Thread Cert.ReferenceLastIdeal.nD Cert.ReferenceLastIdeal.τ).loc Cert.ReferenceLastIdeal.main_arg5) = m ((c.tc : Thread Cert.ReferenceLastIdeal.nD Cert.ReferenceLastIdeal.τ).loc Cert.ReferenceLastIdeal.main_arg5)
      ∧ r.2.mem ((c.tc : Thread Cert.ReferenceLastIdeal.nD Cert.ReferenceLastIdeal.τ).loc Cert.ReferenceLastIdeal.main_arg6) = m ((c.tc : Thread Cert.ReferenceLastIdeal.nD Cert.ReferenceLastIdeal.τ).loc Cert.ReferenceLastIdeal.main_arg6)
      ∧ r.2.mem ((c.tc : Thread Cert.ReferenceLastIdeal.nD Cert.ReferenceLastIdeal.τ).loc Cert.ReferenceLastIdeal.main_arg7) = m ((c.tc : Thread Cert.ReferenceLastIdeal.nD Cert.ReferenceLastIdeal.τ).loc Cert.ReferenceLastIdeal.main_arg7))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2)
      ∧ r.2.mem ((c.tc : Thread Cert.KernelEven.nD Cert.KernelEven.τ).loc Cert.KernelEven.main_arg3) = m ((c.tc : Thread Cert.KernelEven.nD Cert.KernelEven.τ).loc Cert.KernelEven.main_arg3)
      ∧ r.2.mem ((c.tc : Thread Cert.KernelEven.nD Cert.KernelEven.τ).loc Cert.KernelEven.main_arg4) = m ((c.tc : Thread Cert.KernelEven.nD Cert.KernelEven.τ).loc Cert.KernelEven.main_arg4)
      ∧ r.2.mem ((c.tc : Thread Cert.KernelEven.nD Cert.KernelEven.τ).loc Cert.KernelEven.main_arg5) = m ((c.tc : Thread Cert.KernelEven.nD Cert.KernelEven.τ).loc Cert.KernelEven.main_arg5)
      ∧ r.2.mem ((c.tc : Thread Cert.KernelEven.nD Cert.KernelEven.τ).loc Cert.KernelEven.main_arg6) = m ((c.tc : Thread Cert.KernelEven.nD Cert.KernelEven.τ).loc Cert.KernelEven.main_arg6)
      ∧ r.2.mem ((c.tc : Thread Cert.KernelEven.nD Cert.KernelEven.τ).loc Cert.KernelEven.main_arg7) = m ((c.tc : Thread Cert.KernelEven.nD Cert.KernelEven.τ).loc Cert.KernelEven.main_arg7))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
      ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
      ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
      ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2)
      ∧ r.2.mem ((c.tc : Thread Cert.KernelOdd.nD Cert.KernelOdd.τ).loc Cert.KernelOdd.main_arg3) = m ((c.tc : Thread Cert.KernelOdd.nD Cert.KernelOdd.τ).loc Cert.KernelOdd.main_arg3)
      ∧ r.2.mem ((c.tc : Thread Cert.KernelOdd.nD Cert.KernelOdd.τ).loc Cert.KernelOdd.main_arg4) = m ((c.tc : Thread Cert.KernelOdd.nD Cert.KernelOdd.τ).loc Cert.KernelOdd.main_arg4)
      ∧ r.2.mem ((c.tc : Thread Cert.KernelOdd.nD Cert.KernelOdd.τ).loc Cert.KernelOdd.main_arg5) = m ((c.tc : Thread Cert.KernelOdd.nD Cert.KernelOdd.τ).loc Cert.KernelOdd.main_arg5)
      ∧ r.2.mem ((c.tc : Thread Cert.KernelOdd.nD Cert.KernelOdd.τ).loc Cert.KernelOdd.main_arg6) = m ((c.tc : Thread Cert.KernelOdd.nD Cert.KernelOdd.τ).loc Cert.KernelOdd.main_arg6))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
      ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
      ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
      ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5)
      ∧ r.2.mem ((c.tc : Thread Cert.KernelOddIdeal.nD Cert.KernelOddIdeal.τ).loc Cert.KernelOddIdeal.main_arg6) = m ((c.tc : Thread Cert.KernelOddIdeal.nD Cert.KernelOddIdeal.τ).loc Cert.KernelOddIdeal.main_arg6))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3)
      ∧ r.2.mem ((c.tc : Thread Cert.ReferenceOddIdeal.nD Cert.ReferenceOddIdeal.τ).loc Cert.ReferenceOddIdeal.main_arg4) = m ((c.tc : Thread Cert.ReferenceOddIdeal.nD Cert.ReferenceOddIdeal.τ).loc Cert.ReferenceOddIdeal.main_arg4)
      ∧ r.2.mem ((c.tc : Thread Cert.ReferenceOddIdeal.nD Cert.ReferenceOddIdeal.τ).loc Cert.ReferenceOddIdeal.main_arg5) = m ((c.tc : Thread Cert.ReferenceOddIdeal.nD Cert.ReferenceOddIdeal.τ).loc Cert.ReferenceOddIdeal.main_arg5)
      ∧ r.2.mem ((c.tc : Thread Cert.ReferenceOddIdeal.nD Cert.ReferenceOddIdeal.τ).loc Cert.ReferenceOddIdeal.main_arg6) = m ((c.tc : Thread Cert.ReferenceOddIdeal.nD Cert.ReferenceOddIdeal.τ).loc Cert.ReferenceOddIdeal.main_arg6))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6)
      ∧ r.2.mem ((c.tc : Thread Cert.KernelQkv.nD Cert.KernelQkv.τ).loc Cert.KernelQkv.main_arg7) = m ((c.tc : Thread Cert.KernelQkv.nD Cert.KernelQkv.τ).loc Cert.KernelQkv.main_arg7))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
      ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7))
      ∧ r.2.sem = fun _ => 0)

def quiescent_KernelQkvIdeal_pre_finite_tokens [hKernelQkvIdeal : Cert.KernelQkvIdeal.Facts] [hPre_finite_tokens : Cert.Pre_finite_tokens.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal_finite_tokens m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
      ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6)
      ∧ r.2.mem ((c.tc : Thread Cert.ReferenceQkvIdeal.nD Cert.ReferenceQkvIdeal.τ).loc Cert.ReferenceQkvIdeal.main_arg7) = m ((c.tc : Thread Cert.ReferenceQkvIdeal.nD Cert.ReferenceQkvIdeal.τ).loc Cert.ReferenceQkvIdeal.main_arg7))
      ∧ r.2.sem = fun _ => 0)

def quiescent_ReferenceQkvIdeal_pre_finite_tokens [hReferenceQkvIdeal : Cert.ReferenceQkvIdeal.Facts] [hPre_finite_tokens : Cert.Pre_finite_tokens.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal_finite_tokens m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6)
      ∧ r.2.mem ((c.tc : Thread Cert.ReferenceQkvIdeal.nD Cert.ReferenceQkvIdeal.τ).loc Cert.ReferenceQkvIdeal.main_arg7) = m ((c.tc : Thread Cert.ReferenceQkvIdeal.nD Cert.ReferenceQkvIdeal.τ).loc Cert.ReferenceQkvIdeal.main_arg7))
      ∧ r.2.sem = fun _ => 0)

def quiescent_KernelMods [hKernelMods : Cert.KernelMods.Facts] : Prop :=
  ∀ (m : (ℓ : Loc Cert.KernelMods.nD Cert.KernelMods.τ Cert.KernelMods.sig) → Buf (Elt Bits) ℓ) (g : Dev Cert.KernelMods.nD → PrngReg), Pre_KernelMods m →
    θ_run (Cert.KernelMods.defs (F := Bits)) (onTc (τ := Cert.KernelMods.τ) (Cert.KernelMods.main (F := Bits))) ⟨m, fun _ => 0, g⟩ (fun r => (∀ c : Dev Cert.KernelMods.nD,
      r.2.mem ((c.tc : Thread Cert.KernelMods.nD Cert.KernelMods.τ).loc Cert.KernelMods.main_arg0) = m ((c.tc : Thread Cert.KernelMods.nD Cert.KernelMods.τ).loc Cert.KernelMods.main_arg0)
      ∧ r.2.mem ((c.tc : Thread Cert.KernelMods.nD Cert.KernelMods.τ).loc Cert.KernelMods.main_arg1) = m ((c.tc : Thread Cert.KernelMods.nD Cert.KernelMods.τ).loc Cert.KernelMods.main_arg1)
      ∧ r.2.mem ((c.tc : Thread Cert.KernelMods.nD Cert.KernelMods.τ).loc Cert.KernelMods.main_arg2) = m ((c.tc : Thread Cert.KernelMods.nD Cert.KernelMods.τ).loc Cert.KernelMods.main_arg2)
      ∧ r.2.mem ((c.tc : Thread Cert.KernelMods.nD Cert.KernelMods.τ).loc Cert.KernelMods.main_arg3) = m ((c.tc : Thread Cert.KernelMods.nD Cert.KernelMods.τ).loc Cert.KernelMods.main_arg3))
      ∧ r.2.sem = fun _ => 0)

def quiescent_KernelModsIdeal [hKernelModsIdeal : Cert.KernelModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg), Pre_KernelModsIdeal m →
    θ_run (Cert.KernelModsIdeal.defs (F := Ideal)) (onTc (τ := Cert.KernelModsIdeal.τ) (Cert.KernelModsIdeal.main (F := Ideal))) ⟨m, fun _ => 0, g⟩ (fun r => (∀ c : Dev Cert.KernelModsIdeal.nD,
      r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
      ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1)
      ∧ r.2.mem ((c.tc : Thread Cert.KernelModsIdeal.nD Cert.KernelModsIdeal.τ).loc Cert.KernelModsIdeal.main_arg2) = m ((c.tc : Thread Cert.KernelModsIdeal.nD Cert.KernelModsIdeal.τ).loc Cert.KernelModsIdeal.main_arg2)
      ∧ r.2.mem ((c.tc : Thread Cert.KernelModsIdeal.nD Cert.KernelModsIdeal.τ).loc Cert.KernelModsIdeal.main_arg3) = m ((c.tc : Thread Cert.KernelModsIdeal.nD Cert.KernelModsIdeal.τ).loc Cert.KernelModsIdeal.main_arg3))
      ∧ r.2.sem = fun _ => 0)

def quiescent_ReferenceModsIdeal [hReferenceModsIdeal : Cert.ReferenceModsIdeal.Facts] : Prop :=
  ∀ (m : (ℓ : Loc Cert.ReferenceModsIdeal.nD Cert.ReferenceModsIdeal.τ Cert.ReferenceModsIdeal.sig) → Buf (Elt Ideal) ℓ) (g : Dev Cert.ReferenceModsIdeal.nD → PrngReg), Pre_ReferenceModsIdeal m →
    θ_run (Cert.ReferenceModsIdeal.defs (F := Ideal)) (onTc (τ := Cert.ReferenceModsIdeal.τ) (Cert.ReferenceModsIdeal.main (F := Ideal))) ⟨m, fun _ => 0, g⟩ (fun r => (∀ c : Dev Cert.ReferenceModsIdeal.nD,
      r.2.mem ((c.tc : Thread Cert.ReferenceModsIdeal.nD Cert.ReferenceModsIdeal.τ).loc Cert.ReferenceModsIdeal.main_arg0) = m ((c.tc : Thread Cert.ReferenceModsIdeal.nD Cert.ReferenceModsIdeal.τ).loc Cert.ReferenceModsIdeal.main_arg0)
      ∧ r.2.mem ((c.tc : Thread Cert.ReferenceModsIdeal.nD Cert.ReferenceModsIdeal.τ).loc Cert.ReferenceModsIdeal.main_arg1) = m ((c.tc : Thread Cert.ReferenceModsIdeal.nD Cert.ReferenceModsIdeal.τ).loc Cert.ReferenceModsIdeal.main_arg1)
      ∧ r.2.mem ((c.tc : Thread Cert.ReferenceModsIdeal.nD Cert.ReferenceModsIdeal.τ).loc Cert.ReferenceModsIdeal.main_arg2) = m ((c.tc : Thread Cert.ReferenceModsIdeal.nD Cert.ReferenceModsIdeal.τ).loc Cert.ReferenceModsIdeal.main_arg2)
      ∧ r.2.mem ((c.tc : Thread Cert.ReferenceModsIdeal.nD Cert.ReferenceModsIdeal.τ).loc Cert.ReferenceModsIdeal.main_arg3) = m ((c.tc : Thread Cert.ReferenceModsIdeal.nD Cert.ReferenceModsIdeal.τ).loc Cert.ReferenceModsIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)
      ∧ m' ((c.tc : Thread Cert.ReferenceLastIdeal.nD Cert.ReferenceLastIdeal.τ).loc Cert.ReferenceLastIdeal.main_arg5) = m ((c.tc : Thread Cert.KernelLastIdeal.nD Cert.KernelLastIdeal.τ).loc Cert.KernelLastIdeal.main_arg5)
      ∧ m' ((c.tc : Thread Cert.ReferenceLastIdeal.nD Cert.ReferenceLastIdeal.τ).loc Cert.ReferenceLastIdeal.main_arg6) = m ((c.tc : Thread Cert.KernelLastIdeal.nD Cert.KernelLastIdeal.τ).loc Cert.KernelLastIdeal.main_arg6)
      ∧ m' ((c.tc : Thread Cert.ReferenceLastIdeal.nD Cert.ReferenceLastIdeal.τ).loc Cert.ReferenceLastIdeal.main_arg7) = m ((c.tc : Thread Cert.KernelLastIdeal.nD Cert.KernelLastIdeal.τ).loc Cert.KernelLastIdeal.main_arg7)) →
    ∃ (v0 : (c : Dev Cert.KernelLastIdeal.nD) → Buf (Elt Ideal) ((c.tc : Thread Cert.KernelLastIdeal.nD Cert.KernelLastIdeal.τ).loc Cert.KernelLastIdeal.main_v9)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v9) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
          ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5)
          ∧ r.2.mem ((c.tc : Thread Cert.KernelLastIdeal.nD Cert.KernelLastIdeal.τ).loc Cert.KernelLastIdeal.main_arg6) = m ((c.tc : Thread Cert.KernelLastIdeal.nD Cert.KernelLastIdeal.τ).loc Cert.KernelLastIdeal.main_arg6)
          ∧ r.2.mem ((c.tc : Thread Cert.KernelLastIdeal.nD Cert.KernelLastIdeal.τ).loc Cert.KernelLastIdeal.main_arg7) = m ((c.tc : Thread Cert.KernelLastIdeal.nD Cert.KernelLastIdeal.τ).loc Cert.KernelLastIdeal.main_arg7))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v60) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4)
          ∧ r.2.mem ((c.tc : Thread Cert.ReferenceLastIdeal.nD Cert.ReferenceLastIdeal.τ).loc Cert.ReferenceLastIdeal.main_arg5) = m' ((c.tc : Thread Cert.ReferenceLastIdeal.nD Cert.ReferenceLastIdeal.τ).loc Cert.ReferenceLastIdeal.main_arg5)
          ∧ r.2.mem ((c.tc : Thread Cert.ReferenceLastIdeal.nD Cert.ReferenceLastIdeal.τ).loc Cert.ReferenceLastIdeal.main_arg6) = m' ((c.tc : Thread Cert.ReferenceLastIdeal.nD Cert.ReferenceLastIdeal.τ).loc Cert.ReferenceLastIdeal.main_arg6)
          ∧ r.2.mem ((c.tc : Thread Cert.ReferenceLastIdeal.nD Cert.ReferenceLastIdeal.τ).loc Cert.ReferenceLastIdeal.main_arg7) = m' ((c.tc : Thread Cert.ReferenceLastIdeal.nD Cert.ReferenceLastIdeal.τ).loc Cert.ReferenceLastIdeal.main_arg7))

def preserves_KernelEven_KernelEvenIdeal : Prop :=
  True

def algebraic_KernelEvenIdeal_ReferenceEvenIdeal [hKernelEvenIdeal : Cert.KernelEvenIdeal.Facts] [hReferenceEvenIdeal : Cert.ReferenceEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)
      ∧ m' ((c.tc : Thread Cert.ReferenceEvenIdeal.nD Cert.ReferenceEvenIdeal.τ).loc Cert.ReferenceEvenIdeal.main_arg3) = m ((c.tc : Thread Cert.KernelEvenIdeal.nD Cert.KernelEvenIdeal.τ).loc Cert.KernelEvenIdeal.main_arg3)
      ∧ m' ((c.tc : Thread Cert.ReferenceEvenIdeal.nD Cert.ReferenceEvenIdeal.τ).loc Cert.ReferenceEvenIdeal.main_arg4) = m ((c.tc : Thread Cert.KernelEvenIdeal.nD Cert.KernelEvenIdeal.τ).loc Cert.KernelEvenIdeal.main_arg4)
      ∧ m' ((c.tc : Thread Cert.ReferenceEvenIdeal.nD Cert.ReferenceEvenIdeal.τ).loc Cert.ReferenceEvenIdeal.main_arg5) = m ((c.tc : Thread Cert.KernelEvenIdeal.nD Cert.KernelEvenIdeal.τ).loc Cert.KernelEvenIdeal.main_arg5)
      ∧ m' ((c.tc : Thread Cert.ReferenceEvenIdeal.nD Cert.ReferenceEvenIdeal.τ).loc Cert.ReferenceEvenIdeal.main_arg6) = m ((c.tc : Thread Cert.KernelEvenIdeal.nD Cert.KernelEvenIdeal.τ).loc Cert.KernelEvenIdeal.main_arg6)
      ∧ m' ((c.tc : Thread Cert.ReferenceEvenIdeal.nD Cert.ReferenceEvenIdeal.τ).loc Cert.ReferenceEvenIdeal.main_arg7) = m ((c.tc : Thread Cert.KernelEvenIdeal.nD Cert.KernelEvenIdeal.τ).loc Cert.KernelEvenIdeal.main_arg7)) →
    ∃ (v0 : (c : Dev Cert.KernelEvenIdeal.nD) → Buf (Elt Ideal) ((c.tc : Thread Cert.KernelEvenIdeal.nD Cert.KernelEvenIdeal.τ).loc Cert.KernelEvenIdeal.main_v18_0)) (v1 : (c : Dev Cert.KernelEvenIdeal.nD) → Buf (Elt Ideal) ((c.tc : Thread Cert.KernelEvenIdeal.nD Cert.KernelEvenIdeal.τ).loc Cert.KernelEvenIdeal.main_v18_1)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v18_0) = v0 c
          ∧ r.2.mem ((c.tc : Thread Cert.KernelEvenIdeal.nD Cert.KernelEvenIdeal.τ).loc Cert.KernelEvenIdeal.main_v18_1) = v1 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
          ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
          ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
          ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
          ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
          ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v82) = v0 c
          ∧ r.2.mem ((c.tc : Thread Cert.ReferenceEvenIdeal.nD Cert.ReferenceEvenIdeal.τ).loc Cert.ReferenceEvenIdeal.main_v83) = v1 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3)
          ∧ r.2.mem ((c.tc : Thread Cert.ReferenceEvenIdeal.nD Cert.ReferenceEvenIdeal.τ).loc Cert.ReferenceEvenIdeal.main_arg4) = m' ((c.tc : Thread Cert.ReferenceEvenIdeal.nD Cert.ReferenceEvenIdeal.τ).loc Cert.ReferenceEvenIdeal.main_arg4)
          ∧ r.2.mem ((c.tc : Thread Cert.ReferenceEvenIdeal.nD Cert.ReferenceEvenIdeal.τ).loc Cert.ReferenceEvenIdeal.main_arg5) = m' ((c.tc : Thread Cert.ReferenceEvenIdeal.nD Cert.ReferenceEvenIdeal.τ).loc Cert.ReferenceEvenIdeal.main_arg5)
          ∧ r.2.mem ((c.tc : Thread Cert.ReferenceEvenIdeal.nD Cert.ReferenceEvenIdeal.τ).loc Cert.ReferenceEvenIdeal.main_arg6) = m' ((c.tc : Thread Cert.ReferenceEvenIdeal.nD Cert.ReferenceEvenIdeal.τ).loc Cert.ReferenceEvenIdeal.main_arg6)
          ∧ r.2.mem ((c.tc : Thread Cert.ReferenceEvenIdeal.nD Cert.ReferenceEvenIdeal.τ).loc Cert.ReferenceEvenIdeal.main_arg7) = m' ((c.tc : Thread Cert.ReferenceEvenIdeal.nD Cert.ReferenceEvenIdeal.τ).loc Cert.ReferenceEvenIdeal.main_arg7))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v8)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v8) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v49) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelOdd_KernelOddIdeal : Prop :=
  True

def algebraic_KernelOddIdeal_ReferenceOddIdeal [hKernelOddIdeal : Cert.KernelOddIdeal.Facts] [hReferenceOddIdeal : Cert.ReferenceOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)
      ∧ m' ((c.tc : Thread Cert.ReferenceOddIdeal.nD Cert.ReferenceOddIdeal.τ).loc Cert.ReferenceOddIdeal.main_arg3) = m ((c.tc : Thread Cert.KernelOddIdeal.nD Cert.KernelOddIdeal.τ).loc Cert.KernelOddIdeal.main_arg3)
      ∧ m' ((c.tc : Thread Cert.ReferenceOddIdeal.nD Cert.ReferenceOddIdeal.τ).loc Cert.ReferenceOddIdeal.main_arg4) = m ((c.tc : Thread Cert.KernelOddIdeal.nD Cert.KernelOddIdeal.τ).loc Cert.KernelOddIdeal.main_arg4)
      ∧ m' ((c.tc : Thread Cert.ReferenceOddIdeal.nD Cert.ReferenceOddIdeal.τ).loc Cert.ReferenceOddIdeal.main_arg5) = m ((c.tc : Thread Cert.KernelOddIdeal.nD Cert.KernelOddIdeal.τ).loc Cert.KernelOddIdeal.main_arg5)
      ∧ m' ((c.tc : Thread Cert.ReferenceOddIdeal.nD Cert.ReferenceOddIdeal.τ).loc Cert.ReferenceOddIdeal.main_arg6) = m ((c.tc : Thread Cert.KernelOddIdeal.nD Cert.KernelOddIdeal.τ).loc Cert.KernelOddIdeal.main_arg6)) →
    ∃ (v0 : (c : Dev Cert.KernelOddIdeal.nD) → Buf (Elt Ideal) ((c.tc : Thread Cert.KernelOddIdeal.nD Cert.KernelOddIdeal.τ).loc Cert.KernelOddIdeal.main_v8)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v8) = v0 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
          ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
          ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
          ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5)
          ∧ r.2.mem ((c.tc : Thread Cert.KernelOddIdeal.nD Cert.KernelOddIdeal.τ).loc Cert.KernelOddIdeal.main_arg6) = m ((c.tc : Thread Cert.KernelOddIdeal.nD Cert.KernelOddIdeal.τ).loc Cert.KernelOddIdeal.main_arg6))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v47) = v0 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2)
          ∧ r.2.mem ((c.tc : Thread Cert.ReferenceOddIdeal.nD Cert.ReferenceOddIdeal.τ).loc Cert.ReferenceOddIdeal.main_arg3) = m' ((c.tc : Thread Cert.ReferenceOddIdeal.nD Cert.ReferenceOddIdeal.τ).loc Cert.ReferenceOddIdeal.main_arg3)
          ∧ r.2.mem ((c.tc : Thread Cert.ReferenceOddIdeal.nD Cert.ReferenceOddIdeal.τ).loc Cert.ReferenceOddIdeal.main_arg4) = m' ((c.tc : Thread Cert.ReferenceOddIdeal.nD Cert.ReferenceOddIdeal.τ).loc Cert.ReferenceOddIdeal.main_arg4)
          ∧ r.2.mem ((c.tc : Thread Cert.ReferenceOddIdeal.nD Cert.ReferenceOddIdeal.τ).loc Cert.ReferenceOddIdeal.main_arg5) = m' ((c.tc : Thread Cert.ReferenceOddIdeal.nD Cert.ReferenceOddIdeal.τ).loc Cert.ReferenceOddIdeal.main_arg5)
          ∧ r.2.mem ((c.tc : Thread Cert.ReferenceOddIdeal.nD Cert.ReferenceOddIdeal.τ).loc Cert.ReferenceOddIdeal.main_arg6) = m' ((c.tc : Thread Cert.ReferenceOddIdeal.nD Cert.ReferenceOddIdeal.τ).loc Cert.ReferenceOddIdeal.main_arg6))

def preserves_KernelQkv_KernelQkvIdeal : Prop :=
  True

def algebraic_KernelQkvIdeal_ReferenceQkvIdeal_pre_finite_tokens [hKernelQkvIdeal : Cert.KernelQkvIdeal.Facts] [hReferenceQkvIdeal : Cert.ReferenceQkvIdeal.Facts] [hPre_finite_tokens : Cert.Pre_finite_tokens.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal_finite_tokens m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)
      ∧ m' ((c.tc : Thread Cert.ReferenceQkvIdeal.nD Cert.ReferenceQkvIdeal.τ).loc Cert.ReferenceQkvIdeal.main_arg7) = m ((c.tc : Thread Cert.KernelQkvIdeal.nD Cert.KernelQkvIdeal.τ).loc Cert.KernelQkvIdeal.main_arg7)) →
    ∃ (v0 : (c : Dev Cert.KernelQkvIdeal.nD) → Buf (Elt Ideal) ((c.tc : Thread Cert.KernelQkvIdeal.nD Cert.KernelQkvIdeal.τ).loc Cert.KernelQkvIdeal.main_v15_0)) (v1 : (c : Dev Cert.KernelQkvIdeal.nD) → Buf (Elt Ideal) ((c.tc : Thread Cert.KernelQkvIdeal.nD Cert.KernelQkvIdeal.τ).loc Cert.KernelQkvIdeal.main_v15_1)) (v2 : (c : Dev Cert.KernelQkvIdeal.nD) → Buf (Elt Ideal) ((c.tc : Thread Cert.KernelQkvIdeal.nD Cert.KernelQkvIdeal.τ).loc Cert.KernelQkvIdeal.main_v15_2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v15_0) = v0 c
          ∧ r.2.mem ((c.tc : Thread Cert.KernelQkvIdeal.nD Cert.KernelQkvIdeal.τ).loc Cert.KernelQkvIdeal.main_v15_1) = v1 c
          ∧ r.2.mem ((c.tc : Thread Cert.KernelQkvIdeal.nD Cert.KernelQkvIdeal.τ).loc Cert.KernelQkvIdeal.main_v15_2) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
          ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v110) = v0 c
          ∧ r.2.mem ((c.tc : Thread Cert.ReferenceQkvIdeal.nD Cert.ReferenceQkvIdeal.τ).loc Cert.ReferenceQkvIdeal.main_v112) = v1 c
          ∧ r.2.mem ((c.tc : Thread Cert.ReferenceQkvIdeal.nD Cert.ReferenceQkvIdeal.τ).loc Cert.ReferenceQkvIdeal.main_v114) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6)
          ∧ r.2.mem ((c.tc : Thread Cert.ReferenceQkvIdeal.nD Cert.ReferenceQkvIdeal.τ).loc Cert.ReferenceQkvIdeal.main_arg7) = m' ((c.tc : Thread Cert.ReferenceQkvIdeal.nD Cert.ReferenceQkvIdeal.τ).loc Cert.ReferenceQkvIdeal.main_arg7))

def preserves_KernelMods_KernelModsIdeal : Prop :=
  True

def algebraic_KernelModsIdeal_ReferenceModsIdeal [hKernelModsIdeal : Cert.KernelModsIdeal.Facts] [hReferenceModsIdeal : Cert.ReferenceModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg)
    (m' : (ℓ : Loc Cert.ReferenceModsIdeal.nD Cert.ReferenceModsIdeal.τ Cert.ReferenceModsIdeal.sig) → Buf (Elt Ideal) ℓ) (g' : Dev Cert.ReferenceModsIdeal.nD → PrngReg), Pre_KernelModsIdeal m →
    (∀ c : Dev Cert.KernelModsIdeal.nD,
      m' ((c.tc : Thread Cert.ReferenceModsIdeal.nD Cert.ReferenceModsIdeal.τ).loc Cert.ReferenceModsIdeal.main_arg0) = m ((c.tc : Thread Cert.KernelModsIdeal.nD Cert.KernelModsIdeal.τ).loc Cert.KernelModsIdeal.main_arg0)
      ∧ m' ((c.tc : Thread Cert.ReferenceModsIdeal.nD Cert.ReferenceModsIdeal.τ).loc Cert.ReferenceModsIdeal.main_arg1) = m ((c.tc : Thread Cert.KernelModsIdeal.nD Cert.KernelModsIdeal.τ).loc Cert.KernelModsIdeal.main_arg1)
      ∧ m' ((c.tc : Thread Cert.ReferenceModsIdeal.nD Cert.ReferenceModsIdeal.τ).loc Cert.ReferenceModsIdeal.main_arg2) = m ((c.tc : Thread Cert.KernelModsIdeal.nD Cert.KernelModsIdeal.τ).loc Cert.KernelModsIdeal.main_arg2)
      ∧ m' ((c.tc : Thread Cert.ReferenceModsIdeal.nD Cert.ReferenceModsIdeal.τ).loc Cert.ReferenceModsIdeal.main_arg3) = m ((c.tc : Thread Cert.KernelModsIdeal.nD Cert.KernelModsIdeal.τ).loc Cert.KernelModsIdeal.main_arg3)) →
    ∃ (v0 : (c : Dev Cert.KernelModsIdeal.nD) → Buf (Elt Ideal) ((c.tc : Thread Cert.KernelModsIdeal.nD Cert.KernelModsIdeal.τ).loc Cert.KernelModsIdeal.main_v6)),
      θ_run (Cert.KernelModsIdeal.defs (F := Ideal)) (onTc (τ := Cert.KernelModsIdeal.τ) (Cert.KernelModsIdeal.main (F := Ideal))) ⟨m, fun _ => 0, g⟩ (fun r => ∀ c : Dev Cert.KernelModsIdeal.nD,
          r.2.mem ((c.tc : Thread Cert.KernelModsIdeal.nD Cert.KernelModsIdeal.τ).loc Cert.KernelModsIdeal.main_v6) = v0 c
          ∧ r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
          ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1)
          ∧ r.2.mem ((c.tc : Thread Cert.KernelModsIdeal.nD Cert.KernelModsIdeal.τ).loc Cert.KernelModsIdeal.main_arg2) = m ((c.tc : Thread Cert.KernelModsIdeal.nD Cert.KernelModsIdeal.τ).loc Cert.KernelModsIdeal.main_arg2)
          ∧ r.2.mem ((c.tc : Thread Cert.KernelModsIdeal.nD Cert.KernelModsIdeal.τ).loc Cert.KernelModsIdeal.main_arg3) = m ((c.tc : Thread Cert.KernelModsIdeal.nD Cert.KernelModsIdeal.τ).loc Cert.KernelModsIdeal.main_arg3))
      ∧ θ_run (Cert.ReferenceModsIdeal.defs (F := Ideal)) (onTc (τ := Cert.ReferenceModsIdeal.τ) (Cert.ReferenceModsIdeal.main (F := Ideal))) ⟨m', fun _ => 0, g'⟩ (fun r => ∀ c : Dev Cert.ReferenceModsIdeal.nD,
          r.2.mem ((c.tc : Thread Cert.ReferenceModsIdeal.nD Cert.ReferenceModsIdeal.τ).loc Cert.ReferenceModsIdeal.main_v8) = v0 c
          ∧ r.2.mem ((c.tc : Thread Cert.ReferenceModsIdeal.nD Cert.ReferenceModsIdeal.τ).loc Cert.ReferenceModsIdeal.main_arg0) = m' ((c.tc : Thread Cert.ReferenceModsIdeal.nD Cert.ReferenceModsIdeal.τ).loc Cert.ReferenceModsIdeal.main_arg0)
          ∧ r.2.mem ((c.tc : Thread Cert.ReferenceModsIdeal.nD Cert.ReferenceModsIdeal.τ).loc Cert.ReferenceModsIdeal.main_arg1) = m' ((c.tc : Thread Cert.ReferenceModsIdeal.nD Cert.ReferenceModsIdeal.τ).loc Cert.ReferenceModsIdeal.main_arg1)
          ∧ r.2.mem ((c.tc : Thread Cert.ReferenceModsIdeal.nD Cert.ReferenceModsIdeal.τ).loc Cert.ReferenceModsIdeal.main_arg2) = m' ((c.tc : Thread Cert.ReferenceModsIdeal.nD Cert.ReferenceModsIdeal.τ).loc Cert.ReferenceModsIdeal.main_arg2)
          ∧ r.2.mem ((c.tc : Thread Cert.ReferenceModsIdeal.nD Cert.ReferenceModsIdeal.τ).loc Cert.ReferenceModsIdeal.main_arg3) = m' ((c.tc : Thread Cert.ReferenceModsIdeal.nD Cert.ReferenceModsIdeal.τ).loc Cert.ReferenceModsIdeal.main_arg3))

def Claim : Prop :=
  ∃ (hKernel : Cert.Kernel.Facts) (hKernelIdeal : Cert.KernelIdeal.Facts) (hReferenceIdeal : Cert.ReferenceIdeal.Facts) (hKernelLast : Cert.KernelLast.Facts) (hKernelLastIdeal : Cert.KernelLastIdeal.Facts) (hReferenceLastIdeal : Cert.ReferenceLastIdeal.Facts) (hKernelEven : Cert.KernelEven.Facts) (hKernelEvenIdeal : Cert.KernelEvenIdeal.Facts) (hReferenceEvenIdeal : Cert.ReferenceEvenIdeal.Facts) (hKernelMix : Cert.KernelMix.Facts) (hKernelMixIdeal : Cert.KernelMixIdeal.Facts) (hReferenceMixIdeal : Cert.ReferenceMixIdeal.Facts) (hKernelOdd : Cert.KernelOdd.Facts) (hKernelOddIdeal : Cert.KernelOddIdeal.Facts) (hReferenceOddIdeal : Cert.ReferenceOddIdeal.Facts) (hKernelQkv : Cert.KernelQkv.Facts) (hKernelQkvIdeal : Cert.KernelQkvIdeal.Facts) (hReferenceQkvIdeal : Cert.ReferenceQkvIdeal.Facts) (hKernelMods : Cert.KernelMods.Facts) (hKernelModsIdeal : Cert.KernelModsIdeal.Facts) (hReferenceModsIdeal : Cert.ReferenceModsIdeal.Facts) (hPre_finite_scores : Cert.Pre_finite_scores.Facts) (hPre_finite_tokens : Cert.Pre_finite_tokens.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelEven (hKernelEven := hKernelEven)
    ∧ quiescent_KernelEvenIdeal (hKernelEvenIdeal := hKernelEvenIdeal)
    ∧ quiescent_ReferenceEvenIdeal (hReferenceEvenIdeal := hReferenceEvenIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelOdd (hKernelOdd := hKernelOdd)
    ∧ quiescent_KernelOddIdeal (hKernelOddIdeal := hKernelOddIdeal)
    ∧ quiescent_ReferenceOddIdeal (hReferenceOddIdeal := hReferenceOddIdeal)
    ∧ quiescent_KernelQkv (hKernelQkv := hKernelQkv)
    ∧ quiescent_KernelQkvIdeal (hKernelQkvIdeal := hKernelQkvIdeal)
    ∧ quiescent_KernelQkvIdeal_pre_finite_tokens (hKernelQkvIdeal := hKernelQkvIdeal) (hPre_finite_tokens := hPre_finite_tokens)
    ∧ quiescent_ReferenceQkvIdeal (hReferenceQkvIdeal := hReferenceQkvIdeal)
    ∧ quiescent_ReferenceQkvIdeal_pre_finite_tokens (hReferenceQkvIdeal := hReferenceQkvIdeal) (hPre_finite_tokens := hPre_finite_tokens)
    ∧ quiescent_KernelMods (hKernelMods := hKernelMods)
    ∧ quiescent_KernelModsIdeal (hKernelModsIdeal := hKernelModsIdeal)
    ∧ quiescent_ReferenceModsIdeal (hReferenceModsIdeal := hReferenceModsIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelLast_KernelLastIdeal
    ∧ algebraic_KernelLastIdeal_ReferenceLastIdeal (hKernelLastIdeal := hKernelLastIdeal) (hReferenceLastIdeal := hReferenceLastIdeal)
    ∧ preserves_KernelEven_KernelEvenIdeal
    ∧ algebraic_KernelEvenIdeal_ReferenceEvenIdeal (hKernelEvenIdeal := hKernelEvenIdeal) (hReferenceEvenIdeal := hReferenceEvenIdeal)
    ∧ preserves_KernelMix_KernelMixIdeal
    ∧ algebraic_KernelMixIdeal_ReferenceMixIdeal (hKernelMixIdeal := hKernelMixIdeal) (hReferenceMixIdeal := hReferenceMixIdeal)
    ∧ preserves_KernelOdd_KernelOddIdeal
    ∧ algebraic_KernelOddIdeal_ReferenceOddIdeal (hKernelOddIdeal := hKernelOddIdeal) (hReferenceOddIdeal := hReferenceOddIdeal)
    ∧ preserves_KernelQkv_KernelQkvIdeal
    ∧ algebraic_KernelQkvIdeal_ReferenceQkvIdeal_pre_finite_tokens (hKernelQkvIdeal := hKernelQkvIdeal) (hReferenceQkvIdeal := hReferenceQkvIdeal) (hPre_finite_tokens := hPre_finite_tokens)
    ∧ preserves_KernelMods_KernelModsIdeal
    ∧ algebraic_KernelModsIdeal_ReferenceModsIdeal (hKernelModsIdeal := hKernelModsIdeal) (hReferenceModsIdeal := hReferenceModsIdeal)
-- ==== Pre_finite_scores.lean ====
abbrev S16x2048x1024 : Shape := ⟨3, ![16, 2048, 1024]⟩
abbrev S16x256x256 : Shape := ⟨3, ![16, 256, 256]⟩
abbrev S16x2048x256 : Shape := ⟨3, ![16, 2048, 256]⟩
abbrev S_ : Shape := ⟨0, ![]⟩

class Facts : Prop where
  bcast_S_S16x2048x1024 : S_.BroadcastsInDim S16x2048x1024 (![] : Fin 0 → Fin S16x2048x1024.rank)
  bcast_S_S16x256x256 : S_.BroadcastsInDim S16x256x256 (![] : Fin 0 → Fin S16x256x256.rank)
  bcast_S_S16x2048x256 : S_.BroadcastsInDim S16x2048x256 (![] : Fin 0 → Fin S16x2048x256.rank)

variable [Facts]

def fn {F : FTy → Type} [FloatOps F] (main_arg0 : FVec F S16x2048x1024 .f32) (main_arg1 : FVec F S16x256x256 .f32) (main_arg2 : FVec F S16x2048x256 .f32) (main_arg3 : FVec F S16x256x256 .f32) (main_arg4 : FVec F S16x2048x256 .f32) : IVec S16x2048x1024 1 × IVec S16x256x256 1 × IVec S16x2048x256 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x256x256 .f32 := Host.absf main_arg1
  let main_cst_0 : FVec F S_ .f32 := constant S_ .f32 0x7F800000#32
  let main_v4 : FVec F S16x256x256 .f32 := broadcastInDim S16x256x256 ![] bcast_S_S16x256x256 main_cst_0
  let main_v5 : IVec S16x256x256 1 := cmpf .olt main_v3 main_v4
  let main_v6 : FVec F S16x2048x256 .f32 := Host.absf main_arg2
  let main_cst_1 : FVec F S_ .f32 := constant S_ .f32 0x7F800000#32
  let main_v7 : FVec F S16x2048x256 .f32 := broadcastInDim S16x2048x256 ![] bcast_S_S16x2048x256 main_cst_1
  let main_v8 : IVec S16x2048x256 1 := cmpf .olt main_v6 main_v7
  (main_v2, main_v5, main_v8)
-- ==== Pre_finite_tokens.lean ====
abbrev S16x2048x1024 : Shape := ⟨3, ![16, 2048, 1024]⟩
abbrev S16x6144 : Shape := ⟨2, ![16, 6144]⟩
abbrev S4x1024 : Shape := ⟨2, ![4, 1024]⟩
abbrev S2x1024x1536 : Shape := ⟨3, ![2, 1024, 1536]⟩
abbrev S2x128 : Shape := ⟨2, ![2, 128]⟩
abbrev S2048x64 : Shape := ⟨2, ![2048, 64]⟩
abbrev S_ : Shape := ⟨0, ![]⟩

class Facts : Prop where
  bcast_S_S16x2048x1024 : S_.BroadcastsInDim S16x2048x1024 (![] : Fin 0 → Fin S16x2048x1024.rank)
  bcast_S_S16x6144 : S_.BroadcastsInDim S16x6144 (![] : Fin 0 → Fin S16x6144.rank)
  bcast_S_S4x1024 : S_.BroadcastsInDim S4x1024 (![] : Fin 0 → Fin S4x1024.rank)
  bcast_S_S2x1024x1536 : S_.BroadcastsInDim S2x1024x1536 (![] : Fin 0 → Fin S2x1024x1536.rank)

variable [Facts]

def fn {F : FTy → Type} [FloatOps F] (main_arg0 : FVec F S16x2048x1024 .f32) (main_arg1 : FVec F S16x6144 .f32) (main_arg2 : FVec F S4x1024 .f32) (main_arg3 : FVec F S2x1024x1536 .f32) (main_arg4 : FVec F S2x128 .f32) (main_arg5 : FVec F S2x128 .f32) (main_arg6 : FVec F S2048x64 .f32) (main_arg7 : FVec F S2048x64 .f32) : IVec S16x2048x1024 1 × IVec S16x6144 1 × IVec S4x1024 1 × IVec S2x1024x1536 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x6144 .f32 := Host.absf main_arg1
  let main_cst_0 : FVec F S_ .f32 := constant S_ .f32 0x7F800000#32
  let main_v4 : FVec F S16x6144 .f32 := broadcastInDim S16x6144 ![] bcast_S_S16x6144 main_cst_0
  let main_v5 : IVec S16x6144 1 := cmpf .olt main_v3 main_v4
  let main_v6 : FVec F S4x1024 .f32 := Host.absf main_arg2
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S2x1024x1536 .f32 := Host.absf main_arg3
  let main_cst_2 : FVec F S_ .f32 := constant S_ .f32 0x7F800000#32
  let main_v10 : FVec F S2x1024x1536 .f32 := broadcastInDim S2x1024x1536 ![] bcast_S_S2x1024x1536 main_cst_2
  let main_v11 : IVec S2x1024x1536 1 := cmpf .olt main_v9 main_v10
  (main_v2, main_v5, main_v8, main_v11)
-- ==== Kernel.lean ====
abbrev S16x2048x1024 : Shape := ⟨3, ![16, 2048, 1024]⟩
abbrev S16x256x256 : Shape := ⟨3, ![16, 256, 256]⟩
abbrev S16x2048x256 : Shape := ⟨3, ![16, 2048, 256]⟩
abbrev S_ : Shape := ⟨0, ![]⟩
abbrev S16x256x2x128 : Shape := ⟨4, ![16, 256, 2, 128]⟩
abbrev S16x256x2x256 : Shape := ⟨4, ![16, 256, 2, 256]⟩
abbrev S16x256x512 : Shape := ⟨3, ![16, 256, 512]⟩
abbrev S16x2048x2x128 : Shape := ⟨4, ![16, 2048, 2, 128]⟩
abbrev S16x2048x2x256 : Shape := ⟨4, ![16, 2048, 2, 256]⟩
abbrev S16x2048x512 : Shape := ⟨3, ![16, 2048, 512]⟩
abbrev S1x1024x512 : Shape := ⟨3, ![1, 1024, 512]⟩
abbrev S1x256x128 : Shape := ⟨3, ![1, 256, 128]⟩
abbrev S1x2048x128 : Shape := ⟨3, ![1, 2048, 128]⟩
abbrev S1x256x256 : Shape := ⟨3, ![1, 256, 256]⟩
abbrev S1x2048x256 : Shape := ⟨3, ![1, 2048, 256]⟩
abbrev S1x1024x128 : Shape := ⟨3, ![1, 1024, 128]⟩
abbrev S1024x128 : Shape := ⟨2, ![1024, 128]⟩
abbrev S256x128 : Shape := ⟨2, ![256, 128]⟩
abbrev S1024x256 : Shape := ⟨2, ![1024, 256]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S256x256 : Shape := ⟨2, ![256, 256]⟩
abbrev S2048x256 : Shape := ⟨2, ![2048, 256]⟩

abbrev nBuf : Space → Nat
  | .hbm => 24
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x256x256, .f32⟩
  | .hbm, ⟨2, _⟩ => ⟨S16x2048x256, .f32⟩
  | .hbm, ⟨3, _⟩ => ⟨S16x256x256, .f32⟩
  | .hbm, ⟨4, _⟩ => ⟨S16x2048x256, .f32⟩
  | .hbm, ⟨5, _⟩ => ⟨S_, .f32⟩
  | .hbm, ⟨6, _⟩ => ⟨S16x2048x1024, .f32⟩
  | .hbm, ⟨7, _⟩ => ⟨S16x2048x1024, .f32⟩
  | .hbm, ⟨8, _⟩ => ⟨S16x2048x1024, .bf16⟩
  | .hbm, ⟨9, _⟩ => ⟨S16x256x256, .bf16⟩
  | .hbm, ⟨10, _⟩ => ⟨S16x2048x256, .bf16⟩
  | .hbm, ⟨11, _⟩ => ⟨S16x256x256, .bf16⟩
  | .hbm, ⟨12, _⟩ => ⟨S16x256x2x128, .bf16⟩
  | .hbm, ⟨13, _⟩ => ⟨S_, .bf16⟩
  | .hbm, ⟨14, _⟩ => ⟨S16x256x2x128, .bf16⟩
  | .hbm, ⟨15, _⟩ => ⟨S16x256x2x256, .bf16⟩
  | .hbm, ⟨16, _⟩ => ⟨S16x256x512, .bf16⟩
  | .hbm, ⟨17, _⟩ => ⟨S16x2048x256, .bf16⟩
  | .hbm, ⟨18, _⟩ => ⟨S16x2048x2x128, .bf16⟩
  | .hbm, ⟨19, _⟩ => ⟨S_, .bf16⟩
  | .hbm, ⟨20, _⟩ => ⟨S16x2048x2x128, .bf16⟩
  | .hbm, ⟨21, _⟩ => ⟨S16x2048x2x256, .bf16⟩
  | .hbm, ⟨22, _⟩ => ⟨S16x2048x512, .bf16⟩
  | .hbm, ⟨23, _⟩ => ⟨S16x2048x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x256, .bf16⟩
  | .local _ .vmem, ⟨7, _⟩ => ⟨S1x256x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1024x512, .bf16⟩
  | .local _ .vmem, ⟨11, _⟩ => ⟨S1x1024x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x2048x1024 : Shape := ⟨3, ![16, 2048, 1024]⟩
abbrev S16x256x256 : Shape := ⟨3, ![16, 256, 256]⟩
abbrev S16x2048x256 : Shape := ⟨3, ![16, 2048, 256]⟩
abbrev S16x2048x2x4x128 : Shape := ⟨5, ![16, 2048, 2, 4, 128]⟩
abbrev S16x2304x256 : Shape := ⟨3, ![16, 2304, 256]⟩
abbrev S16x2304x2x128 : Shape := ⟨4, ![16, 2304, 2, 128]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x256, .f32⟩
  | .hbm, ⟨2, _⟩ => ⟨S16x2048x256, .f32⟩
  | .hbm, ⟨3, _⟩ => ⟨S16x256x256, .f32⟩
  | .hbm, ⟨4, _⟩ => ⟨S16x2048x256, .f32⟩
  | .hbm, ⟨5, _⟩ => ⟨S16x2048x2x4x128, .f32⟩
  | .hbm, ⟨6, _⟩ => ⟨S16x2304x256, .f32⟩
  | .hbm, ⟨7, _⟩ => ⟨S16x2304x2x128, .f32⟩
  | .hbm, ⟨8, _⟩ => ⟨S16x2304x256, .f32⟩
  | .hbm, ⟨9, _⟩ => ⟨S16x2304x2x128, .f32⟩
  | .hbm, ⟨10, _⟩ => ⟨S16x2x2304x2048x4, .f32⟩
  | .hbm, ⟨11, _⟩ => ⟨S16x2x4x2048x2304, .f32⟩
  | .hbm, ⟨12, _⟩ => ⟨S_, .f32⟩
  | .hbm, ⟨13, _⟩ => ⟨S16x2x4x2048x2304, .f32⟩
  | .hbm, ⟨14, _⟩ => ⟨S16x2x4x2048x2304, .f32⟩
  | .hbm, ⟨15, _⟩ => ⟨S_, .f32⟩
  | .hbm, ⟨16, _⟩ => ⟨S16x2x4x2048, .f32⟩
  | .hbm, ⟨17, _⟩ => ⟨S_, .f32⟩
  | .hbm, ⟨18, _⟩ => ⟨S16x2x4x2048, .f32⟩
  | .hbm, ⟨19, _⟩ => ⟨S16x2x4x2048, .f32⟩
  | .hbm, ⟨20, _⟩ => ⟨S16x2x4x2048x1, .f32⟩
  | .hbm, ⟨21, _⟩ => ⟨S16x2x4x2048x2304, .f32⟩
  | .hbm, ⟨22, _⟩ => ⟨S16x2x4x2048x2304, .f32⟩
  | .hbm, ⟨23, _⟩ => ⟨S16x2x4x2048x2304, .f32⟩
  | .hbm, ⟨24, _⟩ => ⟨S_, .f32⟩
  | .hbm, ⟨25, _⟩ => ⟨S16x2x4x2048, .f32⟩
  | .hbm, ⟨26, _⟩ => ⟨S16x2x4x2048x1, .f32⟩
  | .hbm, ⟨27, _⟩ => ⟨S16x2x4x2048x2304, .f32⟩
  | .hbm, ⟨28, _⟩ => ⟨S16x2x4x2048x2304, .f32⟩
  | .hbm, ⟨29, _⟩ => ⟨S16x2x128x4x2048, .f32⟩
  | .hbm, ⟨30, _⟩ => ⟨S16x2048x2x4x128, .f32⟩
  | .hbm, ⟨31, _⟩ => ⟨S16x2048x1024, .f32⟩
  | .hbm, ⟨32, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelLast.lean ====
abbrev S16x2048x1024 : Shape := ⟨3, ![16, 2048, 1024]⟩
abbrev S16x6144 : Shape := ⟨2, ![16, 6144]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S24x6144 : Shape := ⟨2, ![24, 6144]⟩
abbrev S24x1x6144 : Shape := ⟨3, ![24, 1, 6144]⟩
abbrev S1x512x1024 : Shape := ⟨3, ![1, 512, 1024]⟩
abbrev S1x1x1024 : Shape := ⟨3, ![1, 1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 20
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S4x1024x5632, .bf16⟩
  | .hbm, ⟨9, _⟩ => ⟨S4x2816x1024, .bf16⟩
  | .hbm, ⟨10, _⟩ => ⟨S2x1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S24x6144, .f32⟩
  | .hbm, ⟨17, _⟩ => ⟨S24x1x6144, .f32⟩
  | .hbm, ⟨18, _⟩ => ⟨S1x1024, .f32⟩
  | .hbm, ⟨19, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x5632, .bf16⟩
  | .local _ .vmem, ⟨15, _⟩ => ⟨S1x2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceLastIdeal.lean ====
abbrev S16x2048x1024 : Shape := ⟨3, ![16, 2048, 1024]⟩
abbrev S16x6144 : Shape := ⟨2, ![16, 6144]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S16x1x6144 : Shape := ⟨3, ![16, 1, 6144]⟩
abbrev S16x1x1024 : Shape := ⟨3, ![16, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 84
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x2048x1024, .f32⟩
  | .hbm, ⟨16, _⟩ => ⟨S1x1024x1024, .f32⟩
  | .hbm, ⟨17, _⟩ => ⟨S1024x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S1x1024, .f32⟩
  | .hbm, ⟨23, _⟩ => ⟨S1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1x1024x5632, .f32⟩
  | .hbm, ⟨48, _⟩ => ⟨S1024x5632, .f32⟩
  | .hbm, ⟨49, _⟩ => ⟨S1x2816x1024, .f32⟩
  | .hbm, ⟨50, _⟩ => ⟨S2816x1024, .f32⟩
  | .hbm, ⟨51, _⟩ => ⟨S16x2048x5632, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S_, .f32⟩
  | .hbm, ⟨57, _⟩ => ⟨S16x2048x2816, .f32⟩
  | .hbm, ⟨58, _⟩ => ⟨S16x2048x2816, .f32⟩
  | .hbm, ⟨59, _⟩ => ⟨S_, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1, .f32⟩
  | .hbm, ⟨79, _⟩ => ⟨S16x2048x1024, .f32⟩
  | .hbm, ⟨80, _⟩ => ⟨S16x2048x1024, .f32⟩
  | .hbm, ⟨81, _⟩ => ⟨S1x1x1024, .f32⟩
  | .hbm, ⟨82, _⟩ => ⟨S16x2048x1024, .f32⟩
  | .hbm, ⟨83, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== KernelEven.lean ====
abbrev S16x2048x1024 : Shape := ⟨3, ![16, 2048, 1024]⟩
abbrev S16x6144 : Shape := ⟨2, ![16, 6144]⟩
abbrev S4x1024 : Shape := ⟨2, ![4, 1024]⟩
abbrev S2x1024x5120 : Shape := ⟨3, ![2, 1024, 5120]⟩
abbrev S2x1024 : Shape := ⟨2, ![2, 1024]⟩
abbrev S2x8x128x128 : Shape := ⟨4, ![2, 8, 128, 128]⟩
abbrev S2x8x128 : Shape := ⟨3, ![2, 8, 128]⟩
abbrev S1x1024 : Shape := ⟨2, ![1, 1024]⟩
abbrev S1024 : Shape := ⟨1, ![1024]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S_ : Shape := ⟨0, ![]⟩
abbrev S24x6144 : Shape := ⟨2, ![24, 6144]⟩
abbrev S24x1x6144 : Shape := ⟨3, ![24, 1, 6144]⟩
abbrev S16x2048x3072 : Shape := ⟨3, ![16, 2048, 3072]⟩
abbrev S1x512x1024 : Shape := ⟨3, ![1, 512, 1024]⟩
abbrev S1x1x1024 : Shape := ⟨3, ![1, 1, 1024]⟩
abbrev S1x1024x5120 : Shape := ⟨3, ![1, 1024, 5120]⟩
abbrev S1x8x128x128 : Shape := ⟨4, ![1, 8, 128, 128]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x3072 : Shape := ⟨3, ![1, 1024, 3072]⟩
abbrev S1024x3072 : Shape := ⟨2, ![1024, 3072]⟩
abbrev S512x3072 : Shape := ⟨2, ![512, 3072]⟩
abbrev S128x128 : Shape := ⟨2, ![128, 128]⟩
abbrev S128x512 : Shape := ⟨2, ![128, 512]⟩
abbrev S1x1x128x128 : Shape := ⟨4, ![1, 1, 128, 128]⟩
abbrev S1x128x128 : Shape := ⟨3, ![1, 128, 128]⟩

abbrev nBuf : Space → Nat
  | .hbm => 30
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S4x1024, .f32⟩
  | .hbm, ⟨3, _⟩ => ⟨S2x1024x5120, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x1024x5120, .bf16⟩
  | .hbm, ⟨9, _⟩ => ⟨S2x8x128x128, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x8x128, .f32⟩
  | .hbm, ⟨14, _⟩ => ⟨S8x128, .f32⟩
  | .hbm, ⟨15, _⟩ => ⟨S128x8, .f32⟩
  | .hbm, ⟨16, _⟩ => ⟨S128x8x128, .f32⟩
  | .hbm, ⟨17, _⟩ => ⟨S128x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S24x6144, .f32⟩
  | .hbm, ⟨27, _⟩ => ⟨S24x1x6144, .f32⟩
  | .hbm, ⟨28, _⟩ => ⟨S16x2048x1024, .bf16⟩
  | .hbm, ⟨29, _⟩ => ⟨S16x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x5120, .bf16⟩
  | .local _ .vmem, ⟨8, _⟩ => ⟨S1x1024, .f32⟩
  | .local _ .vmem, ⟨9, _⟩ => ⟨S1x1024, .f32⟩
  | .local _ .vmem, ⟨10, _⟩ => ⟨S1x8x128x128, .bf16⟩
  | .local _ .vmem, ⟨11, _⟩ => ⟨S128x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x3072, .f32⟩
  | .local _ .vmem, ⟨15, _⟩ => ⟨S1x512x3072, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceEvenIdeal.lean ====
abbrev S16x2048x1024 : Shape := ⟨3, ![16, 2048, 1024]⟩
abbrev S16x6144 : Shape := ⟨2, ![16, 6144]⟩
abbrev S4x1024 : Shape := ⟨2, ![4, 1024]⟩
abbrev S2x1024x5120 : Shape := ⟨3, ![2, 1024, 5120]⟩
abbrev S2x1024 : Shape := ⟨2, ![2, 1024]⟩
abbrev S2x8x128x128 : Shape := ⟨4, ![2, 8, 128, 128]⟩
abbrev S2x8x128 : Shape := ⟨3, ![2, 8, 128]⟩
abbrev S16x1x6144 : Shape := ⟨3, ![16, 1, 6144]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5120 : Shape := ⟨3, ![1, 1024, 5120]⟩
abbrev S1024x5120 : Shape := ⟨2, ![1024, 5120]⟩
abbrev S16x2048x5120 : Shape := ⟨3, ![16, 2048, 5120]⟩
abbrev S16x2048x2048 : Shape := ⟨3, ![16, 2048, 2048]⟩
abbrev S16x16x128x8x128 : Shape := ⟨5, ![16, 16, 128, 8, 128]⟩
abbrev S1x8x128x128 : Shape := ⟨4, ![1, 8, 128, 128]⟩
abbrev S8x128x128 : Shape := ⟨3, ![8, 128, 128]⟩
abbrev S8x16x16x128x128 : Shape := ⟨5, ![8, 16, 16, 128, 128]⟩
abbrev S1x8x128 : Shape := ⟨3, ![1, 8, 128]⟩
abbrev S8x128 : Shape := ⟨2, ![8, 128]⟩
abbrev S128x8 : Shape := ⟨2, ![128, 8]⟩
abbrev S1x1x128x8x1 : Shape := ⟨5, ![1, 1, 128, 8, 1]⟩
abbrev S16x2048x3072 : Shape := ⟨3, ![16, 2048, 3072]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S4x1024, .f32⟩
  | .hbm, ⟨3, _⟩ => ⟨S2x1024x5120, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S1x1024, .f32⟩
  | .hbm, ⟨16, _⟩ => ⟨S1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S1x1024x5120, .f32⟩
  | .hbm, ⟨41, _⟩ => ⟨S1024x5120, .f32⟩
  | .hbm, ⟨42, _⟩ => ⟨S16x2048x5120, .f32⟩
  | .hbm, ⟨43, _⟩ => ⟨S16x2048x2048, .f32⟩
  | .hbm, ⟨44, _⟩ => ⟨S_, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S16x2048x1024, .f32⟩
  | .hbm, ⟨54, _⟩ => ⟨S16x2048x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S_, .f32⟩
  | .hbm, ⟨60, _⟩ => ⟨S16x2048, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S16x16x128x8x128, .f32⟩
  | .hbm, ⟨89, _⟩ => ⟨S1x8x128x128, .f32⟩
  | .hbm, ⟨90, _⟩ => ⟨S8x128x128, .f32⟩
  | .hbm, ⟨91, _⟩ => ⟨S8x16x16x128x128, .f32⟩
  | .hbm, ⟨92, _⟩ => ⟨S16x16x128x8x128, .f32⟩
  | .hbm, ⟨93, _⟩ => ⟨S1x8x128, .f32⟩
  | .hbm, ⟨94, _⟩ => ⟨S8x128, .f32⟩
  | .hbm, ⟨95, _⟩ => ⟨S128x8, .f32⟩
  | .hbm, ⟨96, _⟩ => ⟨S1x1x128x8x1, .f32⟩
  | .hbm, ⟨97, _⟩ => ⟨S16x16x128x8x128, .f32⟩
  | .hbm, ⟨98, _⟩ => ⟨S16x16x128x8x128, .f32⟩
  | .hbm, ⟨99, _⟩ => ⟨S16x2048x1024, .f32⟩
  | .hbm, ⟨100, _⟩ => ⟨S16x2048x1024, .f32⟩
  | .hbm, ⟨101, _⟩ => ⟨S16x2048x1024, .bf16⟩
  | .hbm, ⟨102, _⟩ => ⟨S16x2048x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩

abbrev nD : Nat := 1
abbrev τ : Topo := Topo.v7x

variable {F : FTy → Type} [FloatOps F]
-- ==== KernelMix.lean ====
abbrev S16x2048x1024 : Shape := ⟨3, ![16, 2048, 1024]⟩
abbrev S16x6144 : Shape := ⟨2, ![16, 6144]⟩
abbrev S2x2048x1024 : Shape := ⟨3, ![2, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S24x6144 : Shape := ⟨2, ![24, 6144]⟩
abbrev S24x1x6144 : Shape := ⟨3, ![24, 1, 6144]⟩
abbrev S1x512x1024 : Shape := ⟨3, ![1, 512, 1024]⟩
abbrev S1x1x1024 : Shape := ⟨3, ![1, 1, 1024]⟩
abbrev S1x2048x1024 : Shape := ⟨3, ![1, 2048, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 19
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S16x2048x1024, .bf16⟩
  | .hbm, ⟨4, _⟩ => ⟨S2x2048x1024, .f32⟩
  | .hbm, ⟨5, _⟩ => ⟨S4x1024, .f32⟩
  | .hbm, ⟨6, _⟩ => ⟨S4x1024x5632, .f32⟩
  | .hbm, ⟨7, _⟩ => ⟨S4x2816x1024, .f32⟩
  | .hbm, ⟨8, _⟩ => ⟨S4x1024x5632, .bf16⟩
  | .hbm, ⟨9, _⟩ => ⟨S4x2816x1024, .bf16⟩
  | .hbm, ⟨10, _⟩ => ⟨S2x2048x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S24x6144, .f32⟩
  | .hbm, ⟨17, _⟩ => ⟨S24x1x6144, .f32⟩
  | .hbm, ⟨18, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x5632, .bf16⟩
  | .local _ .vmem, ⟨17, _⟩ => ⟨S1x2816x1024, .bf16⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceMixIdeal.lean ====
abbrev S16x2048x1024 : Shape := ⟨3, ![16, 2048, 1024]⟩
abbrev S16x6144 : Shape := ⟨2, ![16, 6144]⟩
abbrev S2x2048x1024 : Shape := ⟨3, ![2, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16x1x6144 : Shape := ⟨3, ![16, 1, 6144]⟩
abbrev S16x1x1024 : Shape := ⟨3, ![16, 1, 1024]⟩
abbrev S16x2048x2048 : Shape := ⟨3, ![16, 2048, 2048]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S16x2048x1024, .bf16⟩
  | .hbm, ⟨4, _⟩ => ⟨S2x2048x1024, .f32⟩
  | .hbm, ⟨5, _⟩ => ⟨S4x1024, .f32⟩
  | .hbm, ⟨6, _⟩ => ⟨S4x1024x5632, .f32⟩
  | .hbm, ⟨7, _⟩ => ⟨S4x2816x1024, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x2048x1024, .f32⟩
  | .hbm, ⟨16, _⟩ => ⟨S16x2048x1024, .f32⟩
  | .hbm, ⟨17, _⟩ => ⟨S16x2048x2048, .f32⟩
  | .hbm, ⟨18, _⟩ => ⟨S1x2048x1024, .f32⟩
  | .hbm, ⟨19, _⟩ => ⟨S2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S1x1024, .f32⟩
  | .hbm, ⟨25, _⟩ => ⟨S1024, .f32⟩
  | .hbm, ⟨26, _⟩ => ⟨S16x2048x1024, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S1x1x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x1x1024, .f32⟩
  | .hbm, ⟨44, _⟩ => ⟨S16x1x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S1x1024x5632, .f32⟩
  | .hbm, ⟨50, _⟩ => ⟨S1024x5632, .f32⟩
  | .hbm, ⟨51, _⟩ => ⟨S1x2816x1024, .f32⟩
  | .hbm, ⟨52, _⟩ => ⟨S2816x1024, .f32⟩
  | .hbm, ⟨53, _⟩ => ⟨S16x2048x5632, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== KernelOdd.lean ====
abbrev S16x2048x1024 : Shape := ⟨3, ![16, 2048, 1024]⟩
abbrev S16x6144 : Shape := ⟨2, ![16, 6144]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S24x6144 : Shape := ⟨2, ![24, 6144]⟩
abbrev S24x1x6144 : Shape := ⟨3, ![24, 1, 6144]⟩
abbrev S1x512x1024 : Shape := ⟨3, ![1, 512, 1024]⟩
abbrev S1x1x1024 : Shape := ⟨3, ![1, 1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S4x1024x5632, .bf16⟩
  | .hbm, ⟨8, _⟩ => ⟨S4x2816x1024, .bf16⟩
  | .hbm, ⟨9, _⟩ => ⟨S2x1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S_, .i32⟩
  | .hbm, ⟨14, _⟩ => ⟨S_, .f32⟩
  | .hbm, ⟨15, _⟩ => ⟨S24x6144, .f32⟩
  | .hbm, ⟨16, _⟩ => ⟨S24x1x6144, .f32⟩
  | .hbm, ⟨17, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x5632, .bf16⟩
  | .local _ .vmem, ⟨15, _⟩ => ⟨S1x2816x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOddIdeal.lean ====
abbrev S16x2048x1024 : Shape := ⟨3, ![16, 2048, 1024]⟩
abbrev S16x6144 : Shape := ⟨2, ![16, 6144]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16x1x6144 : Shape := ⟨3, ![16, 1, 6144]⟩
abbrev S16x1x1024 : Shape := ⟨3, ![16, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S16x2048x1024, .bf16⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S16x1x6144, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x2048x1024, .f32⟩
  | .hbm, ⟨15, _⟩ => ⟨S1x1024x1024, .f32⟩
  | .hbm, ⟨16, _⟩ => ⟨S1024x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S1x1024, .f32⟩
  | .hbm, ⟨22, _⟩ => ⟨S1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S1x1024x5632, .f32⟩
  | .hbm, ⟨47, _⟩ => ⟨S1024x5632, .f32⟩
  | .hbm, ⟨48, _⟩ => ⟨S1x2816x1024, .f32⟩
  | .hbm, ⟨49, _⟩ => ⟨S2816x1024, .f32⟩
  | .hbm, ⟨50, _⟩ => ⟨S16x2048x5632, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== KernelQkv.lean ====
abbrev S16x2048x1024 : Shape := ⟨3, ![16, 2048, 1024]⟩
abbrev S16x6144 : Shape := ⟨2, ![16, 6144]⟩
abbrev S4x1024 : Shape := ⟨2, ![4, 1024]⟩
abbrev S2x1024x1536 : Shape := ⟨3, ![2, 1024, 1536]⟩
abbrev S2x128 : Shape := ⟨2, ![2, 128]⟩
abbrev S2048x64 : Shape := ⟨2, ![2048, 64]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S2048x128 : Shape := ⟨2, ![2048, 128]⟩
abbrev S_ : Shape := ⟨0, ![]⟩
abbrev S24x6144 : Shape := ⟨2, ![24, 6144]⟩
abbrev S24x1x6144 : Shape := ⟨3, ![24, 1, 6144]⟩
abbrev S16x2048x256 : Shape := ⟨3, ![16, 2048, 256]⟩
abbrev S16x2048x512 : Shape := ⟨3, ![16, 2048, 512]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x128 : Shape := ⟨2, ![1024, 128]⟩
abbrev S1x1024x256 : Shape := ⟨3, ![1, 1024, 256]⟩
abbrev S1x1024x512 : Shape := ⟨3, ![1, 1024, 512]⟩
abbrev S1024x1024 : Shape := ⟨2, ![1024, 1024]⟩
abbrev S1024x1 : Shape := ⟨2, ![1024, 1]⟩
abbrev S1024x1536 : Shape := ⟨2, ![1024, 1536]⟩
abbrev S128x128 : Shape := ⟨2, ![128, 128]⟩
abbrev S1x1024x128 : Shape := ⟨3, ![1, 1024, 128]⟩

abbrev nBuf : Space → Nat
  | .hbm => 28
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S4x1024, .f32⟩
  | .hbm, ⟨3, _⟩ => ⟨S2x1024x1536, .f32⟩
  | .hbm, ⟨4, _⟩ => ⟨S2x128, .f32⟩
  | .hbm, ⟨5, _⟩ => ⟨S2x128, .f32⟩
  | .hbm, ⟨6, _⟩ => ⟨S2048x64, .f32⟩
  | .hbm, ⟨7, _⟩ => ⟨S2048x64, .f32⟩
  | .hbm, ⟨8, _⟩ => ⟨S2x1024x1536, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S_, .i32⟩
  | .hbm, ⟨22, _⟩ => ⟨S_, .f32⟩
  | .hbm, ⟨23, _⟩ => ⟨S24x6144, .f32⟩
  | .hbm, ⟨24, _⟩ => ⟨S24x1x6144, .f32⟩
  | .hbm, ⟨25, _⟩ => ⟨S16x2048x1024, .bf16⟩
  | .hbm, ⟨26, _⟩ => ⟨S16x2048x256, .bf16⟩
  | .hbm, ⟨27, _⟩ => ⟨S16x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1536, .bf16⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x512, .bf16⟩
  | .local _ .vmem, ⟨19, _⟩ => ⟨S1x1024x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceQkvIdeal.lean ====
abbrev S16x2048x1024 : Shape := ⟨3, ![16, 2048, 1024]⟩
abbrev S16x6144 : Shape := ⟨2, ![16, 6144]⟩
abbrev S4x1024 : Shape := ⟨2, ![4, 1024]⟩
abbrev S2x1024x1536 : Shape := ⟨3, ![2, 1024, 1536]⟩
abbrev S2x128 : Shape := ⟨2, ![2, 128]⟩
abbrev S2048x64 : Shape := ⟨2, ![2048, 64]⟩
abbrev S16x1x6144 : Shape := ⟨3, ![16, 1, 6144]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1536 : Shape := ⟨3, ![1, 1024, 1536]⟩
abbrev S1024x1536 : Shape := ⟨2, ![1024, 1536]⟩
abbrev S16x2048x1536 : Shape := ⟨3, ![16, 2048, 1536]⟩
abbrev S16x2048x8x128 : Shape := ⟨4, ![16, 2048, 8, 128]⟩
abbrev S1x128 : Shape := ⟨2, ![1, 128]⟩
abbrev S128 : Shape := ⟨1, ![128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x256 : Shape := ⟨3, ![16, 2048, 256]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S2048x1x64 : Shape := ⟨3, ![2048, 1, 64]⟩
abbrev S16x2048x8x64 : Shape := ⟨4, ![16, 2048, 8, 64]⟩
abbrev S1x2048x1x64 : Shape := ⟨4, ![1, 2048, 1, 64]⟩
abbrev S16x2048x2x64 : Shape := ⟨4, ![16, 2048, 2, 64]⟩
abbrev S16x2048x2x256 : Shape := ⟨4, ![16, 2048, 2, 256]⟩
abbrev S16x2048x512 : Shape := ⟨3, ![16, 2048, 512]⟩

abbrev nBuf : Space → Nat
  | .hbm => 135
  | .vmem => 0
  | .smem => 0
  | _ => 0

abbrev hbmTy0_0 (i : Nat) : BufTy := match i % 128 with
  | 0 => ⟨S16x2048x1024, .f32⟩
  | 1 => ⟨S16x6144, .f32⟩
  | 2 => ⟨S4x1024, .f32⟩
  | 3 => ⟨S2x1024x1536, .f32⟩
  | 4 => ⟨S2x128, .f32⟩
  | 5 => ⟨S2x128, .f32⟩
  | 6 => ⟨S2048x64, .f32⟩
  | 7 => ⟨S2048x64, .f32⟩
  | 8 => ⟨S16x1x6144, .f32⟩
  | 9 => ⟨S16x1x1024, .f32⟩
  | 10 => ⟨S16x1x1024, .f32⟩
  | 11 => ⟨S16x1x1024, .f32⟩
  | 12 => ⟨S16x1x1024, .f32⟩
  | 13 => ⟨S16x1x1024, .f32⟩
  | 14 => ⟨S16x1x1024, .f32⟩
  | 15 => ⟨S1x1024, .f32⟩
  | 16 => ⟨S1024, .f32⟩
  | 17 => ⟨S16x2048x1024, .f32⟩
  | 18 => ⟨S_, .f32⟩
  | 19 => ⟨S16x2048, .f32⟩
  | 20 => ⟨S16x2048x1, .f32⟩
  | 21 => ⟨S_, .f32⟩
  | 22 => ⟨S16x2048x1, .f32⟩
  | 23 => ⟨S16x2048x1, .f32⟩
  | 24 => ⟨S_, .f32⟩
  | 25 => ⟨S16x2048x1, .f32⟩
  | 26 => ⟨S16x2048x1, .f32⟩
  | 27 => ⟨S16x2048x1, .f32⟩
  | 28 => ⟨S16x2048x1024, .f32⟩
  | 29 => ⟨S16x2048x1024, .f32⟩
  | 30 => ⟨S1x1x1024, .f32⟩
  | 31 => ⟨S16x2048x1024, .f32⟩
  | 32 => ⟨S16x2048x1024, .f32⟩
  | 33 => ⟨S_, .f32⟩
  | 34 => ⟨S16x1x1024, .f32⟩
  | 35 => ⟨S16x1x1024, .f32⟩
  | 36 => ⟨S16x2048x1024, .f32⟩
  | 37 => ⟨S16x2048x1024, .f32⟩
  | 38 => ⟨S16x2048x1024, .f32⟩
  | 39 => ⟨S16x2048x1024, .f32⟩
  | 40 => ⟨S1x1024x1536, .f32⟩
  | 41 => ⟨S1024x1536, .f32⟩
  | 42 => ⟨S16x2048x1536, .f32⟩
  | 43 => ⟨S16x2048x1024, .f32⟩
  | 44 => ⟨S16x2048x8x128, .f32⟩
  | 45 => ⟨S1x128, .f32⟩
  | 46 => ⟨S128, .f32⟩
  | 47 => ⟨S16x2048x8x128, .f32⟩
  | 48 => ⟨S_, .f32⟩
  | 49 => ⟨S16x2048x8, .f32⟩
  | 50 => ⟨S16x2048x8x1, .f32⟩
  | 51 => ⟨S_, .f32⟩
  | 52 => ⟨S16x2048x8x1, .f32⟩
  | 53 => ⟨S16x2048x8x1, .f32⟩
  | 54 => ⟨S_, .f32⟩
  | 55 => ⟨S16x2048x8x1, .f32⟩
  | 56 => ⟨S16x2048x8x1, .f32⟩
  | 57 => ⟨S16x2048x8x1, .f32⟩
  | 58 => ⟨S16x2048x8x128, .f32⟩
  | 59 => ⟨S16x2048x8x128, .f32⟩
  | 60 => ⟨S1x1x1x128, .f32⟩
  | 61 => ⟨S16x2048x8x128, .f32⟩
  | 62 => ⟨S16x2048x8x128, .f32⟩
  | 63 => ⟨S16x2048x256, .f32⟩
  | 64 => ⟨S16x2048x2x128, .f32⟩
  | 65 => ⟨S1x128, .f32⟩
  | 66 => ⟨S128, .f32⟩
  | 67 => ⟨S16x2048x2x128, .f32⟩
  | 68 => ⟨S_, .f32⟩
  | 69 => ⟨S16x2048x2, .f32⟩
  | 70 => ⟨S16x2048x2x1, .f32⟩
  | 71 => ⟨S_, .f32⟩
  | 72 => ⟨S16x2048x2x1, .f32⟩
  | 73 => ⟨S16x2048x2x1, .f32⟩
  | 74 => ⟨S_, .f32⟩
  | 75 => ⟨S16x2048x2x1, .f32⟩
  | 76 => ⟨S16x2048x2x1, .f32⟩
  | 77 => ⟨S16x2048x2x1, .f32⟩
  | 78 => ⟨S16x2048x2x128, .f32⟩
  | 79 => ⟨S16x2048x2x128, .f32⟩
  | 80 => ⟨S1x1x1x128, .f32⟩
  | 81 => ⟨S16x2048x2x128, .f32⟩
  | 82 => ⟨S16x2048x2x128, .f32⟩
  | 83 => ⟨S16x2048x256, .f32⟩
  | 84 => ⟨S16x2048x2x128, .f32⟩
  | 85 => ⟨S2048x1x64, .f32⟩
  | 86 => ⟨S2048x1x64, .f32⟩
  | 87 => ⟨S16x2048x8x64, .f32⟩
  | 88 => ⟨S16x2048x8x64, .f32⟩
  | 89 => ⟨S1x2048x1x64, .f32⟩
  | 90 => ⟨S16x2048x8x64, .f32⟩
  | 91 => ⟨S16x2048x8x64, .f32⟩
  | 92 => ⟨S1x2048x1x64, .f32⟩
  | 93 => ⟨S16x2048x8x64, .f32⟩
  | 94 => ⟨S16x2048x8x64, .f32⟩
  | 95 => ⟨S16x2048x8x64, .f32⟩
  | 96 => ⟨S1x2048x1x64, .f32⟩
  | 97 => ⟨S16x2048x8x64, .f32⟩
  | 98 => ⟨S16x2048x8x64, .f32⟩
  | 99 => ⟨S1x2048x1x64, .f32⟩
  | 100 => ⟨S16x2048x8x64, .f32⟩
  | 101 => ⟨S16x2048x8x64, .f32⟩
  | 102 => ⟨S16x2048x8x64, .f32⟩
  | 103 => ⟨S16x2048x8x128, .f32⟩
  | 104 => ⟨S2048x1x64, .f32⟩
  | 105 => ⟨S2048x1x64, .f32⟩
  | 106 => ⟨S16x2048x2x64, .f32⟩
  | 107 => ⟨S16x2048x2x64, .f32⟩
  | 108 => ⟨S1x2048x1x64, .f32⟩
  | 109 => ⟨S16x2048x2x64, .f32⟩
  | 110 => ⟨S16x2048x2x64, .f32⟩
  | 111 => ⟨S1x2048x1x64, .f32⟩
  | 112 => ⟨S16x2048x2x64, .f32⟩
  | 113 => ⟨S16x2048x2x64, .f32⟩
  | 114 => ⟨S16x2048x2x64, .f32⟩
  | 115 => ⟨S1x2048x1x64, .f32⟩
  | 116 => ⟨S16x2048x2x64, .f32⟩
  | 117 => ⟨S16x2048x2x64, .f32⟩
  | 118 => ⟨S1x2048x1x64, .f32⟩
  | 119 => ⟨S16x2048x2x64, .f32⟩
  | 120 => ⟨S16x2048x2x64, .f32⟩
  | 121 => ⟨S16x2048x2x64, .f32⟩
  | 122 => ⟨S16x2048x2x128, .f32⟩
  | 123 => ⟨S_, .f32⟩
  | 124 => ⟨S16x2048x2x128, .f32⟩
  | 125 => ⟨S16x2048x2x256, .f32⟩
  | 126 => ⟨S_, .f32⟩
  | 127 => ⟨S16x2048x8x128, .f32⟩
  | _ => ⟨S16x2048x1024, .f32⟩

abbrev hbmTy0_1 (i : Nat) : BufTy := match i % 128 with
  | 0 => ⟨S16x2048x8x128, .f32⟩
  | 1 => ⟨S16x2048x1024, .f32⟩
  | 2 => ⟨S16x2048x1024, .bf16⟩
  | 3 => ⟨S16x2048x256, .f32⟩
  | 4 => ⟨S16x2048x256, .bf16⟩
  | 5 => ⟨S16x2048x512, .f32⟩
  | 6 => ⟨S16x2048x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_9 : Ref sig .tc := ⟨.hbm, 123, rfl⟩
abbrev main_v105 : Ref sig .tc := ⟨.hbm, 124, rfl⟩
abbrev main_v106 : Ref sig .tc := ⟨.hbm, 125, rfl⟩
abbrev main_cst_10 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩

abbrev nD : Nat := 1
abbrev τ : Topo := Topo.v7x

variable {F : FTy → Type} [FloatOps F]
-- ==== KernelMods.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S4x1x6144, .f32⟩
  | .hbm, ⟨13, _⟩ => ⟨S4x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModsIdeal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S24x4x6144 : Shape := ⟨3, ![24, 4, 6144]⟩
abbrev S4x24x6144 : Shape := ⟨3, ![4, 24, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S24x4x6144, .f32⟩
  | .hbm, ⟨18, _⟩ => ⟨S4x24x6144, .f32⟩
  | .hbm, ⟨19, _⟩ => ⟨S4x1x6144, .f32⟩
  | .hbm, ⟨20, _⟩ => ⟨S4x24x6144, .f32⟩
  | .hbm, ⟨21, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Softmax.lean ====
module

public import Idealize.ShloMosaic.Lib.Pointwise

@[expose] public section

set_option maxRecDepth 16384

noncomputable section

namespace Cert.Softmax

open Idealize.ShloMosaic

/-- The score of one key against one query: their dot product. -/
abbrev dot (k q : Fin 128 → EReal) : EReal := ∑ x, q x * k x

/-- The starting value of every running maximum (minus infinity). -/
abbrev low : EReal := Ideal.ofBits FTy.f32 4286578688#32

/-- The scale of the scores, `128 ^ (-1/2)` as the programs hold it. -/
abbrev scale : EReal := Ideal.ofBits FTy.f32 1035273459#32

/-- The largest score of a query over the two segments of keys. -/
abbrev top (q : Fin 128 → EReal) (kc : Fin 256 → Fin 128 → EReal) (kl : Fin 2048 → Fin 128 → EReal) : EReal :=
  max (Finset.fold max low (fun s => dot (kc s) q) Finset.univ) (Finset.fold max low (fun s => dot (kl s) q) Finset.univ)

/-- One element of the kernel's result: the weighted sum of the values over the two segments, divided by the
    sum of the weights, both from unnormalised weights. `wc` and `wl` are the columns of ones. -/
def krow (q : Fin 128 → EReal) (kc : Fin 256 → Fin 128 → EReal) (kl : Fin 2048 → Fin 128 → EReal)
    (vc wc : Fin 256 → EReal) (vl wl : Fin 2048 → EReal) : EReal :=
  Ideal.div
    ((∑ s, Ideal.exp (dot (kc s) q - top q kc kl) * vc s) + ∑ s, Ideal.exp (dot (kl s) q - top q kc kl) * vl s)
    ((∑ s, Ideal.exp (dot (kc s) q - top q kc kl) * wc s) + ∑ s, Ideal.exp (dot (kl s) q - top q kc kl) * wl s)

/-- The score of one key against one query as the reference writes it. -/
abbrev rdot (k q : Fin 128 → EReal) : EReal := (∑ x, k x * q x) * scale

/-- The largest score of a query over all keys, the two segments laid end to end. -/
abbrev rtop (q : Fin 128 → EReal) (kc : Fin 256 → Fin 128 → EReal) (kl : Fin 2048 → Fin 128 → EReal) : EReal :=
  max low (Finset.fold max low (fun s : Fin 2304 => (∑ x, (if h : s.val < 256 then kc ⟨s.val, h⟩ x
    else kl ⟨s.val - 256, by omega⟩ x) * q x) * scale) Finset.univ)

/-- One element of the reference's result: the values averaged by the softmax of the scores. -/
def rrow (q : Fin 128 → EReal) (kc : Fin 256 → Fin 128 → EReal) (kl : Fin 2048 → Fin 128 → EReal)
    (vc : Fin 256 → EReal) (vl : Fin 2048 → EReal) : EReal :=
  (∑ s, vc s * Ideal.div (Ideal.exp (rdot (kc s) q - rtop q kc kl))
      ((∑ s, Ideal.exp (rdot (kc s) q - rtop q kc kl)) + ∑ s, Ideal.exp (rdot (kl s) q - rtop q kc kl)))
  + ∑ s, vl s * Ideal.div (Ideal.exp (rdot (kl s) q - rtop q kc kl))
      ((∑ s, Ideal.exp (rdot (kc s) q - rtop q kc kl)) + ∑ s, Ideal.exp (rdot (kl s) q - rtop q kc kl))

/-- The reference's element from the exponentials of all keys, the two segments laid end to end. -/
theorem rrow_eq (q : Fin 128 → EReal) (kc : Fin 256 → Fin 128 → EReal) (kl : Fin 2048 → Fin 128 → EReal)
    (vc : Fin 256 → EReal) (vl : Fin 2048 → EReal) (e : Fin 2304 → EReal)
    (hc : ∀ s : Fin 256, e ⟨s.val, by omega⟩ = Ideal.exp (rdot (kc s) q - rtop q kc kl))
    (hl : ∀ s : Fin 2048, e ⟨256 + s.val, by omega⟩ = Ideal.exp (rdot (kl s) q - rtop q kc kl)) :
    (∑ s : Fin 256, vc s * Ideal.div (e ⟨s.val, by omega⟩) (∑ s, e s))
      + ∑ s : Fin 2048, vl s * Ideal.div (e ⟨256 + s.val, by omega⟩) (∑ s, e s) = rrow q kc kl vc vl := by
  rw [Fin.sum_univ_two_halves 256 2048 rfl e]
  simp only [hc, hl]
  rfl

/-- The starting value of the maxima is the least extended real. -/
theorem low_eq : low = ⊥ := by
  simp [low, Ideal.ofBits, Ideal.ieee]

/-- The scale is a real number. -/
theorem scale_real : ∃ r : ℝ, scale = (r : EReal) := by
  show ∃ r : ℝ, Ideal.ieee 8 23 1035273459#32 = (r : EReal)
  unfold Ideal.ieee
  rw [if_neg (by decide), if_neg (by decide)]
  exact ⟨_, rfl⟩

/-- A sum of real numbers is a real number. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Multiplying by a nonnegative real number distributes over any sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, EReal.right_distrib_of_nonneg_of_ne_top
      (by exact_mod_cast hc) (EReal.coe_ne_top c)]

/-- The maximum over the keys laid end to end is the larger of the two segments' maxima. -/
theorem fold_two (f : Fin 2304 → EReal) (a : Fin 256 → EReal) (b : Fin 2048 → EReal)
    (ha : ∀ s : Fin 256, f ⟨s.val, by omega⟩ = a s) (hb : ∀ s : Fin 2048, f ⟨s.val + 256, by omega⟩ = b s) :
    max low (Finset.fold max low f Finset.univ)
      = max (Finset.fold max low a Finset.univ) (Finset.fold max low b Finset.univ) := by
  rw [low_eq, max_eq_right bot_le]
  apply le_antisymm
  · rw [Finset.fold_max_le]
    refine ⟨bot_le, fun s _ => ?_⟩
    by_cases h : s.val < 256
    · refine le_max_of_le_left ?_
      rw [Finset.le_fold_max]
      exact Or.inr ⟨⟨s.val, h⟩, Finset.mem_univ _, le_of_eq (ha ⟨s.val, h⟩)⟩
    · refine le_max_of_le_right ?_
      rw [Finset.le_fold_max]
      refine Or.inr ⟨⟨s.val - 256, by omega⟩, Finset.mem_univ _, le_of_eq ?_⟩
      rw [← hb]
      congr 1
      ext
      simp only
      omega
  · refine max_le ?_ ?_
    · rw [Finset.fold_max_le]
      refine ⟨bot_le, fun s _ => ?_⟩
      rw [Finset.le_fold_max, ← ha s]
      exact Or.inr ⟨_, Finset.mem_univ _, le_rfl⟩
    · rw [Finset.fold_max_le]
      refine ⟨bot_le, fun s _ => ?_⟩
      rw [Finset.le_fold_max, ← hb s]
      exact Or.inr ⟨_, Finset.mem_univ _, le_rfl⟩

/-- A maximum of finitely many (and at least one) real numbers is a real number. -/
theorem fold_real {n : ℕ} (f : Fin (n + 1) → EReal) (hf : ∀ s, ∃ r : ℝ, f s = (r : EReal)) :
    ∃ r : ℝ, Finset.fold max low f Finset.univ = (r : EReal) := by
  have h1 : Finset.fold max low f Finset.univ ≠ ⊤ := by
    refine ne_of_lt ?_
    rw [Finset.fold_max_lt, low_eq]
    refine ⟨bot_lt_top, fun s _ => ?_⟩
    obtain ⟨r, hr⟩ := hf s
    rw [hr]
    exact EReal.coe_lt_top r
  have h2 : Finset.fold max low f Finset.univ ≠ ⊥ := by
    refine ne_of_gt ?_
    rw [Finset.lt_fold_max]
    obtain ⟨r, hr⟩ := hf 0
    exact Or.inr ⟨0, Finset.mem_univ _, by rw [hr]; exact EReal.bot_lt_coe r⟩
  exact ⟨_, (EReal.coe_toReal h1 h2).symm⟩

/-- On real numbers, scaling the query before the dot product scales the score. -/
theorem dot_scaled (k q : Fin 128 → ℝ) :
    dot (fun x => (k x : EReal)) (fun x => (q x : EReal) * scale) = rdot (fun x => (k x : EReal)) (fun x => (q x : EReal))
      ∧ ∃ r : ℝ, rdot (fun x => (k x : EReal)) (fun x => (q x : EReal)) = (r : EReal) := by
  obtain ⟨c, hc⟩ := scale_real
  have h : rdot (fun x => (k x : EReal)) (fun x => (q x : EReal)) = (((∑ x, k x * q x) * c : ℝ) : EReal) := by
    unfold rdot
    rw [hc, EReal.coe_mul, ← coe_sum]
    simp only [EReal.coe_mul]
  refine ⟨?_, _, h⟩
  rw [h, Finset.sum_mul, ← coe_sum, hc]
  refine Finset.sum_congr rfl fun x _ => ?_
  simp only [← EReal.coe_mul]
  congr 1
  ring

/-- The unnormalised weights divided by their sum at the end, or normalised one by one before the weighted sum:
    the same average, whenever the weights are positive real numbers. -/
theorem average {m n : ℕ} (a : Fin (m + 1) → ℝ) (b : Fin n → ℝ) (u : Fin (m + 1) → EReal) (v : Fin n → EReal)
    (ha : ∀ s, 0 < a s) (hb : ∀ s, 0 < b s) :
    Ideal.div ((∑ s, (a s : EReal) * u s) + ∑ s, (b s : EReal) * v s)
        ((∑ s, (a s : EReal) * 1) + ∑ s, (b s : EReal) * 1)
      = (∑ s, u s * Ideal.div (a s : EReal) ((∑ s, (a s : EReal)) + ∑ s, (b s : EReal)))
        + ∑ s, v s * Ideal.div (b s : EReal) ((∑ s, (a s : EReal)) + ∑ s, (b s : EReal)) := by
  simp only [mul_one]
  rw [coe_sum, coe_sum, ← EReal.coe_add]
  have hp : 0 < (∑ s, a s) + ∑ s, b s :=
    add_pos_of_pos_of_nonneg (Finset.sum_pos (fun s _ => ha s) Finset.univ_nonempty) (Finset.sum_nonneg fun s _ => (hb s).le)
  have hi : 0 ≤ 1 / ((∑ s, a s) + ∑ s, b s) := by positivity
  simp only [Ideal.div_coe hp.ne']
  rw [EReal.right_distrib_of_nonneg_of_ne_top (by exact_mod_cast hi) (EReal.coe_ne_top _),
    sum_mul_real _ _ _ hi, sum_mul_real _ _ _ hi]
  congr 1 <;> refine Finset.sum_congr rfl fun s _ => ?_
  · rw [mul_comm (a s : EReal), mul_assoc]
  · rw [mul_comm (b s : EReal), mul_assoc]

/-- The kernel's element over a scaled query and columns of ones is the reference's element, on real queries and keys. -/
theorem krow_eq (q : Fin 128 → ℝ) (kc : Fin 256 → Fin 128 → ℝ) (kl : Fin 2048 → Fin 128 → ℝ)
    (vc : Fin 256 → EReal) (vl : Fin 2048 → EReal) :
    krow (fun x => (q x : EReal) * scale) (fun s x => (kc s x : EReal)) (fun s x => (kl s x : EReal))
        vc (fun _ => 1) vl (fun _ => 1)
      = rrow (fun x => (q x : EReal)) (fun s x => (kc s x : EReal)) (fun s x => (kl s x : EReal)) vc vl := by
  have htop : top (fun x => (q x : EReal) * scale) (fun s x => (kc s x : EReal)) (fun s x => (kl s x : EReal))
      = rtop (fun x => (q x : EReal)) (fun s x => (kc s x : EReal)) (fun s x => (kl s x : EReal)) := by
    refine (fold_two _ _ _ (fun s => ?_) (fun s => ?_)).symm
    · rw [(dot_scaled (kc s) q).1]
      simp only [s.isLt, dif_pos]
    · rw [(dot_scaled (kl s) q).1]
      simp only [show ¬ (s.val + 256 < 256) by omega, dif_neg, not_false_eq_true, Nat.add_sub_cancel, Fin.eta]
  have hM : ∃ M : ℝ, top (fun x => (q x : EReal) * scale) (fun s x => (kc s x : EReal)) (fun s x => (kl s x : EReal)) = (M : EReal) := by
    obtain ⟨x, hx⟩ := fold_real (n := 255) (fun s => dot (fun x => (kc s x : EReal)) (fun x => (q x : EReal) * scale))
      (fun s => by rw [(dot_scaled (kc s) q).1]; exact (dot_scaled (kc s) q).2)
    obtain ⟨y, hy⟩ := fold_real (n := 2047) (fun s => dot (fun x => (kl s x : EReal)) (fun x => (q x : EReal) * scale))
      (fun s => by rw [(dot_scaled (kl s) q).1]; exact (dot_scaled (kl s) q).2)
    refine ⟨max x y, ?_⟩
    unfold top
    rw [hx, hy]
    exact (EReal.coe_strictMono.monotone.map_max).symm
  obtain ⟨M, hM⟩ := hM
  have hc : ∀ k : Fin 128 → ℝ, ∃ r : ℝ, 0 < r ∧
      Ideal.exp (rdot (fun x => (k x : EReal)) (fun x => (q x : EReal)) - (M : EReal)) = (r : EReal) := by
    intro k
    obtain ⟨r, hr⟩ := (dot_scaled k q).2
    exact ⟨Real.exp (r - M), Real.exp_pos _, by rw [hr, ← EReal.coe_sub]; rfl⟩
  choose e he0 he using hc
  unfold krow rrow
  rw [← htop, hM]
  simp only [fun k => (dot_scaled k q).1, he]
  exact average (m := 255) (fun s => e (kc s)) (fun s => e (kl s)) vc vl (fun s => he0 _) (fun s => he0 _)

/-- The same element by element: a query read scaled, keys and values read as they are, columns read as one. -/
theorem krow_eq_rrow {q Q : Fin 128 → EReal} {kc Kc : Fin 256 → Fin 128 → EReal} {kl Kl : Fin 2048 → Fin 128 → EReal}
    {vc Vc Wc : Fin 256 → EReal} {vl Vl Wl : Fin 2048 → EReal} (hQ : ∀ x, Q x = q x * scale)
    (hKc : ∀ s x, Kc s x = kc s x) (hKl : ∀ s x, Kl s x = kl s x) (hVc : ∀ s, Vc s = vc s) (hVl : ∀ s, Vl s = vl s)
    (hWc : ∀ s, Wc s = 1) (hWl : ∀ s, Wl s = 1) (hq : ∀ x, ∃ r : ℝ, q x = (r : EReal))
    (hkc : ∀ s x, ∃ r : ℝ, kc s x = (r : EReal)) (hkl : ∀ s x, ∃ r : ℝ, kl s x = (r : EReal)) :
    krow Q Kc Kl Vc Wc Vl Wl = rrow q kc kl vc vl := by
  choose q0 hq0 using hq
  choose c0 hc0 using hkc
  choose l0 hl0 using hkl
  obtain rfl : Kc = kc := funext fun s => funext fun x => hKc s x
  obtain rfl : Kl = kl := funext fun s => funext fun x => hKl s x
  obtain rfl : Vc = vc := funext hVc
  obtain rfl : Vl = vl := funext hVl
  obtain rfl : Wc = fun _ => 1 := funext hWc
  obtain rfl : Wl = fun _ => 1 := funext hWl
  obtain rfl : Kc = fun s x => (c0 s x : EReal) := funext fun s => funext fun x => hc0 s x
  obtain rfl : Kl = fun s x => (l0 s x : EReal) := funext fun s => funext fun x => hl0 s x
  obtain rfl : q = fun x => (q0 x : EReal) := funext hq0
  obtain rfl : Q = fun x => (q0 x : EReal) * scale := funext hQ
  exact krow_eq q0 c0 l0 Vc Vl

/-- The attention of the latent stream, element by element: batch row `i 0`, token `i 1`, and in lane `i 2` the key
    and value head `i 2 / 512`, the query head `i 2 / 128`, the head's lane `i 2 % 128`. -/
def attn (Q : FVec Ideal ⟨3, ![16, 2048, 1024]⟩ .f32) (Kc : FVec Ideal ⟨3, ![16, 256, 256]⟩ .f32)
    (Kl : FVec Ideal ⟨3, ![16, 2048, 256]⟩ .f32) (Vc : FVec Ideal ⟨3, ![16, 256, 256]⟩ .f32)
    (Vl : FVec Ideal ⟨3, ![16, 2048, 256]⟩ .f32) (b : Fin 16) (t : Fin 2048) (j : Fin 1024) : EReal :=
  rrow (fun x => Q (ix3 b t ⟨j.val / 512 * 512 + j.val / 128 % 4 * 128 + x.val, by omega⟩))
    (fun s x => Kc (ix3 b s ⟨j.val / 512 * 128 + x.val, by omega⟩))
    (fun s x => Kl (ix3 b s ⟨j.val / 512 * 128 + x.val, by omega⟩))
    (fun s => Vc (ix3 b s ⟨j.val / 512 * 128 + j.val % 128, by omega⟩))
    (fun s => Vl (ix3 b s ⟨j.val / 512 * 128 + j.val % 128, by omega⟩))

end Cert.Softmax

end
-- ==== Proof.AttnKer.lean ====
module

public import proofs.«01_k».proof.Proof.Gen.KernelIdeal.Value
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

namespace Cert.AttnKer

open Idealize.ShloMosaic Idealize.ShloMosaic.TcCoe Idealize.SL.Sem
open Idealize.ShloMosaic.Pipeline (Dat)
open Cert.KernelIdeal Cert.KernelIdeal.Gen Cert.Softmax

/-- What the attention's body leaves at row `t`, lane `e` of its output block. -/
theorem out_at (x0 : FVec Ideal S1x1024x512 .bf16) (x1 : FVec Ideal S1x256x128 .bf16) (x2 : FVec Ideal S1x2048x128 .bf16)
    (x3 : FVec Ideal S1x256x256 .bf16) (x4 : FVec Ideal S1x2048x256 .bf16) (y : S1x1024x512.Idx) :
    out0_5 (F := Ideal) x0 x1 x2 x3 x4 y = krow
      (fun d => x0 (ix3 0 (y 1) ⟨(y 2).val / 128 * 128 + d.val, by have := (y 2).isLt; have h2 : S1x1024x512.size 2 = 512 := rfl; omega⟩))
      (fun s d => x1 (ix3 0 s d)) (fun s d => x2 (ix3 0 s d))
      (fun s => x3 (ix3 0 s ⟨(y 2).val % 128, by omega⟩)) (fun s => x3 (ix3 0 s ⟨128 + (y 2).val % 128, by omega⟩))
      (fun s => x4 (ix3 0 s ⟨(y 2).val % 128, by omega⟩)) (fun s => x4 (ix3 0 s ⟨128 + (y 2).val % 128, by omega⟩)) := by
  unfold_out out0_5
  canon_tiles x h
  all_goals
    pointwise [k0_pay1, k0_pay26, k0_pay20, k0_pay21, k0_pay19, k0_pay25, k0_pay13, k0_pay14, k0_pay12, k0_pay22,
      k0_pay23, k0_pay24, k0_pay18, k0_pay5, k0_pay6, k0_pay7, k0_pay15, k0_pay16, k0_pay17, k0_pay11, k0_pay2,
      k0_pay3, k0_pay4, k0_pay8, k0_pay9, k0_pay10]
    dsimp only [krow, dot, top, low]
    blk_point []

variable (m : (ℓ : Loc nD τ sig) → Buf (Elt Ideal) ℓ)

/-- The block every window is at, point by point: batch row `t / 4`, key and value head `t / 2 % 2`, half `t % 2` of the queries. -/
theorem idx : ∀ t : Fin cfg0.N, win0_0.index t = ![t.val / 4, t.val % 2, t.val / 2 % 2]
    ∧ win0_1.index t = ![t.val / 4, 0, t.val / 2 % 2] ∧ win0_2.index t = ![t.val / 4, 0, t.val / 2 % 2]
    ∧ win0_3.index t = ![t.val / 4, 0, t.val / 2 % 2] ∧ win0_4.index t = ![t.val / 4, 0, t.val / 2 % 2]
    ∧ win0_5.index t = ![t.val / 4, t.val % 2, t.val / 2 % 2] :=
  (by decide +kernel : ∀ t : Fin grid0.N, _)

/-- The query block read at row `y 1`: the scaled query of the array. -/
theorem blk_q (c : Dev nD) (t : Fin cfg0.N) (i : Fin 1024) (e : Fin 512) (b : Fin 16) (r : Fin 2048) (d : Fin 1024)
    (hb : b.val = t.val / 4) (hr : r.val = t.val % 2 * 1024 + i.val) (hd : d.val = t.val / 2 % 2 * 512 + e.val) :
    (show FVec Ideal S1x1024x512 .bf16 from iblk m c 0 t) (ix3 0 i e)
      = (show FVec Ideal S16x2048x1024 .f32 from m ((c : Thread nD τ).loc main_arg0)) (ix3 b r d) * scale := by
  have hi := idx t
  show iblk m c 0 t (ix3 0 i e) = _
  blk_simp [iblk]
  entry_read
  pointwise
  blk_point [hi]

/-- The block of the context's keys read at a position. -/
theorem blk_kc (c : Dev nD) (t : Fin cfg0.N) (s : Fin 256) (d : Fin 128) (b : Fin 16) (e : Fin 256) (hb : b.val = t.val / 4)
    (he : e.val = t.val / 2 % 2 * 128 + d.val) :
    (show FVec Ideal S1x256x128 .bf16 from iblk m c 1 t) (ix3 0 s d)
      = (show FVec Ideal S16x256x256 .f32 from m ((c : Thread nD τ).loc main_arg1)) (ix3 b s e) := by
  have hi := idx t
  show iblk m c 1 t (ix3 0 s d) = _
  blk_simp [iblk]
  entry_read
  pointwise
  blk_point [hi]

/-- The block of the latents' keys read at a position. -/
theorem blk_kl (c : Dev nD) (t : Fin cfg0.N) (s : Fin 2048) (d : Fin 128) (b : Fin 16) (e : Fin 256) (hb : b.val = t.val / 4)
    (he : e.val = t.val / 2 % 2 * 128 + d.val) :
    (show FVec Ideal S1x2048x128 .bf16 from iblk m c 2 t) (ix3 0 s d)
      = (show FVec Ideal S16x2048x256 .f32 from m ((c : Thread nD τ).loc main_arg2)) (ix3 b s e) := by
  have hi := idx t
  show iblk m c 2 t (ix3 0 s d) = _
  blk_simp [iblk]
  entry_read
  pointwise
  blk_point [hi]

/-- The context's values as the call takes them, per head its lanes and then as many ones, read at a lane of the values. -/
theorem val_c (c : Dev nD) (j : S16x256x512.Idx) (hj : (j 2).val % 256 < 128) (b : Fin 16) (s e : Fin 256) (hb : b.val = (j 0).val)
    (hs : s.val = (j 1).val) (he : e.val = (j 2).val / 256 * 128 + (j 2).val % 256) :
    V m c main_v9 j = (show FVec Ideal S16x256x256 .f32 from m ((c : Thread nD τ).loc main_arg3)) (ix3 b s e) := by
  entry_read
  pointwise
  rw [dif_pos hj]
  blk_ext

/-- The same read at a lane of the ones. -/
theorem one_c (c : Dev nD) (j : S16x256x512.Idx) (hj : ¬ (j 2).val % 256 < 128) : V m c main_v9 j = (1 : EReal) := by
  entry_read
  pointwise
  rw [dif_neg hj]

/-- The block of the context's values read at a lane of the values. -/
theorem blk_vc (c : Dev nD) (t : Fin cfg0.N) (s : Fin 256) (d e : Fin 256) (b : Fin 16) (hb : b.val = t.val / 4)
    (hd : d.val < 128) (he : e.val = t.val / 2 % 2 * 128 + d.val) :
    (show FVec Ideal S1x256x256 .bf16 from iblk m c 3 t) (ix3 0 s d)
      = (show FVec Ideal S16x256x256 .f32 from m ((c : Thread nD τ).loc main_arg3)) (ix3 b s e) := by
  have hi := idx t
  show iblk m c 3 t (ix3 0 s d) = _
  blk_simp [iblk]
  refine val_c m c _ ?_ b s e ?_ ?_ ?_
  all_goals
    blk_simp [hi]
    try omega

/-- The block of the context's values read at a lane of the ones. -/
theorem blk_wc (c : Dev nD) (t : Fin cfg0.N) (s : Fin 256) (d : Fin 256) (hd : 128 ≤ d.val) :
    (show FVec Ideal S1x256x256 .bf16 from iblk m c 3 t) (ix3 0 s d) = (1 : EReal) := by
  have hi := idx t
  show iblk m c 3 t (ix3 0 s d) = _
  blk_simp [iblk]
  refine one_c m c _ ?_
  blk_simp [hi]
  omega

/-- The latents' values as the call takes them, per head its lanes and then as many ones, read at a lane of the values. -/
theorem val_l (c : Dev nD) (j : S16x2048x512.Idx) (hj : (j 2).val % 256 < 128) (b : Fin 16) (s : Fin 2048) (e : Fin 256) (hb : b.val = (j 0).val)
    (hs : s.val = (j 1).val) (he : e.val = (j 2).val / 256 * 128 + (j 2).val % 256) :
    V m c main_v14 j = (show FVec Ideal S16x2048x256 .f32 from m ((c : Thread nD τ).loc main_arg4)) (ix3 b s e) := by
  entry_read
  pointwise
  rw [dif_pos hj]
  blk_ext

/-- The same read at a lane of the ones. -/
theorem one_l (c : Dev nD) (j : S16x2048x512.Idx) (hj : ¬ (j 2).val % 256 < 128) : V m c main_v14 j = (1 : EReal) := by
  entry_read
  pointwise
  rw [dif_neg hj]

/-- The block of the latents' values read at a lane of the values. -/
theorem blk_vl (c : Dev nD) (t : Fin cfg0.N) (s : Fin 2048) (d e : Fin 256) (b : Fin 16) (hb : b.val = t.val / 4)
    (hd : d.val < 128) (he : e.val = t.val / 2 % 2 * 128 + d.val) :
    (show FVec Ideal S1x2048x256 .bf16 from iblk m c 4 t) (ix3 0 s d)
      = (show FVec Ideal S16x2048x256 .f32 from m ((c : Thread nD τ).loc main_arg4)) (ix3 b s e) := by
  have hi := idx t
  show iblk m c 4 t (ix3 0 s d) = _
  blk_simp [iblk]
  refine val_l m c _ ?_ b s e ?_ ?_ ?_
  all_goals
    blk_simp [hi]
    try omega

/-- The block of the latents' values read at a lane of the ones. -/
theorem blk_wl (c : Dev nD) (t : Fin cfg0.N) (s : Fin 2048) (d : Fin 256) (hd : 128 ≤ d.val) :
    (show FVec Ideal S1x2048x256 .bf16 from iblk m c 4 t) (ix3 0 s d) = (1 : EReal) := by
  have hi := idx t
  show iblk m c 4 t (ix3 0 s d) = _
  blk_simp [iblk]
  refine one_l m c _ ?_
  blk_simp [hi]
  omega

/-- What a grid point leaves in its output block is the attention at the array position the block element sits at. -/
theorem point (c : Dev nD) (t : Fin cfg0.N) (y : S1x1024x512.Idx) (b : Fin 16) (r : Fin 2048) (j : Fin 1024)
    (hb : b.val = t.val / 4) (hr : r.val = t.val % 2 * 1024 + (y 1).val) (hj : j.val = t.val / 2 % 2 * 512 + (y 2).val)
    (hq : ∀ i, ∃ x : ℝ, (show FVec Ideal S16x2048x1024 .f32 from m ((c : Thread nD τ).loc main_arg0)) i = (x : EReal))
    (hkc : ∀ i, ∃ x : ℝ, (show FVec Ideal S16x256x256 .f32 from m ((c : Thread nD τ).loc main_arg1)) i = (x : EReal))
    (hkl : ∀ i, ∃ x : ℝ, (show FVec Ideal S16x2048x256 .f32 from m ((c : Thread nD τ).loc main_arg2)) i = (x : EReal)) :
    out0_5 (F := Ideal) (iblk m c 0 t) (iblk m c 1 t) (iblk m c 2 t) (iblk m c 3 t) (iblk m c 4 t) y
      = attn (m ((c : Thread nD τ).loc main_arg0)) (m ((c : Thread nD τ).loc main_arg1)) (m ((c : Thread nD τ).loc main_arg2))
          (m ((c : Thread nD τ).loc main_arg3)) (m ((c : Thread nD τ).loc main_arg4)) b r j := by
  have hy : (y 2).val < 512 := (y 2).isLt
  rw [out_at]
  unfold attn
  refine krow_eq_rrow (fun x => ?_) (fun s x => ?_) (fun s x => ?_) (fun s => ?_) (fun s => ?_) (fun s => ?_) (fun s => ?_)
    (fun x => hq _) (fun s x => hkc _) (fun s x => hkl _)
  · exact blk_q m c t _ _ b r _ hb hr (by simp only; omega)
  · exact blk_kc m c t s x b _ hb (by simp only; omega)
  · exact blk_kl m c t s x b _ hb (by simp only; omega)
  · exact blk_vc m c t s _ _ b hb (by simp only; omega) (by simp only; omega)
  · exact blk_vl m c t s _ _ b hb (by simp only; omega) (by simp only; omega)
  · exact blk_wc m c t s _ (by simp only; omega)
  · exact blk_wl m c t s _ (by simp only; omega)

/-- The kernel's result array after its run is the attention, element by element. -/
theorem final (c : Dev nD)
    (hq : ∀ i, ∃ x : ℝ, (show FVec Ideal S16x2048x1024 .f32 from m ((c : Thread nD τ).loc main_arg0)) i = (x : EReal))
    (hkc : ∀ i, ∃ x : ℝ, (show FVec Ideal S16x256x256 .f32 from m ((c : Thread nD τ).loc main_arg1)) i = (x : EReal))
    (hkl : ∀ i, ∃ x : ℝ, (show FVec Ideal S16x2048x256 .f32 from m ((c : Thread nD τ).loc main_arg2)) i = (x : EReal)) :
    (dats m 0 c).arrAt 5 (cfgs 0).N = fun i : S16x2048x1024.Idx =>
      attn (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2) := by
  refine (dats m 0 c).arrAt_eq_of_covers 5 _ (by decide +kernel) fun t _ y => ?_
  have hi := idx t
  blk_simp
  rw [after0_5]
  refine point m c t y _ _ _ ?_ ?_ ?_ hq hkc hkl
  all_goals
    blk_simp [hi]
    try omega

end Cert.AttnKer

end
-- ==== Proof.AttnRef.lean ====
module

public import proofs.«01_k».proof.Proof.Gen.ReferenceIdeal.Run
public import proofs.«01_k».proof.Proof.Softmax
public import Idealize.ShloMosaic.Lib.Pointwise

@[expose] public section

set_option maxRecDepth 16384

noncomputable section

namespace Cert.AttnRef

open Idealize.ShloMosaic Idealize.ShloMosaic.TcCoe Idealize.SL.Sem
open Cert.ReferenceIdeal

/-- The reference's scaled scores: batch row, key and value head, query head, query, key. -/
def scores (Q : FVec Ideal S16x2048x1024 .f32) (Kc : FVec Ideal S16x256x256 .f32) (Kl : FVec Ideal S16x2048x256 .f32) :
    FVec Ideal S16x2x4x2048x2304 .f32 :=
  mulf (transpose S16x2x4x2048x2304 [0, 1, 4, 3, 2] (Host.dotGeneral dot_S16x2304x2x128_S16x2048x2x4x128_S16x2x2304x2048x4_3_4_1_13_02_02 none (shapeCast _ (concatenate S16x2304x256 1 [⟨S16x256x256, Kc⟩, ⟨S16x2048x256, Kl⟩] Gen.concatenates_S16x256x256_S16x2048x256_S16x2304x256_d1) Gen.shapeCasts_S16x2304x256_S16x2304x2x128) (shapeCast _ Q Gen.shapeCasts_S16x2048x1024_S16x2048x2x4x128)) Gen.transposes_S16x2x2304x2048x4_S16x2x4x2048x2304_0_1_4_3_2) (broadcastInDim S16x2x4x2048x2304 ![] Gen.bcast_S_S16x2x4x2048x2304 (constant S_ .f32 0x3DB504F3#32))

/-- The largest score of each row. -/
def rowmax (S : FVec Ideal S16x2x4x2048x2304 .f32) : FVec Ideal S16x2x4x2048 .f32 :=
  Host.reduce FloatOps.maximumf S (constant S_ .f32 0xFF800000#32) Gen.reducesTo_S16x2x4x2048x2304_S16x2x4x2048_d4 Gen.h_S_

/-- The number each row subtracts: its largest score, or the least value where that is larger. -/
def rowtop (M : FVec Ideal S16x2x4x2048 .f32) : FVec Ideal S16x2x4x2048 .f32 :=
  maximumf (broadcastInDim S16x2x4x2048 ![] Gen.bcast_S_S16x2x4x2048 (constant S_ .f32 0xFF800000#32)) M

/-- One number per row, read at every key of the row. -/
def spread (M : FVec Ideal S16x2x4x2048 .f32) : FVec Ideal S16x2x4x2048x2304 .f32 :=
  broadcastInDim S16x2x4x2048x2304 ![0, 1, 2, 3, 4] Gen.bcast_S16x2x4x2048x1_S16x2x4x2048x2304_0_1_2_3_4 (broadcastInDim S16x2x4x2048x1 ![0, 1, 2, 3] Gen.bcast_S16x2x4x2048_S16x2x4x2048x1_0_1_2_3 M)

/-- The exponentials of the scores less their row's maximum. -/
def expo (S : FVec Ideal S16x2x4x2048x2304 .f32) : FVec Ideal S16x2x4x2048x2304 .f32 :=
  Host.exp (subf S (spread (rowtop (rowmax S))))

/-- The exponentials divided by their row's sum. -/
def weights (E : FVec Ideal S16x2x4x2048x2304 .f32) : FVec Ideal S16x2x4x2048x2304 .f32 :=
  Host.divf E (broadcastInDim S16x2x4x2048x2304 ![0, 1, 2, 3, 4] Gen.bcast_S16x2x4x2048x1_S16x2x4x2048x2304_0_1_2_3_4 (broadcastInDim S16x2x4x2048x1 ![0, 1, 2, 3] Gen.bcast_S16x2x4x2048_S16x2x4x2048x1_0_1_2_3 (Host.reduceAdd E (constant S_ .f32 0x00000000#32) Gen.reducesTo_S16x2x4x2048x2304_S16x2x4x2048_d4 Gen.h_S_)))

/-- The values averaged by the weights, laid out as tokens by lanes. -/
def averaged (W : FVec Ideal S16x2x4x2048x2304 .f32) (Vc : FVec Ideal S16x256x256 .f32) (Vl : FVec Ideal S16x2048x256 .f32) :
    FVec Ideal S16x2048x1024 .bf16 :=
  truncf .bf16 (shapeCast _ (transpose S16x2048x2x4x128 [0, 4, 1, 3, 2] (Host.dotGeneral dot_S16x2304x2x128_S16x2x4x2048x2304_S16x2x128x4x2048_1_4_3_23_02_01 none (shapeCast _ (concatenate S16x2304x256 1 [⟨S16x256x256, Vc⟩, ⟨S16x2048x256, Vl⟩] Gen.concatenates_S16x256x256_S16x2048x256_S16x2304x256_d1) Gen.shapeCasts_S16x2304x256_S16x2304x2x128) W) Gen.transposes_S16x2x128x4x2048_S16x2048x2x4x128_0_4_1_3_2) Gen.shapeCasts_S16x2048x2x4x128_S16x2048x1024) Gen.bitsLt_bf16_f32

/-- One score: a key from the context's or from the latents' segment, against the query. -/
theorem scores_at (Q : FVec Ideal S16x2048x1024 .f32) (Kc : FVec Ideal S16x256x256 .f32) (Kl : FVec Ideal S16x2048x256 .f32)
    (b : Fin 16) (g : Fin 2) (r : Fin 4) (t : Fin 2048) (s : Fin 2304) : scores Q Kc Kl (ix5 b g r t s)
      = (∑ x : Fin 128, (if h : s.val < 256 then Kc (ix3 b ⟨s.val, h⟩ ⟨g.val * 128 + x.val, by omega⟩)
          else Kl (ix3 b ⟨s.val - 256, by omega⟩ ⟨g.val * 128 + x.val, by omega⟩))
          * Q (ix3 b t ⟨g.val * 512 + r.val * 128 + x.val, by omega⟩)) * Softmax.scale := by
  pointwise [scores]

/-- One row's largest score. -/
theorem rowmax_at (S : FVec Ideal S16x2x4x2048x2304 .f32) (b : Fin 16) (g : Fin 2) (r : Fin 4) (t : Fin 2048) :
    rowmax S (ix4 b g r t) = Finset.fold max Softmax.low (fun s => S (ix5 b g r t s)) Finset.univ := by
  pointwise [rowmax]

/-- One row's subtracted number. -/
theorem rowtop_at (M : FVec Ideal S16x2x4x2048 .f32) (b : Fin 16) (g : Fin 2) (r : Fin 4) (t : Fin 2048) :
    rowtop M (ix4 b g r t) = max Softmax.low (M (ix4 b g r t)) := by
  pointwise [rowtop]

/-- A number per row, read at a key. -/
theorem spread_at (M : FVec Ideal S16x2x4x2048 .f32) (b : Fin 16) (g : Fin 2) (r : Fin 4) (t : Fin 2048) (s : Fin 2304) :
    spread M (ix5 b g r t s) = M (ix4 b g r t) := by
  pointwise [spread]

/-- One exponential, over the subtracted number's array. -/
theorem exp_sub_at (S T : FVec Ideal S16x2x4x2048x2304 .f32) (b : Fin 16) (g : Fin 2) (r : Fin 4) (t : Fin 2048) (s : Fin 2304) :
    Host.exp (subf S T) (ix5 b g r t s) = Ideal.exp (S (ix5 b g r t s) - T (ix5 b g r t s)) := by
  pointwise

/-- One exponential. -/
theorem expo_at (S : FVec Ideal S16x2x4x2048x2304 .f32) (b : Fin 16) (g : Fin 2) (r : Fin 4) (t : Fin 2048) (s : Fin 2304) :
    expo S (ix5 b g r t s) = Ideal.exp (S (ix5 b g r t s)
      - max Softmax.low (Finset.fold max Softmax.low (fun s => S (ix5 b g r t s)) Finset.univ)) := by
  rw [← rowmax_at, ← rowtop_at, ← spread_at (rowtop (rowmax S)) b g r t s]
  exact exp_sub_at S _ b g r t s

/-- One weight. -/
theorem weights_at (E : FVec Ideal S16x2x4x2048x2304 .f32) (b : Fin 16) (g : Fin 2) (r : Fin 4) (t : Fin 2048) (s : Fin 2304) :
    weights E (ix5 b g r t s) = Ideal.div (E (ix5 b g r t s)) (∑ s, E (ix5 b g r t s)) := by
  pointwise [weights]

/-- One element of the average. -/
theorem averaged_at (W : FVec Ideal S16x2x4x2048x2304 .f32) (Vc : FVec Ideal S16x256x256 .f32) (Vl : FVec Ideal S16x2048x256 .f32)
    (b : Fin 16) (t : Fin 2048) (j : Fin 1024) : averaged W Vc Vl (ix3 b t j) =
      (∑ s : Fin 256, Vc (ix3 b s ⟨j.val / 512 * 128 + j.val % 128, by omega⟩)
        * W (ix5 b ⟨j.val / 512, by omega⟩ ⟨j.val / 128 % 4, by omega⟩ t ⟨s.val, by omega⟩))
      + ∑ s : Fin 2048, Vl (ix3 b s ⟨j.val / 512 * 128 + j.val % 128, by omega⟩)
        * W (ix5 b ⟨j.val / 512, by omega⟩ ⟨j.val / 128 % 4, by omega⟩ t ⟨256 + s.val, by omega⟩) := by
  pointwise [averaged]

end Cert.AttnRef
end
-- ==== Proof.AttnRefAt.lean ====
module

public import proofs.«01_k».proof.Proof.Gen.ReferenceIdeal.Run
public import proofs.«01_k».proof.Proof.Softmax
public import proofs.«01_k».proof.Proof.AttnRef
public import Idealize.ShloMosaic.Lib.Pointwise

@[expose] public section

set_option maxRecDepth 16384

noncomputable section

namespace Cert.AttnRef

open Idealize.ShloMosaic Idealize.ShloMosaic.TcCoe Idealize.SL.Sem
open Cert.ReferenceIdeal

/-- The reference's result is its four stages in order. -/
theorem res_eq (m : (ℓ : Loc nD τ sig) → Buf (Elt Ideal) ℓ) (c : Dev nD) :
    (show FVec Ideal S16x2048x1024 .bf16 from Value.res_out0 m c) = averaged (weights (expo (scores (m (c.tc.loc main_arg0))
      (m (c.tc.loc main_arg1)) (m (c.tc.loc main_arg2))))) (m (c.tc.loc main_arg3)) (m (c.tc.loc main_arg4)) := by
  unfold Value.res_out0 Value.res_main_v23 averaged weights expo spread rowtop rowmax scores
  rfl

/-- What the reference leaves in its result, read at one index, is the attention. -/
theorem ref_at (m : (ℓ : Loc nD τ sig) → Buf (Elt Ideal) ℓ) (c : Dev nD) (b : Fin 16) (t : Fin 2048) (j : Fin 1024) :
    (show FVec Ideal S16x2048x1024 .bf16 from Value.res_out0 m c) (ix3 b t j) = Softmax.attn
      (m (c.tc.loc main_arg0)) (m (c.tc.loc main_arg1)) (m (c.tc.loc main_arg2)) (m (c.tc.loc main_arg3))
      (m (c.tc.loc main_arg4)) b t j := by
  rw [res_eq, averaged_at]
  simp only [weights_at]
  unfold Softmax.attn
  refine Softmax.rrow_eq _ _ _ _ _ (fun s => expo (scores (m (c.tc.loc main_arg0)) (m (c.tc.loc main_arg1))
    (m (c.tc.loc main_arg2))) (ix5 b ⟨j.val / 512, by omega⟩ ⟨j.val / 128 % 4, by omega⟩ t s)) (fun s => ?_) (fun s => ?_)
  · simp only [expo_at, scores_at, s.isLt, dif_pos]
  · simp only [expo_at, scores_at, show ¬ (256 + s.val < 256) by omega, dif_neg, not_false_eq_true, Nat.add_sub_cancel_left, Fin.eta]

end Cert.AttnRef

end
-- ==== Proof.Attention.lean ====
module

public import proofs.«01_k».proof.Defs
public import proofs.«01_k».proof.Proof.AttnKer
public import proofs.«01_k».proof.Proof.AttnRefAt
public import proofs.«01_k».proof.Proof.Gen.Pre_finite_scores
public import Idealize.ShloMosaic.Lib.Quiescent

@[expose] public section

set_option maxRecDepth 16384

noncomputable section

namespace Cert.Attention

open Idealize.ShloMosaic Idealize.ShloMosaic.TcCoe Idealize.SL.Sem

attribute [local instance] Cert.KernelIdeal.Gen.facts Cert.ReferenceIdeal.Gen.facts Cert.Pre_finite_scores.Gen.facts

/-- The bound the precondition compares with is plus infinity. -/
theorem inf_eq : Ideal.ofBits FTy.f32 2139095040#32 = ⊤ := by
  simp [Ideal.ofBits, Ideal.ieee]

/-- An extended real whose absolute value is below plus infinity is a real number. -/
theorem real_of_abs {x : EReal} (h : BitVec.ofBool (decide (max x (-x) < Ideal.ofBits FTy.f32 2139095040#32)) = 1#1) :
    ∃ r : ℝ, x = (r : EReal) := by
  rw [inf_eq] at h
  have h' : max x (-x) < ⊤ := by
    by_contra hc
    simp [hc] at h
  have h1 : x ≠ ⊤ := fun e => by simp [e] at h'
  have h2 : x ≠ ⊥ := fun e => by simp [e] at h'
  exact ⟨_, (EReal.coe_toReal h1 h2).symm⟩

/-- The precondition says that the queries and both segments of keys are real numbers. -/
theorem real_of_pre (q : FVec Ideal ⟨3, ![16, 2048, 1024]⟩ .f32) (kc : FVec Ideal ⟨3, ![16, 256, 256]⟩ .f32)
    (kl : FVec Ideal ⟨3, ![16, 2048, 256]⟩ .f32) (vc : FVec Ideal ⟨3, ![16, 256, 256]⟩ .f32)
    (vl : FVec Ideal ⟨3, ![16, 2048, 256]⟩ .f32) :
    ((Cert.Pre_finite_scores.fn (F := Ideal) q kc kl vc vl).1 = (fun _ => 1#1) → ∀ i, ∃ x : ℝ, q i = (x : EReal))
    ∧ ((Cert.Pre_finite_scores.fn (F := Ideal) q kc kl vc vl).2.1 = (fun _ => 1#1) → ∀ i, ∃ x : ℝ, kc i = (x : EReal))
    ∧ ((Cert.Pre_finite_scores.fn (F := Ideal) q kc kl vc vl).2.2 = (fun _ => 1#1) → ∀ i, ∃ x : ℝ, kl i = (x : EReal)) := by
  refine ⟨fun h i => ?_, fun h i => ?_, fun h i => ?_⟩
  all_goals
    have hi := congrFun h i
    exact real_of_abs hi

/-- The attention kernel and the reference attention leave the same array on the same real queries and keys. -/
theorem algebraic : Cert.algebraic_KernelIdeal_ReferenceIdeal_pre_finite_scores := by
  pair_intro
  · run_from Cert.KernelIdeal.Gen.run_main m g
  · run_from Cert.ReferenceIdeal.Value.run m' g'
    obtain ⟨h0, h1, h2⟩ := hpre c
    obtain ⟨p0, p1, p2⟩ := real_of_pre _ _ _ _ _
    rw [Cert.AttnKer.final m c (p0 h0) (p1 h1) (p2 h2)]
    obtain ⟨a0, a1, a2, a3, a4⟩ := hagree c
    funext i
    obtain ⟨b, t, j, rfl⟩ : ∃ b t j, i = ix3 b t j := ⟨_, _, _, eq_ix3 i⟩
    refine (Cert.AttnRef.ref_at m' c b t j).trans ?_
    rw [a0, a1, a2, a3, a4]
    rfl

/-- The reference attention's frame: its arguments end unchanged, and it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

end Cert.Attention

end
-- ==== Proof.Layer.lean ====
module

public import Idealize.ShloMosaic.Lib.Pointwise
public import Idealize.ShloMosaic.Lib.Claim

@[expose] public section

set_option maxRecDepth 16384

noncomputable section

namespace Cert.Layer

open Idealize.ShloMosaic

/-- The number of lanes of a token, as the mean over its lanes divides by it. -/
def width : EReal := Ideal.ofBits FTy.f32 0x44800000#32

/-- The number the root mean square norm adds below its root. -/
def eps : EReal := Ideal.ofBits FTy.f32 0x358637BD#32

/-- One over the root mean square of a token. -/
def rms (x : Fin 1024 → EReal) : EReal := Ideal.rsqrt (Ideal.div (∑ k, x k * x k) width + eps)

/-- A token normalised, scaled by the norm's gain, and modulated by its sample's scale and shift. -/
def hid (x g sc sh : Fin 1024 → EReal) (k : Fin 1024) : EReal := x k * rms x * g k * (1 + sc k) + sh k

/-- The gate's activation: a number times its logistic. -/
def silu (x : EReal) : EReal := x * Ideal.logistic x

/-- One lane of the feed-forward's hidden layer: the activated gate times the lane beside it. -/
def act (h : Fin 1024 → EReal) (a b : Fin 1024 → EReal) : EReal := silu (∑ k, h k * a k) * ∑ k, h k * b k

/-- The feed-forward of a token at one lane: gates and their partners lie in the two halves of `U`. -/
def ffn (h : Fin 1024 → EReal) (U : Fin 1024 → Fin 5632 → EReal) (D : Fin 2816 → EReal) : EReal :=
  ∑ f : Fin 2816, act h (fun k => U k ⟨f.val, by omega⟩) (fun k => U k ⟨2816 + f.val, by omega⟩) * D f

/-- A token after the mixer's projected output `y`, gated and added to what it was. -/
def mixed (x gate y : Fin 1024 → EReal) (j : Fin 1024) : EReal := x j + gate j * y j

/-- The output projection of a mixer's token. -/
def proj (o : Fin 1024 → EReal) (W : Fin 1024 → Fin 1024 → EReal) (j : Fin 1024) : EReal := ∑ k, o k * W k j

/-- The output projection of two mixers' tokens side by side: the first takes the upper half of `W`, the second the lower. -/
def proj2 (p q : Fin 1024 → EReal) (W : Fin 2048 → Fin 1024 → EReal) (j : Fin 1024) : EReal :=
  ∑ k : Fin 1024, p k * W ⟨k.val, by omega⟩ j + ∑ k : Fin 1024, q k * W ⟨1024 + k.val, by omega⟩ j

/-- A token after the feed-forward, gated and added to what it was. -/
def fed (x g sc sh gate : Fin 1024 → EReal) (U : Fin 1024 → Fin 5632 → EReal) (D : Fin 2816 → Fin 1024 → EReal)
    (j : Fin 1024) : EReal := x j + gate j * ffn (hid x g sc sh) U (fun f => D f j)

/-- A token normalised and scaled by the norm's gain. -/
def normed (x g : Fin 1024 → EReal) (j : Fin 1024) : EReal := x j * rms x * g j

/-- A token of sample `b` after layer `l`'s residual and feed-forward, out of the arguments and the mixer's projected output `y`. -/
def body (l : Fin 4) (X : FVec Ideal ⟨3, ![16, 2048, 1024]⟩ .f32) (M : FVec Ideal ⟨2, ![16, 6144]⟩ .f32) (y : Fin 1024 → EReal)
    (G : FVec Ideal ⟨2, ![4, 1024]⟩ .f32) (U : FVec Ideal ⟨3, ![4, 1024, 5632]⟩ .f32)
    (D : FVec Ideal ⟨3, ![4, 2816, 1024]⟩ .f32) (b : Fin 16) (t : Fin 2048) : Fin 1024 → EReal :=
  fed (mixed (fun j => X (ix3 b t j)) (fun j => M (ix2 b ⟨2048 + j.val, by omega⟩)) y)
    (fun j => G (ix2 l j)) (fun j => M (ix2 b ⟨4096 + j.val, by omega⟩)) (fun j => M (ix2 b ⟨3072 + j.val, by omega⟩))
    (fun j => M (ix2 b ⟨5120 + j.val, by omega⟩)) (fun k f => U (ix3 l k f)) (fun f j => D (ix3 l f j))

/-- An odd layer's mixer output projected: layer `2 l + 1` takes the `l`-th of the projections. -/
def odd (l : Fin 2) (O : FVec Ideal ⟨3, ![16, 2048, 1024]⟩ .bf16) (W : FVec Ideal ⟨3, ![2, 1024, 1024]⟩ .f32) (b : Fin 16) (t : Fin 2048) :
    Fin 1024 → EReal := proj (fun k => O (ix3 b t k)) (fun k j => W (ix3 l k j))

/-- An even layer's two mixer outputs projected: layer `2 l` takes the `l`-th of the projections. -/
def even (l : Fin 2) (A B : FVec Ideal ⟨3, ![16, 2048, 1024]⟩ .bf16) (W : FVec Ideal ⟨3, ![2, 2048, 1024]⟩ .f32) (b : Fin 16) (t : Fin 2048) :
    Fin 1024 → EReal := proj2 (fun k => A (ix3 b t k)) (fun k => B (ix3 b t k)) (fun k j => W (ix3 l k j))

/-- The last layer's result at a token's lane: output projection, feed-forward and the final norm, out of the arguments. -/
def last (X : FVec Ideal ⟨3, ![16, 2048, 1024]⟩ .f32) (M : FVec Ideal ⟨2, ![16, 6144]⟩ .f32)
    (O : FVec Ideal ⟨3, ![16, 2048, 1024]⟩ .bf16) (W : FVec Ideal ⟨3, ![2, 1024, 1024]⟩ .f32)
    (G : FVec Ideal ⟨2, ![4, 1024]⟩ .f32) (U : FVec Ideal ⟨3, ![4, 1024, 5632]⟩ .f32)
    (D : FVec Ideal ⟨3, ![4, 2816, 1024]⟩ .f32) (F : FVec Ideal ⟨1, ![1024]⟩ .f32)
    (b : Fin 16) (t : Fin 2048) : Fin 1024 → EReal :=
  normed (body 3 X M (odd 1 O W b t) G U D b t) (fun j => F (ix1 j))

/-- The feed-forward in eleven tiles of 256 hidden lanes, added one after the other. -/
theorem ffn_tiles (h : Fin 1024 → EReal) (U : Fin 1024 → Fin 5632 → EReal) (D : Fin 2816 → EReal) :
    ffn h U D = ∑ s : Fin 11, ∑ f : Fin 256, act h (fun k => U k ⟨s.val * 256 + f.val, by omega⟩)
      (fun k => U k ⟨2816 + s.val * 256 + f.val, by omega⟩) * D ⟨s.val * 256 + f.val, by omega⟩ := by
  unfold ffn
  rw [Fin.sum_univ_tiles 11 256 (by norm_num)]
  simp only [Nat.add_assoc]

/-- Equal reads give equal feed-forwards. -/
theorem ffn_congr {h h' : Fin 1024 → EReal} {U U' : Fin 1024 → Fin 5632 → EReal} {D D' : Fin 2816 → EReal} (a : ∀ k, h k = h' k)
    (b : ∀ k f, U k f = U' k f) (c : ∀ f, D f = D' f) : ffn h U D = ffn h' U' D' := by
  rw [funext a, funext fun k => funext (b k), funext c]

/-- Equal reads give equal hidden tokens. -/
theorem hid_congr {x x' g g' sc sc' sh sh' : Fin 1024 → EReal} (a : ∀ k, x k = x' k) (b : ∀ k, g k = g' k) (c : ∀ k, sc k = sc' k)
    (d : ∀ k, sh k = sh' k) (j : Fin 1024) : hid x g sc sh j = hid x' g' sc' sh' j := by
  rw [funext a, funext b, funext c, funext d]

/-- Equal reads give equal mixed tokens. -/
theorem mixed_congr {x x' g g' y y' : Fin 1024 → EReal} (a : ∀ k, x k = x' k) (b : ∀ k, g k = g' k)
    (c : ∀ k, y k = y' k) (j : Fin 1024) : mixed x g y j = mixed x' g' y' j := by
  rw [funext a, funext b, funext c]

/-- Equal reads give equal projections. -/
theorem proj_congr {o o' : Fin 1024 → EReal} {W W' : Fin 1024 → Fin 1024 → EReal} (c : ∀ k, o k = o' k) (d : ∀ k j, W k j = W' k j)
    (j : Fin 1024) : proj o W j = proj o' W' j := by
  rw [funext c, funext fun k => funext (d k)]

/-- Equal reads give equal projections of two mixers, the halves of the weights read apart. -/
theorem proj2_of {p p' q q' : Fin 1024 → EReal} {V W : Fin 1024 → Fin 1024 → EReal} {Z : Fin 2048 → Fin 1024 → EReal} (a : ∀ k, p k = p' k)
    (b : ∀ k, q k = q' k) (c : ∀ k j, V k j = Z ⟨k.val, by omega⟩ j) (d : ∀ k j, W k j = Z ⟨1024 + k.val, by omega⟩ j) (j : Fin 1024) :
    proj p V j + proj q W j = proj2 p' q' Z j := by
  unfold proj proj2
  simp only [a, b, c, d]

/-- Equal reads give equal tokens after the feed-forward. -/
theorem fed_congr {x' g' sc' sh' w' : Fin 1024 → EReal} {X w A : EReal} {U : Fin 1024 → Fin 5632 → EReal}
    {D : Fin 2816 → Fin 1024 → EReal} (j : Fin 1024) (a : X = x' j) (b : w = w' j) (c : A = ffn (hid x' g' sc' sh') U (fun f => D f j)) :
    X + w * A = fed x' g' sc' sh' w' U D j := by
  unfold fed
  rw [a, b, c]

/-- A sum of eleven terms, written out. -/
theorem sum_eleven (f : Fin 11 → EReal) :
    ∑ s, f s = f 0 + f 1 + f 2 + f 3 + f 4 + f 5 + f 6 + f 7 + f 8 + f 9 + f 10 := by
  simp only [Fin.sum_univ_castSucc, Fin.sum_univ_zero, zero_add]
  rfl

end Cert.Layer

end
-- ==== Proof.LastKer.lean ====
module

public import proofs.«01_k».proof.Proof.Gen.KernelLastIdeal.Value
public import proofs.«01_k».proof.Proof.Layer
public import Idealize.ShloMosaic.Lib.Pipeline.ValueKit
public import Idealize.ShloMosaic.Lib.Pointwise
public import Idealize.ShloMosaic.Lib.Claim

@[expose] public section

set_option maxRecDepth 16384

noncomputable section

namespace Cert.LastKer

open Idealize.ShloMosaic Idealize.ShloMosaic.TcCoe Idealize.SL.Sem
open Idealize.ShloMosaic.Pipeline (Dat)
open Cert.KernelLastIdeal Cert.KernelLastIdeal.Gen Cert.Layer

/-- The token the body keeps after the output projection. -/
theorem mix_at (o : Vec Ideal S1x512x1024 .bf16) (w : Vec Ideal S1x1024x1024 .bf16) (x : Vec Ideal S1x512x1024 .f32)
    (gate : Vec Ideal S1x1x1024 .f32) (i : Fin 512) (j : Fin 1024) : k0_pay2 o w x gate (ix2 i j)
      = mixed (fun j => x (ix3 0 i j)) (fun j => gate (ix3 0 0 j)) (proj (fun k => o (ix3 0 i k)) (fun k j => w (ix3 0 k j))) j := by
  pointwise [k0_pay2]
  dsimp only [mixed, proj]

/-- The hidden token the body feeds to every tile of the feed-forward. -/
theorem hid_at (X : Vec Ideal S512x1024 .f32) (g : Vec Ideal S1x1024 .f32) (sc sh : Vec Ideal S1x1x1024 .f32) (i : Fin 512) (j : Fin 1024) :
    k0_pay7 X (k0_pay3 g) (k0_pay4 sc) (k0_pay5 sh) (k0_pay6 X) (ix2 i j)
      = hid (fun k => X (ix2 i k)) (fun k => g (ix2 0 k)) (fun k => sc (ix3 0 0 k)) (fun k => sh (ix3 0 0 k)) j := by
  pointwise [k0_pay7, k0_pay3, k0_pay4, k0_pay5, k0_pay6]
  dsimp only [hid, rms, width, eps]

/-- The hidden lanes of one tile. -/
def half (H : FVec Ideal S512x1024 .bf16) (a b : FVec Ideal S1x1024x256 .bf16) : FVec Ideal S512x256 .bf16 :=
  truncf .bf16 (mulf (mulf (matmul dot_S512x1024_S1024x256_S512x256_1_0_0_1_n_n none H (shapeCast S1024x256 a shapeCasts_S1x1024x256_S1024x256) (constant S512x256 .f32 0x00000000#32))
      (logistic (matmul dot_S512x1024_S1024x256_S512x256_1_0_0_1_n_n none H (shapeCast S1024x256 a shapeCasts_S1x1024x256_S1024x256) (constant S512x256 .f32 0x00000000#32))))
    (matmul dot_S512x1024_S1024x256_S512x256_1_0_0_1_n_n none H (shapeCast S1024x256 b shapeCasts_S1x1024x256_S1024x256) (constant S512x256 .f32 0x00000000#32))) bitsLt_bf16_f32

/-- What one tile adds to the feed-forward. -/
def tile (H : FVec Ideal S512x1024 .bf16) (a b : FVec Ideal S1x1024x256 .bf16) (d : FVec Ideal S1x256x1024 .bf16) : FVec Ideal S512x1024 .f32 :=
  matmul dot_S512x256_S256x1024_S512x1024_1_0_0_1_n_n none (half H a b) (shapeCast S256x1024 d shapeCasts_S1x256x1024_S256x1024) (constant S512x1024 .f32 0x00000000#32)

/-- One tile's part at a token's lane. -/
theorem tile_at (H : FVec Ideal S512x1024 .bf16) (a b : FVec Ideal S1x1024x256 .bf16) (d : FVec Ideal S1x256x1024 .bf16)
    (i : Fin 512) (j : Fin 1024) : tile H a b d (ix2 i j)
      = ∑ f : Fin 256, act (fun k => H (ix2 i k)) (fun k => a (ix3 0 k f)) (fun k => b (ix3 0 k f)) * d (ix3 0 f j) := by
  pointwise [tile, half]
  dsimp only [act, silu]

/-- The last steps: the gated feed-forward added, and the final norm. -/
theorem out_at (A X : Vec Ideal S512x1024 .f32) (gate : Vec Ideal S1x1x1024 .f32) (g : Vec Ideal S1x1024 .f32) (i : Fin 512) (j : Fin 1024) :
    k0_pay1 A X gate g (ix3 0 i j)
      = normed (fun k => X (ix2 i k) + gate (ix3 0 0 k) * A (ix2 i k)) (fun k => g (ix2 0 k)) j := by
  pointwise [k0_pay1]
  dsimp only [normed, rms, width, eps]

/-- What a layer before the last leaves: the gated feed-forward added to the token. -/
def leave (A X : FVec Ideal S512x1024 .f32) (gate : FVec Ideal S1x1x1024 .f32) : FVec Ideal S1x512x1024 .f32 :=
  shapeCast S1x512x1024 (addf X (mulf (broadcastTo S512x1024 (shapeCast S1x1024 gate shapeCasts_S1x1x1024_S1x1024) broadcasts_S1x1024_S512x1024) A))
    shapeCasts_S512x1024_S1x512x1024

/-- The same at a token's lane. -/
theorem leave_at (A X : FVec Ideal S512x1024 .f32) (gate : FVec Ideal S1x1x1024 .f32) (i : Fin 512) (j : Fin 1024) :
    leave A X gate (ix3 0 i j) = X (ix2 i j) + gate (ix3 0 0 j) * A (ix2 i j) := by
  pointwise [leave]

/-- The hidden tokens of a block, out of its mixed tokens, the norm's gain, the scale and the shift. -/
def hidden (X : FVec Ideal S512x1024 .f32) (g : FVec Ideal S1x1024 .f32) (sc sh : FVec Ideal S1x1x1024 .f32) : FVec Ideal S512x1024 .bf16 :=
  k0_pay7 X (k0_pay3 g) (k0_pay4 sc) (k0_pay5 sh) (k0_pay6 X)

/-- A tile of columns of the gates' weights. -/
theorem ld_cols (B : Vec Ideal S1x1024x5632 .bf16) (o : ℕ) (h : ∀ a, (![0, 0, o] : Fin 3 → ℕ) a + (![1, 1024, 256] : Fin 3 → ℕ) a ≤ S1x1024x5632.size a)
    (k : Fin 1024) (f : Fin 256) (e : Fin 5632) (he : e.val = o + f.val) :
    (show FVec Ideal S1x1024x256 .bf16 from View.ld B (Rect.unit ![0, 0, o] ![1, 1024, 256] h)) (ix3 0 k f) = B (ix3 0 k e) := by
  show View.ld B (Rect.unit ![0, 0, o] ![1, 1024, 256] h) (ix3 0 k f) = _
  pointwise
  blk_point []

/-- A tile of rows of the second weights. -/
theorem ld_rows (B : Vec Ideal S1x2816x1024 .bf16) (o : ℕ) (h : ∀ a, (![0, o, 0] : Fin 3 → ℕ) a + (![1, 256, 1024] : Fin 3 → ℕ) a ≤ S1x2816x1024.size a)
    (f : Fin 256) (j : Fin 1024) (e : Fin 2816) (he : e.val = o + f.val) :
    (show FVec Ideal S1x256x1024 .bf16 from View.ld B (Rect.unit ![0, o, 0] ![1, 256, 1024] h)) (ix3 0 f j) = B (ix3 0 e j) := by
  show View.ld B (Rect.unit ![0, o, 0] ![1, 256, 1024] h) (ix3 0 f j) = _
  pointwise
  blk_point []

variable (m : (ℓ : Loc nD τ sig) → Buf (Elt Ideal) ℓ)

/-- The block every window is at, point by point: sample `t / 4`, quarter `t % 4` of its tokens. -/
theorem idx : ∀ t : Fin cfg0.N, win0_0.index t = ![t.val / 4, t.val % 4, 0] ∧ win0_1.index t = ![t.val / 4, 0, 2]
    ∧ win0_2.index t = ![t.val / 4, t.val % 4, 0] ∧ win0_3.index t = ![1, 0, 0] ∧ win0_4.index t = ![0, 0]
    ∧ win0_5.index t = ![t.val / 4, 0, 3] ∧ win0_6.index t = ![t.val / 4, 0, 4] ∧ win0_7.index t = ![t.val / 4, 0, 5]
    ∧ win0_8.index t = ![3, 0, 0] ∧ win0_9.index t = ![3, 0, 0] ∧ win0_10.index t = ![0, 0]
    ∧ win0_11.index t = ![t.val / 4, t.val % 4, 0] :=
  (by decide +kernel : ∀ t : Fin grid0.N, _)

/-- The block of tokens read at a position. -/
theorem blk_x (c : Dev nD) (t : Fin cfg0.N) (i : Fin 512) (j : Fin 1024) (b : Fin 16) (r : Fin 2048) (hb : b.val = t.val / 4)
    (hr : r.val = t.val % 4 * 512 + i.val) : (show FVec Ideal S1x512x1024 .f32 from iblk m c 0 t) (ix3 0 i j)
      = (show FVec Ideal S16x2048x1024 .f32 from m ((c : Thread nD τ).loc main_arg0)) (ix3 b r j) := by
  have hi := idx t
  show iblk m c 0 t (ix3 0 i j) = _
  blk_simp [iblk]
  entry_read
  pointwise
  blk_point [hi]

/-- The block of mixer outputs read at a position. -/
theorem blk_o (c : Dev nD) (t : Fin cfg0.N) (i : Fin 512) (j : Fin 1024) (b : Fin 16) (r : Fin 2048) (hb : b.val = t.val / 4)
    (hr : r.val = t.val % 4 * 512 + i.val) : (show FVec Ideal S1x512x1024 .bf16 from iblk m c 2 t) (ix3 0 i j)
      = (show FVec Ideal S16x2048x1024 .bf16 from m ((c : Thread nD τ).loc main_arg2)) (ix3 b r j) := by
  have hi := idx t
  show iblk m c 2 t (ix3 0 i j) = _
  blk_simp [iblk]
  entry_read
  pointwise
  blk_point [hi]

/-- The modulation vectors as the call takes them: the samples' rows, then padding. -/
theorem mods_val (c : Dev nD) : V m c main_v7 = shapeCast S24x1x6144 (pad S24x6144 ![0, 0] ![8, 0] ![0, 0]
      (show FVec Ideal S16x6144 .f32 from m ((c : Thread nD τ).loc main_arg1)) (sitofp .f32 (constantI S_ 32 0#32)) pads_S16x6144_S24x6144_080_000 h_S_)
      shapeCasts_S24x6144_S24x1x6144 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The same read at a row of a sample. -/
theorem mods_at (c : Dev nD) (j : S24x1x6144.Idx) (b : Fin 16) (e : Fin 6144) (hb : b.val = (j 0).val) (he : e.val = (j 2).val) :
    V m c main_v7 j = (show FVec Ideal S16x6144 .f32 from m ((c : Thread nD τ).loc main_arg1)) (ix2 b e) := by
  have h16 : (j 0).val < 16 := by omega
  rw [mods_val]
  pointwise
  rw [dif_pos h16]
  blk_ext

/-- The gain of the norm before the feed-forward as the call takes it: the last layer's row. -/
theorem gain_val (c : Dev nD) : V m c main_v5 = shapeCast S1x1024 (shapeCast S1024 (extractStridedSlice S1x1024 ![3, 0]
      (show FVec Ideal S4x1024 .f32 from m ((c : Thread nD τ).loc main_arg4)) slices_S4x1024_S1x1024_3_0) shapeCasts_S1x1024_S1024)
      shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The final norm's gain as the call takes it. -/
theorem final_val (c : Dev nD) : V m c main_v8 = shapeCast S1x1024
      (show FVec Ideal S1024 .f32 from m ((c : Thread nD τ).loc main_arg7)) shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The sample's gate of the output projection. -/
theorem blk_gate1 (c : Dev nD) (t : Fin cfg0.N) (j : Fin 1024) (b : Fin 16) (hb : b.val = t.val / 4) :
    (show FVec Ideal S1x1x1024 .f32 from iblk m c 1 t) (ix3 0 0 j)
      = (show FVec Ideal S16x6144 .f32 from m ((c : Thread nD τ).loc main_arg1)) (ix2 b ⟨2048 + j.val, by omega⟩) := by
  have hi := idx t
  show iblk m c 1 t (ix3 0 0 j) = _
  blk_simp [iblk]
  refine mods_at m c _ b _ ?_ ?_
  all_goals
    blk_simp [hi]
    try omega

/-- The sample's shift. -/
theorem blk_sh (c : Dev nD) (t : Fin cfg0.N) (j : Fin 1024) (b : Fin 16) (hb : b.val = t.val / 4) :
    (show FVec Ideal S1x1x1024 .f32 from iblk m c 5 t) (ix3 0 0 j)
      = (show FVec Ideal S16x6144 .f32 from m ((c : Thread nD τ).loc main_arg1)) (ix2 b ⟨3072 + j.val, by omega⟩) := by
  have hi := idx t
  show iblk m c 5 t (ix3 0 0 j) = _
  blk_simp [iblk]
  refine mods_at m c _ b _ ?_ ?_
  all_goals
    blk_simp [hi]
    try omega

/-- The sample's scale. -/
theorem blk_sc (c : Dev nD) (t : Fin cfg0.N) (j : Fin 1024) (b : Fin 16) (hb : b.val = t.val / 4) :
    (show FVec Ideal S1x1x1024 .f32 from iblk m c 6 t) (ix3 0 0 j)
      = (show FVec Ideal S16x6144 .f32 from m ((c : Thread nD τ).loc main_arg1)) (ix2 b ⟨4096 + j.val, by omega⟩) := by
  have hi := idx t
  show iblk m c 6 t (ix3 0 0 j) = _
  blk_simp [iblk]
  refine mods_at m c _ b _ ?_ ?_
  all_goals
    blk_simp [hi]
    try omega

/-- The sample's gate of the feed-forward. -/
theorem blk_gate2 (c : Dev nD) (t : Fin cfg0.N) (j : Fin 1024) (b : Fin 16) (hb : b.val = t.val / 4) :
    (show FVec Ideal S1x1x1024 .f32 from iblk m c 7 t) (ix3 0 0 j)
      = (show FVec Ideal S16x6144 .f32 from m ((c : Thread nD τ).loc main_arg1)) (ix2 b ⟨5120 + j.val, by omega⟩) := by
  have hi := idx t
  show iblk m c 7 t (ix3 0 0 j) = _
  blk_simp [iblk]
  refine mods_at m c _ b _ ?_ ?_
  all_goals
    blk_simp [hi]
    try omega

/-- The output projection's weights. -/
theorem blk_wo (c : Dev nD) (t : Fin cfg0.N) (k j : Fin 1024) : (show FVec Ideal S1x1024x1024 .bf16 from iblk m c 3 t) (ix3 0 k j)
      = (show FVec Ideal S2x1024x1024 .f32 from m ((c : Thread nD τ).loc main_arg3)) (ix3 1 k j) := by
  have hi := idx t
  show iblk m c 3 t (ix3 0 k j) = _
  blk_simp [iblk]
  entry_read
  pointwise
  blk_point [hi]

/-- The gain of the norm before the feed-forward. -/
theorem blk_g (c : Dev nD) (t : Fin cfg0.N) (j : Fin 1024) : (show FVec Ideal S1x1024 .f32 from iblk m c 4 t) (ix2 0 j)
      = (show FVec Ideal S4x1024 .f32 from m ((c : Thread nD τ).loc main_arg4)) (ix2 3 j) := by
  have hi := idx t
  show iblk m c 4 t (ix2 0 j) = _
  blk_simp [iblk]
  rw [gain_val]
  pointwise
  blk_point [hi]

/-- The feed-forward's first weights. -/
theorem blk_u (c : Dev nD) (t : Fin cfg0.N) (k : Fin 1024) (f : Fin 5632) : (show FVec Ideal S1x1024x5632 .bf16 from iblk m c 8 t) (ix3 0 k f)
      = (show FVec Ideal S4x1024x5632 .f32 from m ((c : Thread nD τ).loc main_arg5)) (ix3 3 k f) := by
  have hi := idx t
  show iblk m c 8 t (ix3 0 k f) = _
  blk_simp [iblk]
  entry_read
  pointwise
  blk_point [hi]

/-- The feed-forward's second weights. -/
theorem blk_d (c : Dev nD) (t : Fin cfg0.N) (f : Fin 2816) (j : Fin 1024) : (show FVec Ideal S1x2816x1024 .bf16 from iblk m c 9 t) (ix3 0 f j)
      = (show FVec Ideal S4x2816x1024 .f32 from m ((c : Thread nD τ).loc main_arg6)) (ix3 3 f j) := by
  have hi := idx t
  show iblk m c 9 t (ix3 0 f j) = _
  blk_simp [iblk]
  entry_read
  pointwise
  blk_point [hi]

/-- The final norm's gain. -/
theorem blk_f (c : Dev nD) (t : Fin cfg0.N) (j : Fin 1024) : (show FVec Ideal S1x1024 .f32 from iblk m c 10 t) (ix2 0 j)
      = (show FVec Ideal S1024 .f32 from m ((c : Thread nD τ).loc main_arg7)) (ix1 j) := by
  have hi := idx t
  show iblk m c 10 t (ix2 0 j) = _
  blk_simp [iblk]
  rw [final_val]
  pointwise
  blk_point [hi]

/-- The eleven tiles in the order the body adds them: the gates' columns, their partners' and the second weights' rows. -/
def tiles (H : FVec Ideal S512x1024 .bf16) (U : Vec Ideal S1x1024x5632 .bf16) (D : Vec Ideal S1x2816x1024 .bf16) : FVec Ideal S512x1024 .f32 :=
  addf (addf (addf (addf (addf (addf (addf (addf (addf (addf
    (tile H (View.ld U (Rect.unit ![0, 0, 0] ![1, 1024, 256] inb_S1x1024x5632_S1x1024x256_0_0_0)) (View.ld U (Rect.unit ![0, 0, 2816] ![1, 1024, 256] inb_S1x1024x5632_S1x1024x256_0_0_2816)) (View.ld D (Rect.unit ![0, 0, 0] ![1, 256, 1024] inb_S1x2816x1024_S1x256x1024_0_0_0)))
    (tile H (View.ld U (Rect.unit ![0, 0, 256] ![1, 1024, 256] inb_S1x1024x5632_S1x1024x256_0_0_256)) (View.ld U (Rect.unit ![0, 0, 3072] ![1, 1024, 256] inb_S1x1024x5632_S1x1024x256_0_0_3072)) (View.ld D (Rect.unit ![0, 256, 0] ![1, 256, 1024] inb_S1x2816x1024_S1x256x1024_0_256_0))))
    (tile H (View.ld U (Rect.unit ![0, 0, 512] ![1, 1024, 256] inb_S1x1024x5632_S1x1024x256_0_0_512)) (View.ld U (Rect.unit ![0, 0, 3328] ![1, 1024, 256] inb_S1x1024x5632_S1x1024x256_0_0_3328)) (View.ld D (Rect.unit ![0, 512, 0] ![1, 256, 1024] inb_S1x2816x1024_S1x256x1024_0_512_0))))
    (tile H (View.ld U (Rect.unit ![0, 0, 768] ![1, 1024, 256] inb_S1x1024x5632_S1x1024x256_0_0_768)) (View.ld U (Rect.unit ![0, 0, 3584] ![1, 1024, 256] inb_S1x1024x5632_S1x1024x256_0_0_3584)) (View.ld D (Rect.unit ![0, 768, 0] ![1, 256, 1024] inb_S1x2816x1024_S1x256x1024_0_768_0))))
    (tile H (View.ld U (Rect.unit ![0, 0, 1024] ![1, 1024, 256] inb_S1x1024x5632_S1x1024x256_0_0_1024)) (View.ld U (Rect.unit ![0, 0, 3840] ![1, 1024, 256] inb_S1x1024x5632_S1x1024x256_0_0_3840)) (View.ld D (Rect.unit ![0, 1024, 0] ![1, 256, 1024] inb_S1x2816x1024_S1x256x1024_0_1024_0))))
    (tile H (View.ld U (Rect.unit ![0, 0, 1280] ![1, 1024, 256] inb_S1x1024x5632_S1x1024x256_0_0_1280)) (View.ld U (Rect.unit ![0, 0, 4096] ![1, 1024, 256] inb_S1x1024x5632_S1x1024x256_0_0_4096)) (View.ld D (Rect.unit ![0, 1280, 0] ![1, 256, 1024] inb_S1x2816x1024_S1x256x1024_0_1280_0))))
    (tile H (View.ld U (Rect.unit ![0, 0, 1536] ![1, 1024, 256] inb_S1x1024x5632_S1x1024x256_0_0_1536)) (View.ld U (Rect.unit ![0, 0, 4352] ![1, 1024, 256] inb_S1x1024x5632_S1x1024x256_0_0_4352)) (View.ld D (Rect.unit ![0, 1536, 0] ![1, 256, 1024] inb_S1x2816x1024_S1x256x1024_0_1536_0))))
    (tile H (View.ld U (Rect.unit ![0, 0, 1792] ![1, 1024, 256] inb_S1x1024x5632_S1x1024x256_0_0_1792)) (View.ld U (Rect.unit ![0, 0, 4608] ![1, 1024, 256] inb_S1x1024x5632_S1x1024x256_0_0_4608)) (View.ld D (Rect.unit ![0, 1792, 0] ![1, 256, 1024] inb_S1x2816x1024_S1x256x1024_0_1792_0))))
    (tile H (View.ld U (Rect.unit ![0, 0, 2048] ![1, 1024, 256] inb_S1x1024x5632_S1x1024x256_0_0_2048)) (View.ld U (Rect.unit ![0, 0, 4864] ![1, 1024, 256] inb_S1x1024x5632_S1x1024x256_0_0_4864)) (View.ld D (Rect.unit ![0, 2048, 0] ![1, 256, 1024] inb_S1x2816x1024_S1x256x1024_0_2048_0))))
    (tile H (View.ld U (Rect.unit ![0, 0, 2304] ![1, 1024, 256] inb_S1x1024x5632_S1x1024x256_0_0_2304)) (View.ld U (Rect.unit ![0, 0, 5120] ![1, 1024, 256] inb_S1x1024x5632_S1x1024x256_0_0_5120)) (View.ld D (Rect.unit ![0, 2304, 0] ![1, 256, 1024] inb_S1x2816x1024_S1x256x1024_0_2304_0))))
    (tile H (View.ld U (Rect.unit ![0, 0, 2560] ![1, 1024, 256] inb_S1x1024x5632_S1x1024x256_0_0_2560)) (View.ld U (Rect.unit ![0, 0, 5376] ![1, 1024, 256] inb_S1x1024x5632_S1x1024x256_0_0_5376)) (View.ld D (Rect.unit ![0, 2560, 0] ![1, 256, 1024] inb_S1x2816x1024_S1x256x1024_0_2560_0)))

/-- One tile read from the whole weights at its offset. -/
theorem tile_ld (H : FVec Ideal S512x1024 .bf16) (U : Vec Ideal S1x1024x5632 .bf16) (D : Vec Ideal S1x2816x1024 .bf16) (s : Fin 11)
    (oa ob : ℕ) (hoa : oa = s.val * 256) (hob : ob = 2816 + s.val * 256)
    (ha : ∀ x, (![0, 0, oa] : Fin 3 → ℕ) x + (![1, 1024, 256] : Fin 3 → ℕ) x ≤ S1x1024x5632.size x)
    (hb : ∀ x, (![0, 0, ob] : Fin 3 → ℕ) x + (![1, 1024, 256] : Fin 3 → ℕ) x ≤ S1x1024x5632.size x)
    (hd : ∀ x, (![0, oa, 0] : Fin 3 → ℕ) x + (![1, 256, 1024] : Fin 3 → ℕ) x ≤ S1x2816x1024.size x) (i : Fin 512) (j : Fin 1024) :
    tile H (View.ld U (Rect.unit ![0, 0, oa] ![1, 1024, 256] ha)) (View.ld U (Rect.unit ![0, 0, ob] ![1, 1024, 256] hb))
        (View.ld D (Rect.unit ![0, oa, 0] ![1, 256, 1024] hd)) (ix2 i j)
      = ∑ f : Fin 256, act (fun k => H (ix2 i k)) (fun k => U (ix3 0 k ⟨s.val * 256 + f.val, by omega⟩))
          (fun k => U (ix3 0 k ⟨2816 + s.val * 256 + f.val, by omega⟩)) * D (ix3 0 ⟨s.val * 256 + f.val, by omega⟩ j) := by
  refine (tile_at _ _ _ _ i j).trans (Finset.sum_congr rfl fun f _ => ?_)
  have h1 := fun k => ld_cols U oa ha k f ⟨s.val * 256 + f.val, by omega⟩ (by simp only; omega)
  have h2 := fun k => ld_cols U ob hb k f ⟨2816 + s.val * 256 + f.val, by omega⟩ (by simp only; omega)
  have h3 := ld_rows D oa hd f j ⟨s.val * 256 + f.val, by omega⟩ (by simp only; omega)
  exact congrArg₂ (· * ·) (congrArg₂ (act _) (funext h1) (funext h2)) h3

/-- The eleven tiles together are the whole feed-forward. -/
theorem tiles_at (H : FVec Ideal S512x1024 .bf16) (U : Vec Ideal S1x1024x5632 .bf16) (D : Vec Ideal S1x2816x1024 .bf16) (i : Fin 512) (j : Fin 1024) :
    tiles H U D (ix2 i j) = ffn (fun k => H (ix2 i k)) (fun k f => U (ix3 0 k f)) (fun f => D (ix3 0 f j)) := by
  rw [ffn_tiles, sum_eleven]
  have e := fun s oa ob hoa hob ha hb hd => (tile_ld H U D s oa ob hoa hob ha hb hd i j).symm
  exact (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·)
      (e 0 _ _ rfl rfl _ _ _) (e 1 _ _ rfl rfl _ _ _)) (e 2 _ _ rfl rfl _ _ _)) (e 3 _ _ rfl rfl _ _ _)) (e 4 _ _ rfl rfl _ _ _))
      (e 5 _ _ rfl rfl _ _ _)) (e 6 _ _ rfl rfl _ _ _)) (e 7 _ _ rfl rfl _ _ _)) (e 8 _ _ rfl rfl _ _ _)) (e 9 _ _ rfl rfl _ _ _))
      (e 10 _ _ rfl rfl _ _ _)).symm

/-- What a grid point leaves in its output block is the last layer's result where the block element sits. -/
theorem point (c : Dev nD) (t : Fin cfg0.N) (i : Fin 512) (j : Fin 1024) (b : Fin 16) (r : Fin 2048) (e : Fin 1024) (hb : b.val = t.val / 4)
    (hr : r.val = t.val % 4 * 512 + i.val) (he : e.val = j.val) : outsAt0 m c t (ix3 0 i j)
      = last (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b r e := by
  obtain rfl : e = j := Fin.ext he
  have hx := fun k => (mix_at (iblk m c 2 t) (iblk m c 3 t) (iblk m c 0 t) (iblk m c 1 t) i k).trans
    (mixed_congr (fun k => blk_x m c t i k b r hb hr) (fun k => blk_gate1 m c t k b hb)
      (proj_congr (fun k => blk_o m c t i k b r hb hr) (fun k j => blk_wo m c t k j)) k)
  unfold outsAt0
  frame_out
  show k0_pay1 (tiles (k0_pay7 (k0_pay2 (iblk m c 2 t) (iblk m c 3 t) (iblk m c 0 t) (iblk m c 1 t)) (k0_pay3 (iblk m c 4 t))
        (k0_pay4 (iblk m c 6 t)) (k0_pay5 (iblk m c 5 t)) (k0_pay6 (k0_pay2 (iblk m c 2 t) (iblk m c 3 t) (iblk m c 0 t) (iblk m c 1 t))))
        (iblk m c 8 t) (iblk m c 9 t)) (k0_pay2 (iblk m c 2 t) (iblk m c 3 t) (iblk m c 0 t) (iblk m c 1 t)) (iblk m c 7 t) (iblk m c 10 t) (ix3 0 i e) = _
  rw [out_at]
  unfold last
  refine congrArg₂ (fun p q => normed p q e) (funext fun k => ?_) (funext fun k => blk_f m c t k)
  unfold body
  refine fed_congr k (hx k) (blk_gate2 m c t k b hb) ?_
  rw [tiles_at]
  refine ffn_congr (fun k => ?_) (fun k f => blk_u m c t k f) (fun f => blk_d m c t f k)
  exact (hid_at _ _ _ _ i k).trans (hid_congr hx (fun k => blk_g m c t k) (fun k => blk_sc m c t k b hb) (fun k => blk_sh m c t k b hb) k)

/-- The kernel's result array after its run is the last layer's result, element by element. -/
theorem final (c : Dev nD) : (dats m 0 c).arrAt 11 (cfgs 0).N = fun i : S16x2048x1024.Idx =>
      last (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (i 0) (i 1) (i 2) := by
  refine (dats m 0 c).arrAt_eq_of_covers 11 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_11]
  refine point m c t i j _ _ _ ?_ ?_ ?_
  all_goals
    blk_simp [hi]
    try omega

end Cert.LastKer

end
-- ==== Proof.LayerRef.lean ====
module

public import proofs.«01_k».proof.Proof.Gen.ReferenceLastIdeal.Run
public import proofs.«01_k».proof.Proof.Layer
public import Idealize.ShloMosaic.Lib.Pipeline.ValueKit
public import Idealize.ShloMosaic.Lib.Pointwise

@[expose] public section

set_option maxRecDepth 16384

noncomputable section

namespace Cert.LayerRef

open Idealize.ShloMosaic Idealize.ShloMosaic.TcCoe Idealize.SL.Sem
open Cert.ReferenceLastIdeal Cert.Layer

/-- An odd layer's mixer output projected. -/
def projected (O : FVec Ideal S16x2048x1024 .bf16) (W : FVec Ideal S1024x1024 .f32) : FVec Ideal S16x2048x1024 .f32 :=
  Host.dotGeneral dot_S16x2048x1024_S1024x1024_S16x2048x1024_2_0_01_1_n_n none (extf .f32 O Gen.bitsLt_bf16_f32) W

/-- The tokens with the mixer's projected output gated and added. -/
def mixing (X : FVec Ideal S16x2048x1024 .f32) (M : FVec Ideal S16x6144 .f32) (Y : FVec Ideal S16x2048x1024 .f32) : FVec Ideal S16x2048x1024 .f32 :=
  addf X (mulf (broadcastInDim S16x2048x1024 ![0, 1, 2] Gen.bcast_S16x1x1024_S16x2048x1024_0_1_2 (extractStridedSlice S16x1x1024 ![0, 0, 2048] (broadcastInDim S16x1x6144 ![0, 2] Gen.bcast_S16x6144_S16x1x6144_0_2 M) Gen.slices_S16x1x6144_S16x1x1024_0_0_2048)) Y)

/-- One over the root mean square of every token. -/
def roots (X : FVec Ideal S16x2048x1024 .f32) : FVec Ideal S16x2048x1 .f32 :=
  Host.rsqrt (addf (Host.divf (broadcastInDim S16x2048x1 ![0, 1] Gen.bcast_S16x2048_S16x2048x1_0_1 (Host.reduceAdd (mulf X X) (constant S_ .f32 0x00000000#32) Gen.reducesTo_S16x2048x1024_S16x2048_d2 Gen.h_S_))
    (broadcastInDim S16x2048x1 ![] Gen.bcast_S_S16x2048x1 (constant S_ .f32 0x44800000#32))) (broadcastInDim S16x2048x1 ![] Gen.bcast_S_S16x2048x1 (constant S_ .f32 0x358637BD#32)))

/-- The tokens normalised with their roots and a gain. -/
def gained (X : FVec Ideal S16x2048x1024 .f32) (R : FVec Ideal S16x2048x1 .f32) (g : FVec Ideal S1024 .f32) : FVec Ideal S16x2048x1024 .f32 :=
  mulf (mulf X (broadcastInDim S16x2048x1024 ![0, 1, 2] Gen.bcast_S16x2048x1_S16x2048x1024_0_1_2 R))
    (broadcastInDim S16x2048x1024 ![0, 1, 2] Gen.bcast_S1x1x1024_S16x2048x1024_0_1_2 (broadcastInDim S1x1x1024 ![2] Gen.bcast_S1024_S1x1x1024_2 g))

/-- The normalised tokens scaled and shifted by their sample's modulation. -/
def moved (Y : FVec Ideal S16x2048x1024 .f32) (M : FVec Ideal S16x6144 .f32) : FVec Ideal S16x2048x1024 .f32 :=
  addf (mulf Y (broadcastInDim S16x2048x1024 ![0, 1, 2] Gen.bcast_S16x1x1024_S16x2048x1024_0_1_2 (addf (broadcastInDim S16x1x1024 ![] Gen.bcast_S_S16x1x1024 (constant S_ .f32 0x3F800000#32))
      (extractStridedSlice S16x1x1024 ![0, 0, 4096] (broadcastInDim S16x1x6144 ![0, 2] Gen.bcast_S16x6144_S16x1x6144_0_2 M) Gen.slices_S16x1x6144_S16x1x1024_0_0_4096))))
    (broadcastInDim S16x2048x1024 ![0, 1, 2] Gen.bcast_S16x1x1024_S16x2048x1024_0_1_2 (extractStridedSlice S16x1x1024 ![0, 0, 3072] (broadcastInDim S16x1x6144 ![0, 2] Gen.bcast_S16x6144_S16x1x6144_0_2 M) Gen.slices_S16x1x6144_S16x1x1024_0_0_3072))

/-- The gates and their partners before the activation. -/
def lanes (H : FVec Ideal S16x2048x1024 .f32) (U : FVec Ideal S1024x5632 .f32) : FVec Ideal S16x2048x5632 .f32 :=
  Host.dotGeneral dot_S16x2048x1024_S1024x5632_S16x2048x5632_2_0_01_1_n_n none H U

/-- The activated gates times their partners. -/
def acts (P : FVec Ideal S16x2048x5632 .f32) : FVec Ideal S16x2048x2816 .f32 :=
  mulf (mulf (extractStridedSlice S16x2048x2816 ![0, 0, 0] P Gen.slices_S16x2048x5632_S16x2048x2816_0_0_0)
    (Host.divf (broadcastInDim S16x2048x2816 ![] Gen.bcast_S_S16x2048x2816 (constant S_ .f32 0x3F800000#32))
      (addf (broadcastInDim S16x2048x2816 ![] Gen.bcast_S_S16x2048x2816 (constant S_ .f32 0x3F800000#32)) (Host.exp (Host.negf (extractStridedSlice S16x2048x2816 ![0, 0, 0] P Gen.slices_S16x2048x5632_S16x2048x2816_0_0_0))))))
    (extractStridedSlice S16x2048x2816 ![0, 0, 2816] P Gen.slices_S16x2048x5632_S16x2048x2816_0_0_2816)

/-- The feed-forward's second contraction, gated and added to the tokens. -/
def adding (X : FVec Ideal S16x2048x1024 .f32) (M : FVec Ideal S16x6144 .f32) (A : FVec Ideal S16x2048x2816 .f32) (D : FVec Ideal S2816x1024 .f32) :
    FVec Ideal S16x2048x1024 .f32 :=
  addf X (mulf (broadcastInDim S16x2048x1024 ![0, 1, 2] Gen.bcast_S16x1x1024_S16x2048x1024_0_1_2 (extractStridedSlice S16x1x1024 ![0, 0, 5120] (broadcastInDim S16x1x6144 ![0, 2] Gen.bcast_S16x6144_S16x1x6144_0_2 M) Gen.slices_S16x1x6144_S16x1x1024_0_0_5120))
    (Host.dotGeneral dot_S16x2048x2816_S2816x1024_S16x2048x1024_2_0_01_1_n_n none A D))

/-- One lane of a projected output. -/
theorem projected_at (O : FVec Ideal S16x2048x1024 .bf16) (W : FVec Ideal S1024x1024 .f32) (b : Fin 16) (t : Fin 2048) (j : Fin 1024) :
    projected O W (ix3 b t j) = proj (fun k => O (ix3 b t k)) (fun k j => W (ix2 k j)) j := by
  dsimp only [proj]
  pointwise [projected]

/-- One lane of a mixed token. -/
theorem mixing_at (X : FVec Ideal S16x2048x1024 .f32) (M : FVec Ideal S16x6144 .f32) (Y : FVec Ideal S16x2048x1024 .f32)
    (b : Fin 16) (t : Fin 2048) (j : Fin 1024) : mixing X M Y (ix3 b t j)
      = mixed (fun j => X (ix3 b t j)) (fun j => M (ix2 b ⟨2048 + j.val, by omega⟩)) (fun j => Y (ix3 b t j)) j := by
  dsimp only [mixed]
  pointwise [mixing]

/-- One token's root. -/
theorem roots_at (X : FVec Ideal S16x2048x1024 .f32) (b : Fin 16) (t : Fin 2048) : roots X (ix3 b t 0) = rms (fun k => X (ix3 b t k)) := by
  dsimp only [rms, width, eps]
  pointwise [roots]

/-- One lane of a normalised token. -/
theorem gained_at (X : FVec Ideal S16x2048x1024 .f32) (R : FVec Ideal S16x2048x1 .f32) (g : FVec Ideal S1024 .f32) (b : Fin 16) (t : Fin 2048)
    (j : Fin 1024) : gained X R g (ix3 b t j) = X (ix3 b t j) * R (ix3 b t 0) * g (ix1 j) := by
  pointwise [gained]

/-- One lane of a modulated token. -/
theorem moved_at (Y : FVec Ideal S16x2048x1024 .f32) (M : FVec Ideal S16x6144 .f32) (b : Fin 16) (t : Fin 2048) (j : Fin 1024) :
    moved Y M (ix3 b t j) = Y (ix3 b t j) * (1 + M (ix2 b ⟨4096 + j.val, by omega⟩)) + M (ix2 b ⟨3072 + j.val, by omega⟩) := by
  pointwise [moved]

/-- One lane before the activation. -/
theorem lanes_at (H : FVec Ideal S16x2048x1024 .f32) (U : FVec Ideal S1024x5632 .f32) (b : Fin 16) (t : Fin 2048) (f : Fin 5632) :
    lanes H U (ix3 b t f) = ∑ k, H (ix3 b t k) * U (ix2 k f) := by
  pointwise [lanes]

/-- One lane of the hidden layer. -/
theorem acts_at (P : FVec Ideal S16x2048x5632 .f32) (b : Fin 16) (t : Fin 2048) (f : Fin 2816) :
    acts P (ix3 b t f) = silu (P (ix3 b t ⟨f.val, by omega⟩)) * P (ix3 b t ⟨2816 + f.val, by omega⟩) := by
  dsimp only [silu, Ideal.logistic]
  pointwise [acts]

/-- One lane of a token after the feed-forward. -/
theorem adding_at (X : FVec Ideal S16x2048x1024 .f32) (M : FVec Ideal S16x6144 .f32) (A : FVec Ideal S16x2048x2816 .f32)
    (D : FVec Ideal S2816x1024 .f32) (b : Fin 16) (t : Fin 2048) (j : Fin 1024) : adding X M A D (ix3 b t j)
      = X (ix3 b t j) + M (ix2 b ⟨5120 + j.val, by omega⟩) * ∑ f : Fin 2816, A (ix3 b t f) * D (ix2 f j) := by
  pointwise [adding]

/-- The feed-forward's tokens out of the mixed tokens. -/
def feeding (X : FVec Ideal S16x2048x1024 .f32) (M : FVec Ideal S16x6144 .f32) (g : FVec Ideal S1024 .f32) (U : FVec Ideal S1024x5632 .f32)
    (D : FVec Ideal S2816x1024 .f32) : FVec Ideal S16x2048x1024 .f32 :=
  adding X M (acts (lanes (moved (gained X (roots X) g) M) U)) D

/-- One lane of the modulated token is the hidden token's. -/
theorem moved_hid (X : FVec Ideal S16x2048x1024 .f32) (M : FVec Ideal S16x6144 .f32) (g : FVec Ideal S1024 .f32) (b : Fin 16) (t : Fin 2048)
    (k : Fin 1024) : moved (gained X (roots X) g) M (ix3 b t k)
      = hid (fun j => X (ix3 b t j)) (fun j => g (ix1 j)) (fun j => M (ix2 b ⟨4096 + j.val, by omega⟩)) (fun j => M (ix2 b ⟨3072 + j.val, by omega⟩)) k := by
  rw [moved_at, gained_at, roots_at]
  rfl

/-- One lane of a token after the feed-forward, out of the mixed token. -/
theorem feeding_at (X : FVec Ideal S16x2048x1024 .f32) (M : FVec Ideal S16x6144 .f32) (g : FVec Ideal S1024 .f32)
    (U : FVec Ideal S1024x5632 .f32) (D : FVec Ideal S2816x1024 .f32) (b : Fin 16) (t : Fin 2048) (j : Fin 1024) :
    feeding X M g U D (ix3 b t j) = fed (fun j => X (ix3 b t j)) (fun j => g (ix1 j)) (fun j => M (ix2 b ⟨4096 + j.val, by omega⟩))
      (fun j => M (ix2 b ⟨3072 + j.val, by omega⟩)) (fun j => M (ix2 b ⟨5120 + j.val, by omega⟩)) (fun k f => U (ix2 k f)) (fun f j => D (ix2 f j)) j := by
  unfold feeding
  rw [adding_at]
  unfold fed ffn act
  simp only [acts_at, lanes_at, moved_hid]

/-- The projection an odd layer takes: the `o`-th. -/
def weights (o : ℕ) (h : S2x1024x1024.Slices ![o, 0, 0] S1x1024x1024) (W : FVec Ideal S2x1024x1024 .f32) : FVec Ideal S1024x1024 .f32 :=
  shapeCast S1024x1024 (extractStridedSlice S1x1024x1024 ![o, 0, 0] W h) Gen.shapeCasts_S1x1024x1024_S1024x1024

/-- Layer `o`'s gain of the norm before the feed-forward. -/
def gain (o : ℕ) (h : S4x1024.Slices ![o, 0] S1x1024) (G : FVec Ideal S4x1024 .f32) : FVec Ideal S1024 .f32 :=
  shapeCast S1024 (extractStridedSlice S1x1024 ![o, 0] G h) Gen.shapeCasts_S1x1024_S1024

/-- Layer `o`'s gates and their partners. -/
def up (o : ℕ) (h : S4x1024x5632.Slices ![o, 0, 0] S1x1024x5632) (U : FVec Ideal S4x1024x5632 .f32) : FVec Ideal S1024x5632 .f32 :=
  shapeCast S1024x5632 (extractStridedSlice S1x1024x5632 ![o, 0, 0] U h) Gen.shapeCasts_S1x1024x5632_S1024x5632

/-- Layer `o`'s second weights. -/
def down (o : ℕ) (h : S4x2816x1024.Slices ![o, 0, 0] S1x2816x1024) (D : FVec Ideal S4x2816x1024 .f32) : FVec Ideal S2816x1024 .f32 :=
  shapeCast S2816x1024 (extractStridedSlice S1x2816x1024 ![o, 0, 0] D h) Gen.shapeCasts_S1x2816x1024_S2816x1024

/-- One weight of the projection. -/
theorem weights_at (l : Fin 2) (h : S2x1024x1024.Slices ![l.val, 0, 0] S1x1024x1024) (W : FVec Ideal S2x1024x1024 .f32) (k j : Fin 1024) :
    weights l.val h W (ix2 k j) = W (ix3 l k j) := by
  pointwise [weights]
  blk_ext

/-- One lane of the gain. -/
theorem gain_at (l : Fin 4) (h : S4x1024.Slices ![l.val, 0] S1x1024) (G : FVec Ideal S4x1024 .f32) (j : Fin 1024) :
    gain l.val h G (ix1 j) = G (ix2 l j) := by
  pointwise [gain]
  blk_ext

/-- One gate's weight. -/
theorem up_at (l : Fin 4) (h : S4x1024x5632.Slices ![l.val, 0, 0] S1x1024x5632) (U : FVec Ideal S4x1024x5632 .f32) (k : Fin 1024) (f : Fin 5632) :
    up l.val h U (ix2 k f) = U (ix3 l k f) := by
  pointwise [up]
  blk_ext

/-- One weight of the second contraction. -/
theorem down_at (l : Fin 4) (h : S4x2816x1024.Slices ![l.val, 0, 0] S1x2816x1024) (D : FVec Ideal S4x2816x1024 .f32) (f : Fin 2816) (j : Fin 1024) :
    down l.val h D (ix2 f j) = D (ix3 l f j) := by
  pointwise [down]
  blk_ext

/-- One lane of an odd layer's projected mixer output. -/
theorem out_at (l : Fin 2) (h : S2x1024x1024.Slices ![l.val, 0, 0] S1x1024x1024) (O : FVec Ideal S16x2048x1024 .bf16)
    (W : FVec Ideal S2x1024x1024 .f32) (b : Fin 16) (t : Fin 2048) (k : Fin 1024) :
    projected O (weights l.val h W) (ix3 b t k) = odd l O W b t k := by
  rw [projected_at]
  exact proj_congr (fun _ => rfl) (weights_at l h W) k

/-- The tokens after layer `o`'s residual and feed-forward. -/
def tokens (o : ℕ) (hg : S4x1024.Slices ![o, 0] S1x1024) (hu : S4x1024x5632.Slices ![o, 0, 0] S1x1024x5632)
    (hd : S4x2816x1024.Slices ![o, 0, 0] S1x2816x1024) (X : FVec Ideal S16x2048x1024 .f32) (M : FVec Ideal S16x6144 .f32)
    (Y : FVec Ideal S16x2048x1024 .f32) (G : FVec Ideal S4x1024 .f32) (U : FVec Ideal S4x1024x5632 .f32) (D : FVec Ideal S4x2816x1024 .f32) :
    FVec Ideal S16x2048x1024 .f32 := feeding (mixing X M Y) M (gain o hg G) (up o hu U) (down o hd D)

/-- One lane of a token after the residual and the feed-forward. -/
theorem tokens_at (l : Fin 4) (hg : S4x1024.Slices ![l.val, 0] S1x1024) (hu : S4x1024x5632.Slices ![l.val, 0, 0] S1x1024x5632)
    (hd : S4x2816x1024.Slices ![l.val, 0, 0] S1x2816x1024) (X : FVec Ideal S16x2048x1024 .f32) (M : FVec Ideal S16x6144 .f32)
    (Y : FVec Ideal S16x2048x1024 .f32) (G : FVec Ideal S4x1024 .f32) (U : FVec Ideal S4x1024x5632 .f32) (D : FVec Ideal S4x2816x1024 .f32)
    (b : Fin 16) (t : Fin 2048) (y : Fin 1024 → EReal) (hy : ∀ k, Y (ix3 b t k) = y k) (j : Fin 1024) :
    tokens l.val hg hu hd X M Y G U D (ix3 b t j) = body l X M y G U D b t j := by
  unfold tokens
  rw [feeding_at]
  unfold body
  simp only [mixing_at, hy, gain_at, up_at, down_at]

end Cert.LayerRef

end
-- ==== Proof.LastRef.lean ====
module

public import proofs.«01_k».proof.Proof.Gen.ReferenceLastIdeal.Run
public import proofs.«01_k».proof.Proof.LayerRef
public import Idealize.ShloMosaic.Lib.Pointwise

@[expose] public section

set_option maxRecDepth 16384

noncomputable section

namespace Cert.LastRef

open Idealize.ShloMosaic Idealize.ShloMosaic.TcCoe Idealize.SL.Sem
open Cert.ReferenceLastIdeal Cert.Layer Cert.LayerRef

variable (m : (ℓ : Loc nD τ sig) → Buf (Elt Ideal) ℓ)

/-- The reference's tokens before the final norm. -/
def kept (c : Dev nD) : FVec Ideal S16x2048x1024 .f32 :=
  tokens (3 : Fin 4).val Gen.slices_S4x1024_S1x1024_3_0 Gen.slices_S4x1024x5632_S1x1024x5632_3_0_0 Gen.slices_S4x2816x1024_S1x2816x1024_3_0_0
    (m ((c.tc : Thread nD τ).loc main_arg0)) (m ((c.tc : Thread nD τ).loc main_arg1))
    (projected (m ((c.tc : Thread nD τ).loc main_arg2)) (weights (1 : Fin 2).val Gen.slices_S2x1024x1024_S1x1024x1024_1_0_0 (m ((c.tc : Thread nD τ).loc main_arg3))))
    (m ((c.tc : Thread nD τ).loc main_arg4)) (m ((c.tc : Thread nD τ).loc main_arg5)) (m ((c.tc : Thread nD τ).loc main_arg6))

/-- The reference's result in its stages. -/
theorem res_eq (c : Dev nD) : Value.res_main_v60 m c = gained (kept m c) (roots (kept m c)) (m ((c.tc : Thread nD τ).loc main_arg7)) := by
  unfold Value.res_main_v60 gained kept tokens feeding adding acts lanes moved gained gain up down roots mixing projected weights
  rfl

/-- One lane of a token before the final norm. -/
theorem kept_at (c : Dev nD) (b : Fin 16) (t : Fin 2048) (j : Fin 1024) : kept m c (ix3 b t j)
      = body 3 (m ((c.tc : Thread nD τ).loc main_arg0)) (m ((c.tc : Thread nD τ).loc main_arg1)) (odd 1 (m ((c.tc : Thread nD τ).loc main_arg2)) (m ((c.tc : Thread nD τ).loc main_arg3)) b t) (m ((c.tc : Thread nD τ).loc main_arg4)) (m ((c.tc : Thread nD τ).loc main_arg5)) (m ((c.tc : Thread nD τ).loc main_arg6)) b t j :=
  tokens_at 3 _ _ _ _ _ _ _ _ _ b t _ (out_at 1 _ _ _ b t) j

/-- The reference's result, element by element. -/
theorem ref_at (c : Dev nD) (b : Fin 16) (t : Fin 2048) (j : Fin 1024) :
    (show FVec Ideal S16x2048x1024 .f32 from Value.res_main_v60 m c) (ix3 b t j)
      = last (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) b t j := by
  rw [res_eq]
  dsimp only
  rw [gained_at, roots_at]
  unfold last normed
  simp only [kept_at]

end Cert.LastRef

end
-- ==== Proof.Last.lean ====
module

public import proofs.«01_k».proof.Defs
public import proofs.«01_k».proof.Proof.LastKer
public import proofs.«01_k».proof.Proof.LastRef
public import Idealize.ShloMosaic.Lib.Quiescent

@[expose] public section

set_option maxRecDepth 16384

noncomputable section

namespace Cert.Last

open Idealize.ShloMosaic Idealize.ShloMosaic.TcCoe Idealize.SL.Sem

attribute [local instance] Cert.KernelLastIdeal.Gen.facts Cert.ReferenceLastIdeal.Gen.facts

/-- The last layer's kernel and its reference leave the same array, whatever the arguments. -/
theorem algebraic : Cert.algebraic_KernelLastIdeal_ReferenceLastIdeal := by
  pair_intro
  · run_from Cert.KernelLastIdeal.Gen.run_main m g
    all_goals first
      | exact Cert.KernelLastIdeal.Gen.V_main_arg0 m c
      | exact Cert.KernelLastIdeal.Gen.V_main_arg1 m c
      | exact Cert.KernelLastIdeal.Gen.V_main_arg2 m c
      | exact Cert.KernelLastIdeal.Gen.V_main_arg3 m c
      | exact Cert.KernelLastIdeal.Gen.V_main_arg4 m c
      | exact Cert.KernelLastIdeal.Gen.V_main_arg5 m c
      | exact Cert.KernelLastIdeal.Gen.V_main_arg6 m c
      | exact Cert.KernelLastIdeal.Gen.V_main_arg7 m c
  · run_from Cert.ReferenceLastIdeal.Value.run m' g'
    rw [Cert.LastKer.final m c]
    obtain ⟨a0, a1, a2, a3, a4, a5, a6, a7⟩ := hagree c
    funext i
    obtain ⟨b, t, j, rfl⟩ : ∃ b t j, i = ix3 b t j := ⟨_, _, _, eq_ix3 i⟩
    refine (Cert.LastRef.ref_at m' c b t j).trans ?_
    rw [a0, a1, a2, a3, a4, a5, a6, a7]
    rfl

/-- The reference's frame: its arguments end unchanged, and it declares no semaphore. -/
theorem frame_reference : Cert.quiescent_ReferenceLastIdeal := fun m g _ =>
  (θ_run Cert.ReferenceLastIdeal.defs _ _).mono (fun r h => ⟨fun c => (h c).2, sem_eq_zero_of_no_sems (by decide) r.2⟩)
    (Cert.ReferenceLastIdeal.Value.run m g)

end Cert.Last

end
-- ==== Proof.Gate.lean ====
module

public import proofs.«01_k».proof.Proof.Layer

@[expose] public section

set_option maxRecDepth 16384

noncomputable section

namespace Cert.Gate

open Idealize.ShloMosaic Cert.Layer

/-- One half, as the activation takes it. -/
def half : EReal := Ideal.ofBits FTy.f32 0x3F000000#32

/-- One over the root of two, as the activation takes it. -/
def root : EReal := Ideal.ofBits FTy.f32 0x3F3504F3#32

/-- The number the layer norm adds below its root. -/
def tiny : EReal := Ideal.ofBits FTy.f32 0x3727C5AC#32

/-- The exact gelu. -/
def gelu (x : EReal) : EReal := half * x * (1 + Ideal.erf (x * root))

/-- The gelu in its form with the complementary error function. -/
theorem gelu_erfc (x : EReal) : half * x * Ideal.erfc (-x * root) = gelu x := by
  rw [gelu, EReal.neg_mul, Ideal.erfc_neg]

/-- The mean of a token's lanes. -/
def mean (v : Fin 1024 → EReal) : EReal := Ideal.div (∑ k, v k) width

/-- One over the standard deviation of a token's lanes. -/
def spread (v : Fin 1024 → EReal) : EReal :=
  Ideal.rsqrt (Ideal.div (∑ k, (v k - mean v) * (v k - mean v)) width + tiny)

/-- A token under the layer norm, with its gain and bias. -/
def lnorm (v g b : Fin 1024 → EReal) (k : Fin 1024) : EReal := (v k - mean v) * spread v * g k + b k

/-- The second gelu of a token's input projection: the values the gates mix. -/
def vals (h : Fin 1024 → EReal) (W : Fin 1024 → Fin 5120 → EReal) (k : Fin 1024) : EReal :=
  gelu (∑ i, h i * W i ⟨1024 + k.val, by omega⟩)

/-- The first gelu of a token's input projection: what the gate multiplies. -/
def ups (h : Fin 1024 → EReal) (W : Fin 1024 → Fin 5120 → EReal) (k : Fin 1024) : EReal :=
  gelu (∑ i, h i * W i ⟨k.val, by omega⟩)

/-- A gated lane: token `p` of a chunk, its lane `j`, out of the chunk's hidden tokens. -/
def chunk (H : Fin 128 → Fin 1024 → EReal) (W : Fin 1024 → Fin 5120 → EReal) (g b : Fin 1024 → EReal)
    (S : Fin 128 → Fin 128 → EReal) (B : Fin 128 → EReal) (p : Fin 128) (j : Fin 1024) : EReal :=
  ups (H p) W j * ((∑ q, S p q * lnorm (vals (H q) W) g b j) + B p)

/-- The hidden token of a position: normalised and modulated by its sample's vectors. -/
def token (X : FVec Ideal ⟨3, ![16, 2048, 1024]⟩ .f32) (M : FVec Ideal ⟨2, ![16, 6144]⟩ .f32)
    (G : FVec Ideal ⟨2, ![4, 1024]⟩ .f32) (b : Fin 16) (t : Fin 2048) : Fin 1024 → EReal :=
  hid (fun k => X (ix3 b t k)) (fun k => G (ix2 0 k)) (fun k => M (ix2 b ⟨1024 + k.val, by omega⟩)) (fun k => M (ix2 b ⟨k.val, by omega⟩))

/-- The lanes of the input projection that go on to the convolutions. -/
def beside (X : FVec Ideal ⟨3, ![16, 2048, 1024]⟩ .f32) (M : FVec Ideal ⟨2, ![16, 6144]⟩ .f32)
    (G : FVec Ideal ⟨2, ![4, 1024]⟩ .f32) (W : FVec Ideal ⟨3, ![2, 1024, 5120]⟩ .f32) (b : Fin 16) (t : Fin 2048) (j : Fin 3072) : EReal :=
  ∑ k, token X M G b t k * W (ix3 0 k ⟨2048 + j.val, by omega⟩)

/-- The gated result at a position's lane: lane `j` belongs to head `j / 128`, position `t` to the chunk of 128 tokens
    that starts at `t / 128 * 128`. -/
def gated (X : FVec Ideal ⟨3, ![16, 2048, 1024]⟩ .f32) (M : FVec Ideal ⟨2, ![16, 6144]⟩ .f32)
    (G : FVec Ideal ⟨2, ![4, 1024]⟩ .f32) (W : FVec Ideal ⟨3, ![2, 1024, 5120]⟩ .f32) (g b : FVec Ideal ⟨2, ![2, 1024]⟩ .f32)
    (S : FVec Ideal ⟨4, ![2, 8, 128, 128]⟩ .f32) (B : FVec Ideal ⟨3, ![2, 8, 128]⟩ .f32) (s : Fin 16) (t : Fin 2048) (j : Fin 1024) : EReal :=
  chunk (fun q => token X M G s ⟨t.val / 128 * 128 + q.val, by omega⟩) (fun k f => W (ix3 0 k f)) (fun k => g (ix2 0 k)) (fun k => b (ix2 0 k))
    (fun p q => S (ix4 0 ⟨j.val / 128, by omega⟩ p q)) (fun p => B (ix3 0 ⟨j.val / 128, by omega⟩ p)) ⟨t.val % 128, by omega⟩ j

/-- Equal reads give equal gated lanes. -/
theorem chunk_congr {H H' : Fin 128 → Fin 1024 → EReal} {W W' : Fin 1024 → Fin 5120 → EReal} {g g' b b' : Fin 1024 → EReal}
    {S S' : Fin 128 → Fin 128 → EReal} {B B' : Fin 128 → EReal} (a : ∀ q k, H q k = H' q k) (e : ∀ k f, W k f = W' k f)
    (c : ∀ k, g k = g' k) (d : ∀ k, b k = b' k) (s : ∀ p q, S p q = S' p q) (r : ∀ p, B p = B' p) (p : Fin 128) (j : Fin 1024) :
    chunk H W g b S B p j = chunk H' W' g' b' S' B' p j := by
  rw [funext fun q => funext (a q), funext fun k => funext (e k), funext c, funext d, funext fun p => funext (s p), funext r]

end Cert.Gate

end
-- ==== Proof.EvenKer.lean ====
module

public import proofs.«01_k».proof.Proof.Gen.KernelEvenIdeal.Value
public import proofs.«01_k».proof.Proof.Gate
public import Idealize.ShloMosaic.Lib.Pipeline.ValueKit
public import Idealize.ShloMosaic.Lib.Pointwise
public import Idealize.ShloMosaic.Lib.Claim

@[expose] public section

set_option maxRecDepth 16384

noncomputable section

namespace Cert.EvenKer

open Idealize.ShloMosaic Idealize.ShloMosaic.TcCoe Idealize.SL.Sem
open Idealize.ShloMosaic.Pipeline (Dat)
open Cert.KernelEvenIdeal Cert.KernelEvenIdeal.Gen Cert.Layer Cert.Gate

/-- The hidden token the body feeds to its three products. -/
theorem hid_at (x : Vec Ideal S1x512x1024 .f32) (g : Vec Ideal S1x1024 .f32) (sc sh : Vec Ideal S1x1x1024 .f32) (i : Fin 512) (j : Fin 1024) :
    k0_pay3 x g sc sh (ix2 i j)
      = hid (fun k => x (ix3 0 i k)) (fun k => g (ix2 0 k)) (fun k => sc (ix3 0 0 k)) (fun k => sh (ix3 0 0 k)) j := by
  pointwise [k0_pay3]
  dsimp only [hid, rms, width, eps]

/-- The first gelu of a token. -/
theorem ups_at (h : FVec Ideal S512x1024 .bf16) (w : Vec Ideal S1x1024x1024 .bf16) (i : Fin 512) (j : Fin 1024) :
    k0_pay8 h w (ix2 i j) = gelu (∑ k : Fin 1024, h (ix2 i k) * w (ix3 0 k j)) := by
  pointwise [k0_pay8]
  rfl

/-- The lanes that go on to the convolutions. -/
theorem beside_at (h : FVec Ideal S512x1024 .bf16) (w : Vec Ideal S1x1024x3072 .bf16) (i : Fin 512) (j : Fin 3072) :
    k0_pay9 h w (ix3 0 i j) = ∑ k : Fin 1024, h (ix2 i k) * w (ix3 0 k j) := by
  pointwise [k0_pay9]

/-- The lanes below the second gelu. -/
theorem pre_at (x : Vec Ideal S1x512x1024 .f32) (g : Vec Ideal S1x1024 .f32) (sc sh : Vec Ideal S1x1x1024 .f32)
    (w : Vec Ideal S1x1024x1024 .bf16) (i : Fin 512) (j : Fin 1024) :
    k0_pay4 x g sc sh w (ix2 i j) = ∑ k : Fin 1024, k0_pay3 x g sc sh (ix2 i k) * w (ix3 0 k j) := by
  pointwise [k0_pay4]

/-- The second gelu's two factors. -/
theorem vals_at (x : Vec Ideal S1x512x1024 .f32) (g : Vec Ideal S1x1024 .f32) (sc sh : Vec Ideal S1x1x1024 .f32)
    (w : Vec Ideal S1x1024x1024 .bf16) (i : Fin 512) (j : Fin 1024) :
    k0_pay5 x g sc sh w (ix2 i j) * (k0_pay7 (F := Ideal) (ix2 i j) + k0_pay6 x g sc sh w (ix2 i j))
      = gelu (∑ k : Fin 1024, k0_pay3 x g sc sh (ix2 i k) * w (ix3 0 k j)) := by
  rw [← pre_at]
  pointwise [k0_pay5, k0_pay6, k0_pay7]
  rfl

/-- The layer norm of the second gelu, before its gain and bias. -/
theorem norm_at (a b o : FVec Ideal S512x1024 .f32) (v : Fin 512 → Fin 1024 → EReal) (hv : ∀ i j, a (ix2 i j) * (o (ix2 i j) + b (ix2 i j)) = v i j)
    (i : Fin 512) (j : Fin 1024) : k0_pay10 a b o (ix2 i j) = (v i j - mean (v i)) * spread (v i) := by
  pointwise [k0_pay10]
  simp only [hv]
  dsimp only [mean, spread, width, tiny]

/-- The gain and bias of the layer norm. -/
theorem gain_at (a : FVec Ideal S512x1024 .f32) (g b : Vec Ideal S1x1024 .f32) (i : Fin 512) (j : Fin 1024) :
    k0_pay12 a (k0_pay11 g) b (ix2 i j) = a (ix2 i j) * g (ix2 0 j) + b (ix2 0 j) := by
  pointwise [k0_pay12, k0_pay11]

/-- One tile of the gated result: the head's weights contracted with the tile's own chunk, its bias added, and what the
    first gelu gives there multiplied. -/
def tile (c : ℕ) (r : ℕ) (u : FVec Ideal S512x1024 .f32) (v : FVec Ideal S512x1024 .bf16) (w : FVec Ideal S1x1x128x128 .bf16)
    (b : FVec Ideal S128x128 .f32) (h0 : Shape.Slices S512x1024 ![0, c] S128x128) (h1 : Shape.Slices S512x1024 ![128, c] S128x128)
    (h2 : Shape.Slices S512x1024 ![256, c] S128x128) (h3 : Shape.Slices S512x1024 ![384, c] S128x128)
    (hr : Shape.Slices S512x1024 ![r, c] S128x128) (hs : Shape.Slices S128x512 ![0, r] S128x128) : FVec Ideal S1x128x128 .bf16 :=
  shapeCast S1x128x128 (truncf .bf16 (mulf (extractStridedSlice S128x128 ![r, c] u hr)
    (addf (extractStridedSlice S128x128 ![0, r] (matmul dot_S128x128_S128x512_S128x512_1_0_0_1_n_n none
        (shapeCast S128x128 w shapeCasts_S1x1x128x128_S128x128)
        (concatenate S128x512 1 [⟨S128x128, extractStridedSlice S128x128 ![0, c] v h0⟩, ⟨S128x128, extractStridedSlice S128x128 ![128, c] v h1⟩,
          ⟨S128x128, extractStridedSlice S128x128 ![256, c] v h2⟩, ⟨S128x128, extractStridedSlice S128x128 ![384, c] v h3⟩]
          concatenates_S128x128_S128x128_S128x128_S128x128_S128x512_d1) (constant S128x512 .f32 0x00000000#32)) hs)
      (shapeCast S128x128 b shapeCasts_S128x128_S128x128))) bitsLt_bf16_f32) shapeCasts_S128x128_S1x128x128

/-- A tile's lane. -/
theorem tile_at (c r : ℕ) (u : FVec Ideal S512x1024 .f32) (v : FVec Ideal S512x1024 .bf16) (w : FVec Ideal S1x1x128x128 .bf16)
    (b : FVec Ideal S128x128 .f32) (h0 : Shape.Slices S512x1024 ![0, c] S128x128) (h1 : Shape.Slices S512x1024 ![128, c] S128x128)
    (h2 : Shape.Slices S512x1024 ![256, c] S128x128) (h3 : Shape.Slices S512x1024 ![384, c] S128x128)
    (hr : Shape.Slices S512x1024 ![r, c] S128x128) (hs : Shape.Slices S128x512 ![0, r] S128x128)
    (hk : r = 0 ∨ r = 128 ∨ r = 256 ∨ r = 384) (n : Fin 512) (f : Fin 1024) (p j : Fin 128) (hn : n.val = r + p.val) (hf : f.val = c + j.val)
    (row : Fin 128 → Fin 512) (hrow : ∀ q, (row q).val = r + q.val) :
    tile c r u v w b h0 h1 h2 h3 hr hs (ix3 0 p j)
      = u (ix2 n f) * ((∑ q, w (ix4 0 0 p q) * v (ix2 (row q) f)) + b (ix2 p j)) := by
  have bp : ∀ q : Fin 128, r + q.val < 512 := fun q => by omega
  have bj : c + j.val < 1024 := by omega
  obtain rfl : n = ⟨r + p.val, bp p⟩ := Fin.ext hn
  obtain rfl : f = ⟨c + j.val, bj⟩ := Fin.ext hf
  obtain rfl : row = fun q => ⟨r + q.val, bp q⟩ := funext fun q => Fin.ext (hrow q)
  rcases hk with rfl | rfl | rfl | rfl
  all_goals
    pointwise [tile]
    try blk_ext
  · simp only [dif_neg (show ¬ 256 + j.val < 128 by omega), dif_neg (show ¬ 256 + j.val - 128 < 128 by omega),
      show 256 + j.val - 128 - 128 = j.val by omega, dif_pos j.isLt]
  · simp only [dif_neg (show ¬ 384 + j.val < 128 by omega), dif_neg (show ¬ 384 + j.val - 128 < 128 by omega),
      dif_neg (show ¬ 384 + j.val - 128 - 128 < 128 by omega), show 384 + j.val - 128 - 128 - 128 = j.val by omega]

/-- The input weights' columns from an offset on. -/
theorem ld_cols (B : Vec Ideal S1x1024x5120 .bf16) (n o : ℕ) (h : ∀ a, (![0, 0, o] : Fin 3 → ℕ) a + (![1, 1024, n] : Fin 3 → ℕ) a ≤ S1x1024x5120.size a)
    (k : Fin 1024) (f : Fin n) (e : Fin 5120) (he : e.val = o + f.val) :
    (show FVec Ideal ⟨3, ![1, 1024, n]⟩ .bf16 from View.ld B (Rect.unit ![0, 0, o] ![1, 1024, n] h)) (ix3 0 k f) = B (ix3 0 k e) := by
  show View.ld B (Rect.unit ![0, 0, o] ![1, 1024, n] h) (ix3 0 k f) = _
  pointwise
  blk_point []

/-- One head of the mixing weights. -/
theorem ld_head (B : Vec Ideal S1x8x128x128 .bf16) (o : ℕ)
    (h : ∀ a, (![0, o, 0, 0] : Fin 4 → ℕ) a + (![1, 1, 128, 128] : Fin 4 → ℕ) a ≤ S1x8x128x128.size a) (p q : Fin 128) (e : Fin 8) (he : e.val = o) :
    (show FVec Ideal S1x1x128x128 .bf16 from View.ld B (Rect.unit ![0, o, 0, 0] ![1, 1, 128, 128] h)) (ix4 0 0 p q) = B (ix4 0 e p q) := by
  show View.ld B (Rect.unit ![0, o, 0, 0] ![1, 1, 128, 128] h) (ix4 0 0 p q) = _
  pointwise
  blk_point []

/-- A head's columns of the bias. -/
theorem ld_bias (B : Vec Ideal S128x1024 .f32) (o : ℕ) (h : ∀ a, (![0, o] : Fin 2 → ℕ) a + (![128, 128] : Fin 2 → ℕ) a ≤ S128x1024.size a)
    (p j : Fin 128) (e : Fin 1024) (he : e.val = o + j.val) :
    (show FVec Ideal S128x128 .f32 from View.ld B (Rect.unit ![0, o] ![128, 128] h)) (ix2 p j) = B (ix2 p e) := by
  show View.ld B (Rect.unit ![0, o] ![128, 128] h) (ix2 p j) = _
  pointwise
  blk_point []

/-- The gated block out of the first gelu, the normalised values, the heads' weights and their biases. -/
def mix (u : FVec Ideal S512x1024 .f32) (v : FVec Ideal S512x1024 .bf16) (x7 : Vec Ideal S1x8x128x128 .bf16) (x8 : Vec Ideal S128x1024 .f32)
    (i : Fin 512) (j : Fin 1024) : EReal :=
  u (ix2 i j) * ((∑ q : Fin 128, x7 (ix4 0 ⟨j.val / 128, by omega⟩ ⟨i.val % 128, by omega⟩ q) * v (ix2 ⟨i.val / 128 * 128 + q.val, by omega⟩ j))
    + x8 (ix2 ⟨i.val % 128, by omega⟩ j))

/-- A tile with its reads of the heads' weights and biases is that part of the gated block. -/
theorem tile_mix (o c r : ℕ) (u : FVec Ideal S512x1024 .f32) (v : FVec Ideal S512x1024 .bf16) (x7 : Vec Ideal S1x8x128x128 .bf16) (x8 : Vec Ideal S128x1024 .f32)
    (h7 : ∀ a, (![0, o, 0, 0] : Fin 4 → ℕ) a + (![1, 1, 128, 128] : Fin 4 → ℕ) a ≤ S1x8x128x128.size a)
    (h8 : ∀ a, (![0, c] : Fin 2 → ℕ) a + (![128, 128] : Fin 2 → ℕ) a ≤ S128x1024.size a) (h0 : Shape.Slices S512x1024 ![0, c] S128x128) (h1 : Shape.Slices S512x1024 ![128, c] S128x128)
    (h2 : Shape.Slices S512x1024 ![256, c] S128x128) (h3 : Shape.Slices S512x1024 ![384, c] S128x128)
    (hr : Shape.Slices S512x1024 ![r, c] S128x128) (hs : Shape.Slices S128x512 ![0, r] S128x128)
    (hk : r = 0 ∨ r = 128 ∨ r = 256 ∨ r = 384) (hc : c = o * 128) (i : Fin 512) (j : Fin 1024) (x : S1x128x128.Idx) (hi : i.val = r + (x 1).val)
    (hj : j.val = c + (x 2).val) :
    tile c r u v (View.ld x7 (Rect.unit ![0, o, 0, 0] ![1, 1, 128, 128] h7)) (View.ld x8 (Rect.unit ![0, c] ![128, 128] h8)) h0 h1 h2 h3 hr hs x
      = mix u v x7 x8 i j := by
  obtain ⟨z, p, f, rfl⟩ : ∃ z p f, x = ix3 z p f := ⟨_, _, _, eq_ix3 x⟩
  obtain rfl : z = 0 := Subsingleton.elim _ _
  replace hi : i.val = r + p.val := hi
  replace hj : j.val = c + f.val := hj
  rw [tile_at c r u v _ _ h0 h1 h2 h3 hr hs hk i j p f hi hj (fun q => ⟨i.val / 128 * 128 + q.val, by omega⟩) (fun q => by simp only; omega)]
  have hp : (⟨i.val % 128, by omega⟩ : Fin 128) = p := Fin.ext (by simp only; omega)
  unfold mix
  rw [hp]
  exact congrArg₂ (· * ·) rfl (congrArg₂ (· + ·) (Finset.sum_congr rfl fun q _ => congrArg₂ (· * ·) (ld_head x7 o h7 p q ⟨j.val / 128, by omega⟩ (by simp only; omega)) rfl)
    (ld_bias x8 c h8 p f j hj))

/-- What the body leaves in its gated block, out of its two gelus. -/
theorem out9_mix (x0 : Vec Ideal S1x512x1024 .f32) (x1 : Vec Ideal S1x1024 .f32) (x2 x3 : Vec Ideal S1x1x1024 .f32) (x4 : Vec Ideal S1x1024x5120 .bf16)
    (x5 x6 : Vec Ideal S1x1024 .f32) (x7 : Vec Ideal S1x8x128x128 .bf16) (x8 : Vec Ideal S128x1024 .f32) (y : S1x512x1024.Idx) :
    out0_9 x0 x1 x2 x3 x4 x5 x6 x7 x8 y
      = mix (k0_pay62 x0 x1 x2 x3 x4 x5 x6 x7 x8) (k0_pay65 x0 x1 x2 x3 x4 x5 x6 x7 x8) x7 x8 (y 1) (y 2) := by
  unfold out0_9 k0_pay71 k0_pay70 k0_pay69 k0_pay68 k0_pay67 k0_pay66 k0_pay65
  generalize k0_pay62 x0 x1 x2 x3 x4 x5 x6 x7 x8 = u
  generalize k0_pay63 x0 x1 x2 x3 x4 x5 x6 x7 x8 = a
  generalize k0_pay64 x0 x1 x2 x3 x4 x5 x6 x7 x8 = b
  generalize View.ld x6 r0_1 = d
  canon_tiles x h
  all_goals
    open_payloads
    exact tile_mix _ _ _ u _ x7 x8 _ _ _ _ _ _ _ _ (by omega) (by omega) (y 1) (y 2) x (by omega) (by omega)

/-- The other block: the lanes that go on to the convolutions. -/
theorem out10_at (x0 : Vec Ideal S1x512x1024 .f32) (x1 : Vec Ideal S1x1024 .f32) (x2 x3 : Vec Ideal S1x1x1024 .f32) (x4 : Vec Ideal S1x1024x5120 .bf16)
    (x5 x6 : Vec Ideal S1x1024 .f32) (x7 : Vec Ideal S1x8x128x128 .bf16) (x8 : Vec Ideal S128x1024 .f32) (i : Fin 512) (j : Fin 3072) :
    out0_10 x0 x1 x2 x3 x4 x5 x6 x7 x8 (ix3 0 i j)
      = ∑ k : Fin 1024, k0_pay3 x0 x1 x3 x2 (ix2 i k) * x4 (ix3 0 k ⟨2048 + j.val, by omega⟩) := by
  unfold out0_10 k0_pay61
  frame_out
  rw [beside_at]
  exact Finset.sum_congr rfl fun k _ => congrArg₂ (· * ·) rfl (ld_cols x4 3072 2048 inb_S1x1024x5120_S1x1024x3072_0_0_2048 k j ⟨2048 + j.val, by omega⟩ rfl)

/-- The first gelu of the block. -/
theorem u_at (x0 : Vec Ideal S1x512x1024 .f32) (x1 : Vec Ideal S1x1024 .f32) (x2 x3 : Vec Ideal S1x1x1024 .f32) (x4 : Vec Ideal S1x1024x5120 .bf16)
    (x5 x6 : Vec Ideal S1x1024 .f32) (x7 : Vec Ideal S1x8x128x128 .bf16) (x8 : Vec Ideal S128x1024 .f32) (i : Fin 512) (j : Fin 1024) :
    k0_pay62 x0 x1 x2 x3 x4 x5 x6 x7 x8 (ix2 i j) = ups (fun k => k0_pay3 x0 x1 x3 x2 (ix2 i k)) (fun k f => x4 (ix3 0 k f)) j := by
  unfold k0_pay62 k0_pay61 ups
  frame_out
  rw [ups_at]
  exact congrArg gelu (Finset.sum_congr rfl fun k _ => congrArg₂ (· * ·) rfl
    (ld_cols x4 1024 0 inb_S1x1024x5120_S1x1024x1024_0_0_0 k j ⟨j.val, by omega⟩ (by simp only; omega)))

/-- The normalised values of the block. -/
theorem v_at (x0 : Vec Ideal S1x512x1024 .f32) (x1 : Vec Ideal S1x1024 .f32) (x2 x3 : Vec Ideal S1x1x1024 .f32) (x4 : Vec Ideal S1x1024x5120 .bf16)
    (x5 x6 : Vec Ideal S1x1024 .f32) (x7 : Vec Ideal S1x8x128x128 .bf16) (x8 : Vec Ideal S128x1024 .f32) (i : Fin 512) (j : Fin 1024) :
    k0_pay65 x0 x1 x2 x3 x4 x5 x6 x7 x8 (ix2 i j)
      = lnorm (vals (fun k => k0_pay3 x0 x1 x3 x2 (ix2 i k)) (fun k f => x4 (ix3 0 k f))) (fun k => x5 (ix2 0 k)) (fun k => x6 (ix2 0 k)) j := by
  unfold k0_pay65 k0_pay64 k0_pay63
  frame_out
  rw [gain_at, norm_at _ _ _ (fun i => vals (fun k => k0_pay3 x0 x1 x3 x2 (ix2 i k)) (fun k f => x4 (ix3 0 k f)))]
  · rfl
  · intro i j
    rw [vals_at]
    exact congrArg gelu (Finset.sum_congr rfl fun k _ => congrArg₂ (· * ·) rfl
      (ld_cols x4 1024 1024 inb_S1x1024x5120_S1x1024x1024_0_0_1024 k j ⟨1024 + j.val, by omega⟩ rfl))

variable (m : (ℓ : Loc nD τ sig) → Buf (Elt Ideal) ℓ)

/-- The block every window is at, point by point: sample `t / 4`, quarter `t % 4` of its tokens. -/
theorem idx : ∀ t : Fin cfg0.N, win0_0.index t = ![t.val / 4, t.val % 4, 0] ∧ win0_1.index t = ![0, 0]
    ∧ win0_2.index t = ![t.val / 4, 0, 0] ∧ win0_3.index t = ![t.val / 4, 0, 1] ∧ win0_4.index t = ![0, 0, 0]
    ∧ win0_5.index t = ![0, 0] ∧ win0_6.index t = ![0, 0] ∧ win0_7.index t = ![0, 0, 0, 0] ∧ win0_8.index t = ![0, 0]
    ∧ win0_9.index t = ![t.val / 4, t.val % 4, 0] ∧ win0_10.index t = ![t.val / 4, t.val % 4, 0] :=
  (by decide +kernel : ∀ t : Fin grid0.N, _)

/-- The block of tokens read at a position. -/
theorem blk_x (c : Dev nD) (t : Fin cfg0.N) (i : Fin 512) (j : Fin 1024) (b : Fin 16) (r : Fin 2048) (hb : b.val = t.val / 4)
    (hr : r.val = t.val % 4 * 512 + i.val) : (show FVec Ideal S1x512x1024 .f32 from iblk m c 0 t) (ix3 0 i j)
      = (show FVec Ideal S16x2048x1024 .f32 from m ((c : Thread nD τ).loc main_arg0)) (ix3 b r j) := by
  have hi := idx t
  show iblk m c 0 t (ix3 0 i j) = _
  blk_simp [iblk]
  entry_read
  pointwise
  blk_point [hi]

/-- The modulation vectors as the call takes them: the samples' rows, then padding. -/
theorem mods_val (c : Dev nD) : V m c main_v17 = shapeCast S24x1x6144 (pad S24x6144 ![0, 0] ![8, 0] ![0, 0]
      (show FVec Ideal S16x6144 .f32 from m ((c : Thread nD τ).loc main_arg1)) (sitofp .f32 (constantI S_ 32 0#32)) pads_S16x6144_S24x6144_080_000 h_S_)
      shapeCasts_S24x6144_S24x1x6144 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The same read at a row of a sample. -/
theorem mods_at (c : Dev nD) (j : S24x1x6144.Idx) (b : Fin 16) (e : Fin 6144) (hb : b.val = (j 0).val) (he : e.val = (j 2).val) :
    V m c main_v17 j = (show FVec Ideal S16x6144 .f32 from m ((c : Thread nD τ).loc main_arg1)) (ix2 b e) := by
  have h16 : (j 0).val < 16 := by omega
  rw [mods_val]
  pointwise
  rw [dif_pos h16]
  blk_ext

/-- A layer's row of a gain or bias as the call takes it. -/
def row (G : FVec Ideal S2x1024 .f32) : FVec Ideal S1x1024 .f32 :=
  shapeCast S1x1024 (shapeCast S1024 (extractStridedSlice S1x1024 ![0, 0] G slices_S2x1024_S1x1024_0_0) shapeCasts_S1x1024_S1024) shapeCasts_S1024_S1x1024

theorem row_at (G : FVec Ideal S2x1024 .f32) (j : Fin 1024) : row G (ix2 0 j) = G (ix2 0 j) := by
  pointwise [row]

/-- The gain before the mixer as the call takes it. -/
theorem gain_val (c : Dev nD) : V m c main_v4 = shapeCast S1x1024 (shapeCast S1024 (extractStridedSlice S1x1024 ![0, 0]
      (show FVec Ideal S4x1024 .f32 from m ((c : Thread nD τ).loc main_arg2)) slices_S4x1024_S1x1024_0_0) shapeCasts_S1x1024_S1024)
      shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The layer norm's gain as the call takes it. -/
theorem lg_val (c : Dev nD) : V m c main_v12 = row (m ((c : Thread nD τ).loc main_arg4)) := by
  unfold V row
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The layer norm's bias as the call takes it. -/
theorem lb_val (c : Dev nD) : V m c main_v15 = row (m ((c : Thread nD τ).loc main_arg5)) := by
  unfold V row
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The heads' biases spread over their lanes. -/
def spreadb (B : FVec Ideal S2x8x128 .f32) : FVec Ideal S128x1024 .f32 :=
  shapeCast S128x1024 (broadcastInDim S128x8x128 ![0, 1] bcast_S128x8_S128x8x128_0_1 (transpose S128x8 [1, 0]
    (shapeCast S8x128 (extractStridedSlice S1x8x128 ![0, 0, 0] B slices_S2x8x128_S1x8x128_0_0_0) shapeCasts_S1x8x128_S8x128)
    transposes_S8x128_S128x8_1_0)) shapeCasts_S128x8x128_S128x1024

theorem spreadb_at (B : FVec Ideal S2x8x128 .f32) (p : Fin 128) (e : Fin 1024) : spreadb B (ix2 p e) = B (ix3 0 ⟨e.val / 128, by omega⟩ p) := by
  pointwise [spreadb]

/-- The heads' biases as the call takes them. -/
theorem bias_val (c : Dev nD) : V m c main_v9 = spreadb (m ((c : Thread nD τ).loc main_arg7)) := by
  unfold V spreadb
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The sample's shift. -/
theorem blk_sh (c : Dev nD) (t : Fin cfg0.N) (j : Fin 1024) (b : Fin 16) (hb : b.val = t.val / 4) :
    (show FVec Ideal S1x1x1024 .f32 from iblk m c 2 t) (ix3 0 0 j)
      = (show FVec Ideal S16x6144 .f32 from m ((c : Thread nD τ).loc main_arg1)) (ix2 b ⟨j.val, by omega⟩) := by
  have hi := idx t
  show iblk m c 2 t (ix3 0 0 j) = _
  blk_simp [iblk]
  refine mods_at m c _ b _ ?_ ?_
  all_goals
    blk_simp [hi]
    try omega

/-- The sample's scale. -/
theorem blk_sc (c : Dev nD) (t : Fin cfg0.N) (j : Fin 1024) (b : Fin 16) (hb : b.val = t.val / 4) :
    (show FVec Ideal S1x1x1024 .f32 from iblk m c 3 t) (ix3 0 0 j)
      = (show FVec Ideal S16x6144 .f32 from m ((c : Thread nD τ).loc main_arg1)) (ix2 b ⟨1024 + j.val, by omega⟩) := by
  have hi := idx t
  show iblk m c 3 t (ix3 0 0 j) = _
  blk_simp [iblk]
  refine mods_at m c _ b _ ?_ ?_
  all_goals
    blk_simp [hi]
    try omega

/-- The gain of the norm before the mixer. -/
theorem blk_g (c : Dev nD) (t : Fin cfg0.N) (j : Fin 1024) : (show FVec Ideal S1x1024 .f32 from iblk m c 1 t) (ix2 0 j)
      = (show FVec Ideal S4x1024 .f32 from m ((c : Thread nD τ).loc main_arg2)) (ix2 0 j) := by
  have hi := idx t
  show iblk m c 1 t (ix2 0 j) = _
  blk_simp [iblk]
  rw [gain_val]
  pointwise
  blk_point [hi]

/-- The input projection's weights. -/
theorem blk_w (c : Dev nD) (t : Fin cfg0.N) (k : Fin 1024) (f : Fin 5120) : (show FVec Ideal S1x1024x5120 .bf16 from iblk m c 4 t) (ix3 0 k f)
      = (show FVec Ideal S2x1024x5120 .f32 from m ((c : Thread nD τ).loc main_arg3)) (ix3 0 k f) := by
  have hi := idx t
  show iblk m c 4 t (ix3 0 k f) = _
  blk_simp [iblk]
  entry_read
  pointwise
  blk_point [hi]

/-- The layer norm's gain. -/
theorem blk_lg (c : Dev nD) (t : Fin cfg0.N) (j : Fin 1024) : (show FVec Ideal S1x1024 .f32 from iblk m c 5 t) (ix2 0 j)
      = (show FVec Ideal S2x1024 .f32 from m ((c : Thread nD τ).loc main_arg4)) (ix2 0 j) := by
  have hi := idx t
  show iblk m c 5 t (ix2 0 j) = _
  blk_simp [iblk]
  rw [lg_val]
  refine Eq.trans ?_ (row_at _ j)
  blk_point [hi]

/-- The layer norm's bias. -/
theorem blk_lb (c : Dev nD) (t : Fin cfg0.N) (j : Fin 1024) : (show FVec Ideal S1x1024 .f32 from iblk m c 6 t) (ix2 0 j)
      = (show FVec Ideal S2x1024 .f32 from m ((c : Thread nD τ).loc main_arg5)) (ix2 0 j) := by
  have hi := idx t
  show iblk m c 6 t (ix2 0 j) = _
  blk_simp [iblk]
  rw [lb_val]
  refine Eq.trans ?_ (row_at _ j)
  blk_point [hi]

/-- The heads' mixing weights. -/
theorem blk_s (c : Dev nD) (t : Fin cfg0.N) (e : Fin 8) (p q : Fin 128) : (show FVec Ideal S1x8x128x128 .bf16 from iblk m c 7 t) (ix4 0 e p q)
      = (show FVec Ideal S2x8x128x128 .f32 from m ((c : Thread nD τ).loc main_arg6)) (ix4 0 e p q) := by
  have hi := idx t
  show iblk m c 7 t (ix4 0 e p q) = _
  blk_simp [iblk]
  entry_read
  pointwise
  blk_point [hi]

/-- The heads' biases. -/
theorem blk_b (c : Dev nD) (t : Fin cfg0.N) (p : Fin 128) (e : Fin 1024) : (show FVec Ideal S128x1024 .f32 from iblk m c 8 t) (ix2 p e)
      = (show FVec Ideal S2x8x128 .f32 from m ((c : Thread nD τ).loc main_arg7)) (ix3 0 ⟨e.val / 128, by omega⟩ p) := by
  have hi := idx t
  show iblk m c 8 t (ix2 p e) = _
  blk_simp [iblk]
  rw [bias_val]
  refine Eq.trans ?_ (spreadb_at _ p e)
  blk_point [hi]

/-- The hidden token of a block's row. -/
theorem tok (c : Dev nD) (t : Fin cfg0.N) (i : Fin 512) (k : Fin 1024) (b : Fin 16) (r : Fin 2048) (hb : b.val = t.val / 4)
    (hr : r.val = t.val % 4 * 512 + i.val) : k0_pay3 (iblk m c 0 t) (iblk m c 1 t) (iblk m c 3 t) (iblk m c 2 t) (ix2 i k)
      = token (m ((c : Thread nD τ).loc main_arg0)) (m ((c : Thread nD τ).loc main_arg1)) (m ((c : Thread nD τ).loc main_arg2)) b r k :=
  (hid_at _ _ _ _ i k).trans (hid_congr (fun k => blk_x m c t i k b r hb hr) (fun k => blk_g m c t k) (fun k => blk_sc m c t k b hb)
    (fun k => blk_sh m c t k b hb) k)

/-- What a grid point leaves in its gated block is the gated result where the block element sits. -/
theorem point9 (c : Dev nD) (t : Fin cfg0.N) (i : Fin 512) (j : Fin 1024) (b : Fin 16) (r : Fin 2048) (e : Fin 1024) (hb : b.val = t.val / 4)
    (hr : r.val = t.val % 4 * 512 + i.val) (he : e.val = j.val) :
    out0_9 (iblk m c 0 t) (iblk m c 1 t) (iblk m c 2 t) (iblk m c 3 t) (iblk m c 4 t) (iblk m c 5 t) (iblk m c 6 t) (iblk m c 7 t) (iblk m c 8 t) (ix3 0 i j)
      = gated (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b r e := by
  obtain rfl : e = j := Fin.ext he
  rw [out9_mix]
  show mix _ _ _ _ i e = _
  unfold mix gated chunk
  have hw := funext fun k => funext fun f => blk_w m c t k f
  have hg := funext fun k => blk_lg m c t k
  have hl := funext fun k => blk_lb m c t k
  refine congrArg₂ (· * ·) ((u_at _ _ _ _ _ _ _ _ _ i e).trans ?_) (congrArg₂ (· + ·) (Finset.sum_congr rfl fun q _ => congrArg₂ (· * ·) ?_
    ((v_at _ _ _ _ _ _ _ _ _ _ e).trans ?_)) ?_)
  · exact congrArg₂ (fun h W => ups h W e) (funext fun k => tok m c t i k b _ hb (by simp only; omega)) hw
  · refine (blk_s m c t _ _ q).trans ?_
    congr 2
    exact Fin.ext (by simp only; omega)
  · have hh := fun k => tok m c t ⟨i.val / 128 * 128 + q.val, by omega⟩ k b ⟨r.val / 128 * 128 + q.val, by omega⟩ hb (by simp only; omega)
    exact congrFun (congr (congrArg₂ lnorm (congrArg₂ vals (funext hh) hw) hg) hl) e
  · refine (blk_b m c t _ e).trans ?_
    congr 2
    exact Fin.ext (by simp only; omega)

/-- What a grid point leaves in its other block. -/
theorem point10 (c : Dev nD) (t : Fin cfg0.N) (i : Fin 512) (j : Fin 3072) (b : Fin 16) (r : Fin 2048) (e : Fin 3072) (hb : b.val = t.val / 4)
    (hr : r.val = t.val % 4 * 512 + i.val) (he : e.val = j.val) :
    out0_10 (iblk m c 0 t) (iblk m c 1 t) (iblk m c 2 t) (iblk m c 3 t) (iblk m c 4 t) (iblk m c 5 t) (iblk m c 6 t) (iblk m c 7 t) (iblk m c 8 t) (ix3 0 i j)
      = beside (m ((c : Thread nD τ).loc main_arg0)) (m ((c : Thread nD τ).loc main_arg1)) (m ((c : Thread nD τ).loc main_arg2))
          (m ((c : Thread nD τ).loc main_arg3)) b r e := by
  obtain rfl : e = j := Fin.ext he
  rw [out10_at]
  exact Finset.sum_congr rfl fun k _ => congrArg₂ (· * ·) (tok m c t i k b r hb hr) (blk_w m c t k _)

/-- The kernel's first result array after its run is the gated result, element by element. -/
theorem final9 (c : Dev nD) : (dats m 0 c).arrAt 9 (cfgs 0).N = fun i : S16x2048x1024.Idx =>
      gated (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (i 0) (i 1) (i 2) := by
  refine (dats m 0 c).arrAt_eq_of_covers 9 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_9]
  refine point9 m c t i j _ _ _ ?_ ?_ ?_
  all_goals
    blk_simp [hi]
    try omega

/-- The kernel's second result array after its run. -/
theorem final10 (c : Dev nD) : (dats m 0 c).arrAt 10 (cfgs 0).N = fun i : S16x2048x3072.Idx =>
      beside (m ((c : Thread nD τ).loc main_arg0)) (m ((c : Thread nD τ).loc main_arg1)) (m ((c : Thread nD τ).loc main_arg2))
          (m ((c : Thread nD τ).loc main_arg3)) (i 0) (i 1) (i 2) := by
  refine (dats m 0 c).arrAt_eq_of_covers 10 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_10]
  refine point10 m c t i j _ _ _ ?_ ?_ ?_
  all_goals
    blk_simp [hi]
    try omega

end Cert.EvenKer

end
-- ==== Proof.EvenRef.lean ====
module

public import proofs.«01_k».proof.Proof.Gen.ReferenceEvenIdeal.Run
public import proofs.«01_k».proof.Proof.Gate
public import Idealize.ShloMosaic.Lib.Pointwise

@[expose] public section

set_option maxRecDepth 16384

noncomputable section

namespace Cert.EvenRef

open Idealize.ShloMosaic Idealize.ShloMosaic.TcCoe Idealize.SL.Sem
open Cert.ReferenceEvenIdeal Cert.Layer Cert.Gate

/-- One over the root mean square of every token. -/
def roots (X : FVec Ideal S16x2048x1024 .f32) : FVec Ideal S16x2048x1 .f32 :=
  Host.rsqrt (addf (Host.divf (broadcastInDim S16x2048x1 ![0, 1] Gen.bcast_S16x2048_S16x2048x1_0_1 (Host.reduceAdd (mulf X X) (constant S_ .f32 0x00000000#32) Gen.reducesTo_S16x2048x1024_S16x2048_d2 Gen.h_S_))
    (broadcastInDim S16x2048x1 ![] Gen.bcast_S_S16x2048x1 (constant S_ .f32 0x44800000#32))) (broadcastInDim S16x2048x1 ![] Gen.bcast_S_S16x2048x1 (constant S_ .f32 0x358637BD#32)))

/-- Tokens times a number each, then a gain by lane. -/
def gained (X : FVec Ideal S16x2048x1024 .f32) (R : FVec Ideal S16x2048x1 .f32) (g : FVec Ideal S1024 .f32) : FVec Ideal S16x2048x1024 .f32 :=
  mulf (mulf X (broadcastInDim S16x2048x1024 ![0, 1, 2] Gen.bcast_S16x2048x1_S16x2048x1024_0_1_2 R))
    (broadcastInDim S16x2048x1024 ![0, 1, 2] Gen.bcast_S1x1x1024_S16x2048x1024_0_1_2 (broadcastInDim S1x1x1024 ![2] Gen.bcast_S1024_S1x1x1024_2 g))

/-- The first layer's gain of the norm before the mixer. -/
def gain (G : FVec Ideal S4x1024 .f32) : FVec Ideal S1024 .f32 :=
  shapeCast S1024 (extractStridedSlice S1x1024 ![0, 0] G Gen.slices_S4x1024_S1x1024_0_0) Gen.shapeCasts_S1x1024_S1024

/-- The first layer's row of the layer norm's gains or biases. -/
def row (G : FVec Ideal S2x1024 .f32) : FVec Ideal S1024 .f32 :=
  shapeCast S1024 (extractStridedSlice S1x1024 ![0, 0] G Gen.slices_S2x1024_S1x1024_0_0) Gen.shapeCasts_S1x1024_S1024

/-- The normalised tokens scaled and shifted by their sample's modulation. -/
def moved (Y : FVec Ideal S16x2048x1024 .f32) (M : FVec Ideal S16x6144 .f32) : FVec Ideal S16x2048x1024 .f32 :=
  addf (mulf Y (broadcastInDim S16x2048x1024 ![0, 1, 2] Gen.bcast_S16x1x1024_S16x2048x1024_0_1_2 (addf (broadcastInDim S16x1x1024 ![] Gen.bcast_S_S16x1x1024 (constant S_ .f32 0x3F800000#32))
      (extractStridedSlice S16x1x1024 ![0, 0, 1024] (broadcastInDim S16x1x6144 ![0, 2] Gen.bcast_S16x6144_S16x1x6144_0_2 M) Gen.slices_S16x1x6144_S16x1x1024_0_0_1024))))
    (broadcastInDim S16x2048x1024 ![0, 1, 2] Gen.bcast_S16x1x1024_S16x2048x1024_0_1_2 (extractStridedSlice S16x1x1024 ![0, 0, 0] (broadcastInDim S16x1x6144 ![0, 2] Gen.bcast_S16x6144_S16x1x6144_0_2 M) Gen.slices_S16x1x6144_S16x1x1024_0_0_0))

/-- The input projection. -/
def lanes (H : FVec Ideal S16x2048x1024 .f32) (W : FVec Ideal S2x1024x5120 .f32) : FVec Ideal S16x2048x5120 .f32 :=
  Host.dotGeneral dot_S16x2048x1024_S1024x5120_S16x2048x5120_2_0_01_1_n_n none H (shapeCast S1024x5120 (extractStridedSlice S1x1024x5120 ![0, 0, 0] W Gen.slices_S2x1024x5120_S1x1024x5120_0_0_0) Gen.shapeCasts_S1x1024x5120_S1024x5120)

/-- The gelu of the first 2048 lanes. -/
def gelus (P : FVec Ideal S16x2048x5120 .f32) : FVec Ideal S16x2048x2048 .f32 :=
  mulf (mulf (broadcastInDim S16x2048x2048 ![] Gen.bcast_S_S16x2048x2048 (constant S_ .f32 0x3F000000#32)) (extractStridedSlice S16x2048x2048 ![0, 0, 0] P Gen.slices_S16x2048x5120_S16x2048x2048_0_0_0))
    (Host.erfc (mulf (Host.negf (extractStridedSlice S16x2048x2048 ![0, 0, 0] P Gen.slices_S16x2048x5120_S16x2048x2048_0_0_0)) (broadcastInDim S16x2048x2048 ![] Gen.bcast_S_S16x2048x2048 (constant S_ .f32 0x3F3504F3#32))))

/-- The second half of the gelus. -/
def second (A : FVec Ideal S16x2048x2048 .f32) : FVec Ideal S16x2048x1024 .f32 :=
  extractStridedSlice S16x2048x1024 ![0, 0, 1024] A Gen.slices_S16x2048x2048_S16x2048x1024_0_0_1024

/-- The mean of every token. -/
def means (X : FVec Ideal S16x2048x1024 .f32) : FVec Ideal S16x2048x1 .f32 :=
  Host.divf (broadcastInDim S16x2048x1 ![0, 1] Gen.bcast_S16x2048_S16x2048x1_0_1 (Host.reduceAdd X (constant S_ .f32 0x00000000#32) Gen.reducesTo_S16x2048x1024_S16x2048_d2 Gen.h_S_))
    (broadcastInDim S16x2048x1 ![] Gen.bcast_S_S16x2048x1 (constant S_ .f32 0x44800000#32))

/-- Tokens less a number each. -/
def devs (X : FVec Ideal S16x2048x1024 .f32) (R : FVec Ideal S16x2048x1 .f32) : FVec Ideal S16x2048x1024 .f32 :=
  subf X (broadcastInDim S16x2048x1024 ![0, 1, 2] Gen.bcast_S16x2048x1_S16x2048x1024_0_1_2 R)

/-- One over the standard deviation of every token, out of its deviations. -/
def spreads (X : FVec Ideal S16x2048x1024 .f32) : FVec Ideal S16x2048x1 .f32 :=
  Host.rsqrt (addf (Host.divf (broadcastInDim S16x2048x1 ![0, 1] Gen.bcast_S16x2048_S16x2048x1_0_1 (Host.reduceAdd (mulf X X) (constant S_ .f32 0x00000000#32) Gen.reducesTo_S16x2048x1024_S16x2048_d2 Gen.h_S_))
    (broadcastInDim S16x2048x1 ![] Gen.bcast_S_S16x2048x1 (constant S_ .f32 0x44800000#32))) (broadcastInDim S16x2048x1 ![] Gen.bcast_S_S16x2048x1 (constant S_ .f32 0x3727C5AC#32)))

/-- Tokens plus a bias by lane. -/
def biased (X : FVec Ideal S16x2048x1024 .f32) (b : FVec Ideal S1024 .f32) : FVec Ideal S16x2048x1024 .f32 :=
  addf X (broadcastInDim S16x2048x1024 ![0, 1, 2] Gen.bcast_S1x1x1024_S16x2048x1024_0_1_2 (broadcastInDim S1x1x1024 ![2] Gen.bcast_S1024_S1x1x1024_2 b))

/-- The chunks' tokens mixed by head, with the heads' biases. -/
def mixes (X : FVec Ideal S16x2048x1024 .f32) (S : FVec Ideal S2x8x128x128 .f32) (B : FVec Ideal S2x8x128 .f32) : FVec Ideal S16x16x128x8x128 .f32 :=
  addf (transpose S16x16x128x8x128 [1, 2, 4, 0, 3] (Host.dotGeneral dot_S16x16x128x8x128_S8x128x128_S8x16x16x128x128_2_2_014_1_3_0 none
      (shapeCast S16x16x128x8x128 X Gen.shapeCasts_S16x2048x1024_S16x16x128x8x128)
      (shapeCast S8x128x128 (extractStridedSlice S1x8x128x128 ![0, 0, 0, 0] S Gen.slices_S2x8x128x128_S1x8x128x128_0_0_0_0) Gen.shapeCasts_S1x8x128x128_S8x128x128))
      Gen.transposes_S8x16x16x128x128_S16x16x128x8x128_1_2_4_0_3)
    (broadcastInDim S16x16x128x8x128 ![0, 1, 2, 3, 4] Gen.bcast_S1x1x128x8x1_S16x16x128x8x128_0_1_2_3_4 (broadcastInDim S1x1x128x8x1 ![2, 3] Gen.bcast_S128x8_S1x1x128x8x1_2_3
      (transpose S128x8 [1, 0] (shapeCast S8x128 (extractStridedSlice S1x8x128 ![0, 0, 0] B Gen.slices_S2x8x128_S1x8x128_0_0_0) Gen.shapeCasts_S1x8x128_S8x128) Gen.transposes_S8x128_S128x8_1_0)))

/-- The first half of the gelus times the mixed tokens. -/
def gating (A : FVec Ideal S16x2048x2048 .f32) (Z : FVec Ideal S16x16x128x8x128 .f32) : FVec Ideal S16x2048x1024 .bf16 :=
  truncf .bf16 (mulf (extractStridedSlice S16x2048x1024 ![0, 0, 0] A Gen.slices_S16x2048x2048_S16x2048x1024_0_0_0)
    (shapeCast S16x2048x1024 Z Gen.shapeCasts_S16x16x128x8x128_S16x2048x1024)) Gen.bitsLt_bf16_f32

theorem roots_at (X : FVec Ideal S16x2048x1024 .f32) (b : Fin 16) (t : Fin 2048) : roots X (ix3 b t 0) = rms (fun k => X (ix3 b t k)) := by
  dsimp only [rms, width, eps]
  pointwise [roots]

theorem gained_at (X : FVec Ideal S16x2048x1024 .f32) (R : FVec Ideal S16x2048x1 .f32) (g : FVec Ideal S1024 .f32) (b : Fin 16) (t : Fin 2048)
    (j : Fin 1024) : gained X R g (ix3 b t j) = X (ix3 b t j) * R (ix3 b t 0) * g (ix1 j) := by
  pointwise [gained]

theorem gain_at (G : FVec Ideal S4x1024 .f32) (j : Fin 1024) : gain G (ix1 j) = G (ix2 0 j) := by
  pointwise [gain]

theorem row_at (G : FVec Ideal S2x1024 .f32) (j : Fin 1024) : row G (ix1 j) = G (ix2 0 j) := by
  pointwise [row]

theorem moved_at (Y : FVec Ideal S16x2048x1024 .f32) (M : FVec Ideal S16x6144 .f32) (b : Fin 16) (t : Fin 2048) (j : Fin 1024) :
    moved Y M (ix3 b t j) = Y (ix3 b t j) * (1 + M (ix2 b ⟨1024 + j.val, by omega⟩)) + M (ix2 b ⟨j.val, by omega⟩) := by
  pointwise [moved]

theorem lanes_at (H : FVec Ideal S16x2048x1024 .f32) (W : FVec Ideal S2x1024x5120 .f32) (b : Fin 16) (t : Fin 2048) (f : Fin 5120) :
    lanes H W (ix3 b t f) = ∑ k, H (ix3 b t k) * W (ix3 0 k f) := by
  pointwise [lanes]

theorem gelus_at (P : FVec Ideal S16x2048x5120 .f32) (b : Fin 16) (t : Fin 2048) (f : Fin 2048) :
    gelus P (ix3 b t f) = gelu (P (ix3 b t ⟨f.val, by omega⟩)) := by
  rw [← gelu_erfc]
  dsimp only [half, root]
  pointwise [gelus]

theorem second_at (A : FVec Ideal S16x2048x2048 .f32) (b : Fin 16) (t : Fin 2048) (f : Fin 1024) :
    second A (ix3 b t f) = A (ix3 b t ⟨1024 + f.val, by omega⟩) := by
  pointwise [second]

theorem means_at (X : FVec Ideal S16x2048x1024 .f32) (b : Fin 16) (t : Fin 2048) : means X (ix3 b t 0) = mean (fun k => X (ix3 b t k)) := by
  dsimp only [mean, width]
  pointwise [means]

theorem devs_at (X : FVec Ideal S16x2048x1024 .f32) (R : FVec Ideal S16x2048x1 .f32) (b : Fin 16) (t : Fin 2048) (j : Fin 1024) :
    devs X R (ix3 b t j) = X (ix3 b t j) - R (ix3 b t 0) := by
  pointwise [devs]

theorem spreads_at (X : FVec Ideal S16x2048x1024 .f32) (b : Fin 16) (t : Fin 2048) :
    spreads X (ix3 b t 0) = Ideal.rsqrt (Ideal.div (∑ k, X (ix3 b t k) * X (ix3 b t k)) width + tiny) := by
  dsimp only [width, tiny]
  pointwise [spreads]

theorem biased_at (X : FVec Ideal S16x2048x1024 .f32) (g : FVec Ideal S1024 .f32) (b : Fin 16) (t : Fin 2048) (j : Fin 1024) :
    biased X g (ix3 b t j) = X (ix3 b t j) + g (ix1 j) := by
  pointwise [biased]

theorem mixes_at (X : FVec Ideal S16x2048x1024 .f32) (S : FVec Ideal S2x8x128x128 .f32) (B : FVec Ideal S2x8x128 .f32) (b n : Fin 16) (p : Fin 128)
    (e : Fin 8) (d : Fin 128) : mixes X S B (ix5 b n p e d)
      = (∑ q : Fin 128, S (ix4 0 e p q) * X (ix3 b ⟨n.val * 128 + q.val, by omega⟩ ⟨e.val * 128 + d.val, by omega⟩)) + B (ix3 0 e p) := by
  pointwise [mixes]
  exact congrArg (· + _) (Finset.sum_congr rfl fun q _ => mul_comm _ _)

theorem gating_at (A : FVec Ideal S16x2048x2048 .f32) (Z : FVec Ideal S16x16x128x8x128 .f32) (b : Fin 16) (t : Fin 2048) (j : Fin 1024) :
    gating A Z (ix3 b t j) = A (ix3 b t ⟨j.val, by omega⟩)
      * Z (ix5 b ⟨t.val / 128, by omega⟩ ⟨t.val % 128, by omega⟩ ⟨j.val / 128, by omega⟩ ⟨j.val % 128, by omega⟩) := by
  pointwise [gating]

/-- The input projection of the modulated tokens. -/
def projected (X : FVec Ideal S16x2048x1024 .f32) (M : FVec Ideal S16x6144 .f32) (G : FVec Ideal S4x1024 .f32) (W : FVec Ideal S2x1024x5120 .f32) :
    FVec Ideal S16x2048x5120 .f32 := lanes (moved (gained X (roots X) (gain G)) M) W

/-- The layer norm of the second gelus. -/
def normal (V : FVec Ideal S16x2048x1024 .f32) (g b : FVec Ideal S2x1024 .f32) : FVec Ideal S16x2048x1024 .f32 :=
  biased (gained (devs V (means V)) (spreads (devs V (means V))) (row g)) (row b)

theorem projected_at (X : FVec Ideal S16x2048x1024 .f32) (M : FVec Ideal S16x6144 .f32) (G : FVec Ideal S4x1024 .f32) (W : FVec Ideal S2x1024x5120 .f32)
    (b : Fin 16) (t : Fin 2048) (f : Fin 5120) : projected X M G W (ix3 b t f) = ∑ k, token X M G b t k * W (ix3 0 k f) := by
  unfold projected
  rw [lanes_at]
  refine Finset.sum_congr rfl fun k _ => congrArg₂ (· * ·) ?_ rfl
  rw [moved_at, gained_at, roots_at, gain_at]
  rfl

theorem normal_at (V : FVec Ideal S16x2048x1024 .f32) (g c : FVec Ideal S2x1024 .f32) (b : Fin 16) (t : Fin 2048) (j : Fin 1024) :
    normal V g c (ix3 b t j) = lnorm (fun k => V (ix3 b t k)) (fun k => g (ix2 0 k)) (fun k => c (ix2 0 k)) j := by
  unfold normal
  rw [biased_at, gained_at, spreads_at, row_at, row_at]
  simp only [devs_at, means_at]
  rfl

/-- The lanes after the gelus'. -/
def rest (P : FVec Ideal S16x2048x5120 .f32) : FVec Ideal S16x2048x3072 .f32 :=
  extractStridedSlice S16x2048x3072 ![0, 0, 2048] P Gen.slices_S16x2048x5120_S16x2048x3072_0_0_2048

/-- The reference's second result, element by element. -/
theorem rest_at (X : FVec Ideal S16x2048x1024 .f32) (M : FVec Ideal S16x6144 .f32) (G : FVec Ideal S4x1024 .f32) (W : FVec Ideal S2x1024x5120 .f32)
    (b : Fin 16) (t : Fin 2048) (j : Fin 3072) : rest (projected X M G W) (ix3 b t j) = beside X M G W b t j := by
  have h : ∀ P : FVec Ideal S16x2048x5120 .f32, rest P (ix3 b t j) = P (ix3 b t ⟨2048 + j.val, by omega⟩) := fun P => by
    pointwise [rest]
  rw [h, projected_at]
  rfl

variable (m : (ℓ : Loc nD τ sig) → Buf (Elt Ideal) ℓ)

/-- The reference's first result in its stages. -/
theorem res_eq (c : Dev nD) : Value.res_main_v82 m c
      = gating (gelus (projected (m ((c.tc : Thread nD τ).loc main_arg0)) (m ((c.tc : Thread nD τ).loc main_arg1)) (m ((c.tc : Thread nD τ).loc main_arg2)) (m ((c.tc : Thread nD τ).loc main_arg3))))
        (mixes (normal (second (gelus (projected (m ((c.tc : Thread nD τ).loc main_arg0)) (m ((c.tc : Thread nD τ).loc main_arg1)) (m ((c.tc : Thread nD τ).loc main_arg2)) (m ((c.tc : Thread nD τ).loc main_arg3)))))
          (m ((c.tc : Thread nD τ).loc main_arg4)) (m ((c.tc : Thread nD τ).loc main_arg5))) (m ((c.tc : Thread nD τ).loc main_arg6)) (m ((c.tc : Thread nD τ).loc main_arg7))) := by
  unfold Value.res_main_v82 gating mixes normal biased spreads devs means second gelus projected lanes moved gained gain row roots
  rfl

/-- The reference's first result, element by element. -/
theorem ref_at (c : Dev nD) (b : Fin 16) (t : Fin 2048) (j : Fin 1024) :
    (show FVec Ideal S16x2048x1024 .bf16 from Value.res_main_v82 m c) (ix3 b t j)
      = gated (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) b t j := by
  rw [res_eq]
  dsimp only
  rw [gating_at, mixes_at]
  simp only [normal_at, second_at, gelus_at, projected_at]
  unfold gated chunk ups
  simp only [Nat.div_add_mod', Fin.eta]
  rfl

end Cert.EvenRef

end
-- ==== Proof.Even.lean ====
module

public import proofs.«01_k».proof.Defs
public import proofs.«01_k».proof.Proof.EvenKer
public import proofs.«01_k».proof.Proof.EvenRef
public import Idealize.ShloMosaic.Lib.Quiescent

@[expose] public section

set_option maxRecDepth 16384

noncomputable section

namespace Cert.Even

open Idealize.ShloMosaic Idealize.ShloMosaic.TcCoe Idealize.SL.Sem

attribute [local instance] Cert.KernelEvenIdeal.Gen.facts Cert.ReferenceEvenIdeal.Gen.facts

set_option maxHeartbeats 2000000 in
/-- The first layer's gating kernel and its reference leave the same two arrays, whatever the arguments. -/
theorem algebraic : Cert.algebraic_KernelEvenIdeal_ReferenceEvenIdeal := by
  pair_intro
  · run_from Cert.KernelEvenIdeal.Gen.run_main m g
    all_goals first
      | with_reducible exact Cert.KernelEvenIdeal.Gen.V_main_arg0 m c
      | with_reducible exact Cert.KernelEvenIdeal.Gen.V_main_arg1 m c
      | with_reducible exact Cert.KernelEvenIdeal.Gen.V_main_arg2 m c
      | with_reducible exact Cert.KernelEvenIdeal.Gen.V_main_arg3 m c
      | with_reducible exact Cert.KernelEvenIdeal.Gen.V_main_arg4 m c
      | with_reducible exact Cert.KernelEvenIdeal.Gen.V_main_arg5 m c
      | with_reducible exact Cert.KernelEvenIdeal.Gen.V_main_arg6 m c
      | with_reducible exact Cert.KernelEvenIdeal.Gen.V_main_arg7 m c
  · run_from Cert.ReferenceEvenIdeal.Value.run m' g'
    · rw [Cert.EvenKer.final9 m c]
      obtain ⟨a0, a1, a2, a3, a4, a5, a6, a7⟩ := hagree c
      funext i
      obtain ⟨b, t, j, rfl⟩ : ∃ b t j, i = ix3 b t j := ⟨_, _, _, eq_ix3 i⟩
      refine (Cert.EvenRef.ref_at m' c b t j).trans ?_
      rw [a0, a1, a2, a3, a4, a5, a6, a7]
      rfl
    · rw [Cert.EvenKer.final10 m c]
      funext i
      obtain ⟨b, t, j, rfl⟩ : ∃ b t j, i = ix3 b t j := ⟨_, _, _, eq_ix3 i⟩
      exact Cert.EvenRef.rest_at _ _ _ _ b t j

/-- The reference's frame: its arguments end unchanged, and it declares no semaphore. -/
theorem frame_reference : Cert.quiescent_ReferenceEvenIdeal := fun m g _ =>
  (θ_run Cert.ReferenceEvenIdeal.defs _ _).mono (fun r h => ⟨fun c => (h c).2.2, sem_eq_zero_of_no_sems (by decide) r.2⟩)
    (Cert.ReferenceEvenIdeal.Value.run m g)

end Cert.Even

end
-- ==== Proof.MixKer.lean ====
module

public import proofs.«01_k».proof.Proof.Gen.KernelMixIdeal.Value
public import proofs.«01_k».proof.Proof.LastKer
public import Idealize.ShloMosaic.Lib.Pipeline.ValueKit
public import Idealize.ShloMosaic.Lib.Pointwise
public import Idealize.ShloMosaic.Lib.Claim

@[expose] public section

set_option maxRecDepth 16384

noncomputable section

namespace Cert.MixKer

open Idealize.ShloMosaic Idealize.ShloMosaic.TcCoe Idealize.SL.Sem
open Idealize.ShloMosaic.Pipeline (Dat)
open Cert.KernelMixIdeal Cert.KernelMixIdeal.Gen Cert.Layer
open Cert.LastKer (hidden hid_at tiles tiles_at leave leave_at)

/-- The token the body keeps after the two mixers' projections. -/
theorem mix2_at (p : Vec Ideal S1x512x1024 .bf16) (v : Vec Ideal S1x1024x1024 .bf16) (q : Vec Ideal S1x512x1024 .bf16)
    (w : Vec Ideal S1x1024x1024 .bf16) (x : Vec Ideal S1x512x1024 .f32) (gate : Vec Ideal S1x1x1024 .f32) (i : Fin 512) (j : Fin 1024) :
    k0_pay2 p v q w x gate (ix2 i j) = mixed (fun j => x (ix3 0 i j)) (fun j => gate (ix3 0 0 j))
      (fun j => proj (fun k => p (ix3 0 i k)) (fun k j => v (ix3 0 k j)) j + proj (fun k => q (ix3 0 i k)) (fun k j => w (ix3 0 k j)) j) j := by
  pointwise [k0_pay2]
  dsimp only [mixed, proj]

/-- A block of rows of the projections. -/
theorem ld_half (B : Vec Ideal S1x2048x1024 .bf16) (o : ℕ) (h : ∀ a, (![0, o, 0] : Fin 3 → ℕ) a + (![1, 1024, 1024] : Fin 3 → ℕ) a ≤ S1x2048x1024.size a)
    (k j : Fin 1024) (e : Fin 2048) (he : e.val = o + k.val) :
    (show FVec Ideal S1x1024x1024 .bf16 from View.ld B (Rect.unit ![0, o, 0] ![1, 1024, 1024] h)) (ix3 0 k j) = B (ix3 0 e j) := by
  show View.ld B (Rect.unit ![0, o, 0] ![1, 1024, 1024] h) (ix3 0 k j) = _
  pointwise
  blk_point []

variable (m : (ℓ : Loc nD τ sig) → Buf (Elt Ideal) ℓ)

/-- The block every window is at, point by point: sample `t / 4`, quarter `t % 4` of its tokens. -/
theorem idx : ∀ t : Fin cfg0.N, win0_0.index t = ![t.val / 4, t.val % 4, 0] ∧ win0_1.index t = ![t.val / 4, 0, 2]
    ∧ win0_2.index t = ![t.val / 4, t.val % 4, 0] ∧ win0_3.index t = ![t.val / 4, t.val % 4, 0] ∧ win0_4.index t = ![0, 0, 0]
    ∧ win0_5.index t = ![0, 0] ∧ win0_6.index t = ![t.val / 4, 0, 3] ∧ win0_7.index t = ![t.val / 4, 0, 4]
    ∧ win0_8.index t = ![t.val / 4, 0, 5] ∧ win0_9.index t = ![0, 0, 0] ∧ win0_10.index t = ![0, 0, 0]
    ∧ win0_11.index t = ![t.val / 4, t.val % 4, 0] :=
  (by decide +kernel : ∀ t : Fin grid0.N, _)

/-- The block of tokens read at a position. -/
theorem blk_x (c : Dev nD) (t : Fin cfg0.N) (i : Fin 512) (j : Fin 1024) (b : Fin 16) (r : Fin 2048) (hb : b.val = t.val / 4)
    (hr : r.val = t.val % 4 * 512 + i.val) : (show FVec Ideal S1x512x1024 .f32 from iblk m c 0 t) (ix3 0 i j)
      = (show FVec Ideal S16x2048x1024 .f32 from m ((c : Thread nD τ).loc main_arg0)) (ix3 b r j) := by
  have hi := idx t
  show iblk m c 0 t (ix3 0 i j) = _
  blk_simp [iblk]
  entry_read
  pointwise
  blk_point [hi]

/-- The block of mixer outputs read at a position. -/
theorem blk_o (c : Dev nD) (t : Fin cfg0.N) (i : Fin 512) (j : Fin 1024) (b : Fin 16) (r : Fin 2048) (hb : b.val = t.val / 4)
    (hr : r.val = t.val % 4 * 512 + i.val) : (show FVec Ideal S1x512x1024 .bf16 from iblk m c 2 t) (ix3 0 i j)
      = (show FVec Ideal S16x2048x1024 .bf16 from m ((c : Thread nD τ).loc main_arg2)) (ix3 b r j) := by
  have hi := idx t
  show iblk m c 2 t (ix3 0 i j) = _
  blk_simp [iblk]
  entry_read
  pointwise
  blk_point [hi]

/-- The block of the second mixer's outputs read at a position. -/
theorem blk_z (c : Dev nD) (t : Fin cfg0.N) (i : Fin 512) (j : Fin 1024) (b : Fin 16) (r : Fin 2048) (hb : b.val = t.val / 4)
    (hr : r.val = t.val % 4 * 512 + i.val) : (show FVec Ideal S1x512x1024 .bf16 from iblk m c 3 t) (ix3 0 i j)
      = (show FVec Ideal S16x2048x1024 .bf16 from m ((c : Thread nD τ).loc main_arg3)) (ix3 b r j) := by
  have hi := idx t
  show iblk m c 3 t (ix3 0 i j) = _
  blk_simp [iblk]
  entry_read
  pointwise
  blk_point [hi]

/-- The modulation vectors as the call takes them: the samples' rows, then padding. -/
theorem mods_val (c : Dev nD) : V m c main_v7 = shapeCast S24x1x6144 (pad S24x6144 ![0, 0] ![8, 0] ![0, 0]
      (show FVec Ideal S16x6144 .f32 from m ((c : Thread nD τ).loc main_arg1)) (sitofp .f32 (constantI S_ 32 0#32)) pads_S16x6144_S24x6144_080_000 h_S_)
      shapeCasts_S24x6144_S24x1x6144 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The same read at a row of a sample. -/
theorem mods_at (c : Dev nD) (j : S24x1x6144.Idx) (b : Fin 16) (e : Fin 6144) (hb : b.val = (j 0).val) (he : e.val = (j 2).val) :
    V m c main_v7 j = (show FVec Ideal S16x6144 .f32 from m ((c : Thread nD τ).loc main_arg1)) (ix2 b e) := by
  have h16 : (j 0).val < 16 := by omega
  rw [mods_val]
  pointwise
  rw [dif_pos h16]
  blk_ext

/-- The gain of the norm before the feed-forward as the call takes it: the layer's row. -/
theorem gain_val (c : Dev nD) : V m c main_v5 = shapeCast S1x1024 (shapeCast S1024 (extractStridedSlice S1x1024 ![0, 0]
      (show FVec Ideal S4x1024 .f32 from m ((c : Thread nD τ).loc main_arg5)) slices_S4x1024_S1x1024_0_0) shapeCasts_S1x1024_S1024)
      shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The sample's gate of the output projection. -/
theorem blk_gate1 (c : Dev nD) (t : Fin cfg0.N) (j : Fin 1024) (b : Fin 16) (hb : b.val = t.val / 4) :
    (show FVec Ideal S1x1x1024 .f32 from iblk m c 1 t) (ix3 0 0 j)
      = (show FVec Ideal S16x6144 .f32 from m ((c : Thread nD τ).loc main_arg1)) (ix2 b ⟨2048 + j.val, by omega⟩) := by
  have hi := idx t
  show iblk m c 1 t (ix3 0 0 j) = _
  blk_simp [iblk]
  refine mods_at m c _ b _ ?_ ?_
  all_goals
    blk_simp [hi]
    try omega

/-- The sample's shift. -/
theorem blk_sh (c : Dev nD) (t : Fin cfg0.N) (j : Fin 1024) (b : Fin 16) (hb : b.val = t.val / 4) :
    (show FVec Ideal S1x1x1024 .f32 from iblk m c 6 t) (ix3 0 0 j)
      = (show FVec Ideal S16x6144 .f32 from m ((c : Thread nD τ).loc main_arg1)) (ix2 b ⟨3072 + j.val, by omega⟩) := by
  have hi := idx t
  show iblk m c 6 t (ix3 0 0 j) = _
  blk_simp [iblk]
  refine mods_at m c _ b _ ?_ ?_
  all_goals
    blk_simp [hi]
    try omega

/-- The sample's scale. -/
theorem blk_sc (c : Dev nD) (t : Fin cfg0.N) (j : Fin 1024) (b : Fin 16) (hb : b.val = t.val / 4) :
    (show FVec Ideal S1x1x1024 .f32 from iblk m c 7 t) (ix3 0 0 j)
      = (show FVec Ideal S16x6144 .f32 from m ((c : Thread nD τ).loc main_arg1)) (ix2 b ⟨4096 + j.val, by omega⟩) := by
  have hi := idx t
  show iblk m c 7 t (ix3 0 0 j) = _
  blk_simp [iblk]
  refine mods_at m c _ b _ ?_ ?_
  all_goals
    blk_simp [hi]
    try omega

/-- The sample's gate of the feed-forward. -/
theorem blk_gate2 (c : Dev nD) (t : Fin cfg0.N) (j : Fin 1024) (b : Fin 16) (hb : b.val = t.val / 4) :
    (show FVec Ideal S1x1x1024 .f32 from iblk m c 8 t) (ix3 0 0 j)
      = (show FVec Ideal S16x6144 .f32 from m ((c : Thread nD τ).loc main_arg1)) (ix2 b ⟨5120 + j.val, by omega⟩) := by
  have hi := idx t
  show iblk m c 8 t (ix3 0 0 j) = _
  blk_simp [iblk]
  refine mods_at m c _ b _ ?_ ?_
  all_goals
    blk_simp [hi]
    try omega

/-- The two mixers' projections. -/
theorem blk_wo (c : Dev nD) (t : Fin cfg0.N) (k : Fin 2048) (j : Fin 1024) : (show FVec Ideal S1x2048x1024 .bf16 from iblk m c 4 t) (ix3 0 k j)
      = (show FVec Ideal S2x2048x1024 .f32 from m ((c : Thread nD τ).loc main_arg4)) (ix3 0 k j) := by
  have hi := idx t
  show iblk m c 4 t (ix3 0 k j) = _
  blk_simp [iblk]
  entry_read
  pointwise
  blk_point [hi]

/-- The gain of the norm before the feed-forward. -/
theorem blk_g (c : Dev nD) (t : Fin cfg0.N) (j : Fin 1024) : (show FVec Ideal S1x1024 .f32 from iblk m c 5 t) (ix2 0 j)
      = (show FVec Ideal S4x1024 .f32 from m ((c : Thread nD τ).loc main_arg5)) (ix2 0 j) := by
  have hi := idx t
  show iblk m c 5 t (ix2 0 j) = _
  blk_simp [iblk]
  rw [gain_val]
  pointwise
  blk_point [hi]

/-- The feed-forward's first weights. -/
theorem blk_u (c : Dev nD) (t : Fin cfg0.N) (k : Fin 1024) (f : Fin 5632) : (show FVec Ideal S1x1024x5632 .bf16 from iblk m c 9 t) (ix3 0 k f)
      = (show FVec Ideal S4x1024x5632 .f32 from m ((c : Thread nD τ).loc main_arg6)) (ix3 0 k f) := by
  have hi := idx t
  show iblk m c 9 t (ix3 0 k f) = _
  blk_simp [iblk]
  entry_read
  pointwise
  blk_point [hi]

/-- The feed-forward's second weights. -/
theorem blk_d (c : Dev nD) (t : Fin cfg0.N) (f : Fin 2816) (j : Fin 1024) : (show FVec Ideal S1x2816x1024 .bf16 from iblk m c 10 t) (ix3 0 f j)
      = (show FVec Ideal S4x2816x1024 .f32 from m ((c : Thread nD τ).loc main_arg7)) (ix3 0 f j) := by
  have hi := idx t
  show iblk m c 10 t (ix3 0 f j) = _
  blk_simp [iblk]
  entry_read
  pointwise
  blk_point [hi]

/-- What a grid point leaves in its output block is the layer's result where the block element sits. -/
theorem point (c : Dev nD) (t : Fin cfg0.N) (i : Fin 512) (j : Fin 1024) (b : Fin 16) (r : Fin 2048) (e : Fin 1024) (hb : b.val = t.val / 4)
    (hr : r.val = t.val % 4 * 512 + i.val) (he : e.val = j.val) : outsAt0 m c t (ix3 0 i j)
      = body 0 (m ((c : Thread nD τ).loc main_arg0)) (m ((c : Thread nD τ).loc main_arg1)) (even 0 (m ((c : Thread nD τ).loc main_arg2)) (m ((c : Thread nD τ).loc main_arg3)) (m ((c : Thread nD τ).loc main_arg4)) b r)
          (m ((c : Thread nD τ).loc main_arg5)) (m ((c : Thread nD τ).loc main_arg6)) (m ((c : Thread nD τ).loc main_arg7)) b r e := by
  obtain rfl : e = j := Fin.ext he
  have hx := fun k => (mix2_at (iblk m c 2 t) (View.ld (iblk m c 4 t) (Rect.unit ![0, 0, 0] ![1, 1024, 1024] inb_S1x2048x1024_S1x1024x1024_0_0_0))
      (iblk m c 3 t) (View.ld (iblk m c 4 t) (Rect.unit ![0, 1024, 0] ![1, 1024, 1024] inb_S1x2048x1024_S1x1024x1024_0_1024_0)) (iblk m c 0 t) (iblk m c 1 t) i k).trans
    (mixed_congr (fun k => blk_x m c t i k b r hb hr) (fun k => blk_gate1 m c t k b hb)
      (proj2_of (Z := fun k j => (show FVec Ideal S2x2048x1024 .f32 from m ((c : Thread nD τ).loc main_arg4)) (ix3 0 k j))
        (fun k => blk_o m c t i k b r hb hr) (fun k => blk_z m c t i k b r hb hr)
        (fun k j => (ld_half (iblk m c 4 t) 0 _ k j ⟨k.val, by omega⟩ (by simp only; omega)).trans (blk_wo m c t ⟨k.val, by omega⟩ j))
        (fun k j => (ld_half (iblk m c 4 t) 1024 _ k j ⟨1024 + k.val, by omega⟩ rfl).trans (blk_wo m c t ⟨1024 + k.val, by omega⟩ j))) k)
  unfold outsAt0
  frame_out
  show leave (tiles (hidden (k0_pay2 (iblk m c 2 t) (View.ld (iblk m c 4 t) (Rect.unit ![0, 0, 0] ![1, 1024, 1024] inb_S1x2048x1024_S1x1024x1024_0_0_0)) (iblk m c 3 t) (View.ld (iblk m c 4 t) (Rect.unit ![0, 1024, 0] ![1, 1024, 1024] inb_S1x2048x1024_S1x1024x1024_0_1024_0)) (iblk m c 0 t) (iblk m c 1 t))
        (iblk m c 5 t) (iblk m c 7 t) (iblk m c 6 t)) (iblk m c 9 t) (iblk m c 10 t))
      (k0_pay2 (iblk m c 2 t) (View.ld (iblk m c 4 t) (Rect.unit ![0, 0, 0] ![1, 1024, 1024] inb_S1x2048x1024_S1x1024x1024_0_0_0)) (iblk m c 3 t) (View.ld (iblk m c 4 t) (Rect.unit ![0, 1024, 0] ![1, 1024, 1024] inb_S1x2048x1024_S1x1024x1024_0_1024_0)) (iblk m c 0 t) (iblk m c 1 t)) (iblk m c 8 t) (ix3 0 i e) = _
  rw [leave_at, tiles_at]
  unfold body
  refine fed_congr e (hx e) (blk_gate2 m c t e b hb) (ffn_congr (fun k => ?_) (fun k f => blk_u m c t k f) (fun f => blk_d m c t f e))
  exact (hid_at _ _ _ _ i k).trans (hid_congr hx (fun k => blk_g m c t k) (fun k => blk_sc m c t k b hb) (fun k => blk_sh m c t k b hb) k)

/-- The kernel's result array after its run is the layer's result, element by element. -/
theorem final (c : Dev nD) : (dats m 0 c).arrAt 11 (cfgs 0).N = fun i : S16x2048x1024.Idx =>
      body 0 (m ((c : Thread nD τ).loc main_arg0)) (m ((c : Thread nD τ).loc main_arg1)) (even 0 (m ((c : Thread nD τ).loc main_arg2)) (m ((c : Thread nD τ).loc main_arg3)) (m ((c : Thread nD τ).loc main_arg4)) (i 0) (i 1))
          (m ((c : Thread nD τ).loc main_arg5)) (m ((c : Thread nD τ).loc main_arg6)) (m ((c : Thread nD τ).loc main_arg7)) (i 0) (i 1) (i 2) := by
  refine (dats m 0 c).arrAt_eq_of_covers 11 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_11]
  refine point m c t i j _ _ _ ?_ ?_ ?_
  all_goals
    blk_simp [hi]
    try omega

end Cert.MixKer

end
-- ==== Proof.MixRef.lean ====
module

public import proofs.«01_k».proof.Proof.Gen.ReferenceMixIdeal.Run
public import proofs.«01_k».proof.Proof.LayerRef
public import Idealize.ShloMosaic.Lib.Pointwise

@[expose] public section

set_option maxRecDepth 16384

noncomputable section

namespace Cert.MixRef

open Idealize.ShloMosaic Idealize.ShloMosaic.TcCoe Idealize.SL.Sem
open Cert.ReferenceMixIdeal Cert.Layer Cert.LayerRef

/-- The two mixers' outputs side by side, projected by the layer's weights. -/
def joined (A B : FVec Ideal S16x2048x1024 .bf16) (W : FVec Ideal S2x2048x1024 .f32) : FVec Ideal S16x2048x1024 .f32 :=
  Host.dotGeneral dot_S16x2048x2048_S2048x1024_S16x2048x1024_2_0_01_1_n_n none
    (concatenate S16x2048x2048 2 [⟨S16x2048x1024, extf .f32 A Gen.bitsLt_bf16_f32⟩, ⟨S16x2048x1024, extf .f32 B Gen.bitsLt_bf16_f32⟩]
      Gen.concatenates_S16x2048x1024_S16x2048x1024_S16x2048x2048_d2)
    (shapeCast S2048x1024 (extractStridedSlice S1x2048x1024 ![0, 0, 0] W Gen.slices_S2x2048x1024_S1x2048x1024_0_0_0) Gen.shapeCasts_S1x2048x1024_S2048x1024)

/-- One lane of the joined projection: the contraction falls apart into the two mixers' halves. -/
theorem joined_at (A B : FVec Ideal S16x2048x1024 .bf16) (W : FVec Ideal S2x2048x1024 .f32) (b : Fin 16) (t : Fin 2048) (j : Fin 1024) :
    joined A B W (ix3 b t j) = even 0 A B W b t j := by
  dsimp only [even, proj2]
  pointwise [joined]

variable (m : (ℓ : Loc nD τ sig) → Buf (Elt Ideal) ℓ)

/-- The reference's result in its stages. -/
theorem res_eq (c : Dev nD) : Value.res_main_v49 m c
      = tokens (0 : Fin 4).val Gen.slices_S4x1024_S1x1024_0_0 Gen.slices_S4x1024x5632_S1x1024x5632_0_0_0 Gen.slices_S4x2816x1024_S1x2816x1024_0_0_0
          (m ((c.tc : Thread nD τ).loc main_arg0)) (m ((c.tc : Thread nD τ).loc main_arg1)) (joined (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) := by
  unfold Value.res_main_v49 tokens feeding adding acts lanes moved gained gain up down roots mixing joined
  rfl

/-- The reference's result, element by element. -/
theorem ref_at (c : Dev nD) (b : Fin 16) (t : Fin 2048) (j : Fin 1024) :
    (show FVec Ideal S16x2048x1024 .f32 from Value.res_main_v49 m c) (ix3 b t j)
      = body 0 (m ((c.tc : Thread nD τ).loc main_arg0)) (m ((c.tc : Thread nD τ).loc main_arg1)) (even 0 (m ((c.tc : Thread nD τ).loc main_arg2)) (m ((c.tc : Thread nD τ).loc main_arg3)) (m ((c.tc : Thread nD τ).loc main_arg4)) b t) (m ((c.tc : Thread nD τ).loc main_arg5)) (m ((c.tc : Thread nD τ).loc main_arg6)) (m ((c.tc : Thread nD τ).loc main_arg7)) b t j := by
  rw [res_eq]
  exact tokens_at 0 _ _ _ _ _ _ _ _ _ b t _ (joined_at _ _ _ b t) j

end Cert.MixRef

end
-- ==== Proof.Mix.lean ====
module

public import proofs.«01_k».proof.Defs
public import proofs.«01_k».proof.Proof.MixKer
public import proofs.«01_k».proof.Proof.MixRef
public import Idealize.ShloMosaic.Lib.Quiescent

@[expose] public section

set_option maxRecDepth 16384

noncomputable section

namespace Cert.Mix

open Idealize.ShloMosaic Idealize.ShloMosaic.TcCoe Idealize.SL.Sem

attribute [local instance] Cert.KernelMixIdeal.Gen.facts Cert.ReferenceMixIdeal.Gen.facts

/-- The kernel of an even layer's second half and its reference leave the same array, whatever the arguments. -/
theorem algebraic : Cert.algebraic_KernelMixIdeal_ReferenceMixIdeal := by
  pair_intro
  · run_from Cert.KernelMixIdeal.Gen.run_main m g
    all_goals first
      | with_reducible exact Cert.KernelMixIdeal.Gen.V_main_arg0 m c
      | with_reducible exact Cert.KernelMixIdeal.Gen.V_main_arg1 m c
      | with_reducible exact Cert.KernelMixIdeal.Gen.V_main_arg2 m c
      | with_reducible exact Cert.KernelMixIdeal.Gen.V_main_arg3 m c
      | with_reducible exact Cert.KernelMixIdeal.Gen.V_main_arg4 m c
      | with_reducible exact Cert.KernelMixIdeal.Gen.V_main_arg5 m c
      | with_reducible exact Cert.KernelMixIdeal.Gen.V_main_arg6 m c
      | with_reducible exact Cert.KernelMixIdeal.Gen.V_main_arg7 m c
  · run_from Cert.ReferenceMixIdeal.Value.run m' g'
    rw [Cert.MixKer.final m c]
    obtain ⟨a0, a1, a2, a3, a4, a5, a6, a7⟩ := hagree c
    funext i
    obtain ⟨b, t, j, rfl⟩ : ∃ b t j, i = ix3 b t j := ⟨_, _, _, eq_ix3 i⟩
    refine (Cert.MixRef.ref_at m' c b t j).trans ?_
    rw [a0, a1, a2, a3, a4, a5, a6, a7]
    rfl

/-- The reference's frame: its arguments end unchanged, and it declares no semaphore. -/
theorem frame_reference : Cert.quiescent_ReferenceMixIdeal := fun m g _ =>
  (θ_run Cert.ReferenceMixIdeal.defs _ _).mono (fun r h => ⟨fun c => (h c).2, sem_eq_zero_of_no_sems (by decide) r.2⟩)
    (Cert.ReferenceMixIdeal.Value.run m g)

end Cert.Mix

end
-- ==== Proof.OddKer.lean ====
module

public import proofs.«01_k».proof.Proof.Gen.KernelOddIdeal.Value
public import proofs.«01_k».proof.Proof.LastKer
public import Idealize.ShloMosaic.Lib.Pipeline.ValueKit
public import Idealize.ShloMosaic.Lib.Pointwise
public import Idealize.ShloMosaic.Lib.Claim

@[expose] public section

set_option maxRecDepth 16384

noncomputable section

namespace Cert.OddKer

open Idealize.ShloMosaic Idealize.ShloMosaic.TcCoe Idealize.SL.Sem
open Idealize.ShloMosaic.Pipeline (Dat)
open Cert.KernelOddIdeal Cert.KernelOddIdeal.Gen Cert.Layer
open Cert.LastKer (hidden hid_at tiles tiles_at leave leave_at mix_at)

variable (m : (ℓ : Loc nD τ sig) → Buf (Elt Ideal) ℓ)

/-- The block every window is at, point by point: sample `t / 4`, quarter `t % 4` of its tokens. -/
theorem idx : ∀ t : Fin cfg0.N, win0_0.index t = ![t.val / 4, t.val % 4, 0] ∧ win0_1.index t = ![t.val / 4, 0, 2]
    ∧ win0_2.index t = ![t.val / 4, t.val % 4, 0] ∧ win0_3.index t = ![0, 0, 0] ∧ win0_4.index t = ![0, 0]
    ∧ win0_5.index t = ![t.val / 4, 0, 3] ∧ win0_6.index t = ![t.val / 4, 0, 4] ∧ win0_7.index t = ![t.val / 4, 0, 5]
    ∧ win0_8.index t = ![1, 0, 0] ∧ win0_9.index t = ![1, 0, 0]
    ∧ win0_10.index t = ![t.val / 4, t.val % 4, 0] :=
  (by decide +kernel : ∀ t : Fin grid0.N, _)

/-- The block of tokens read at a position. -/
theorem blk_x (c : Dev nD) (t : Fin cfg0.N) (i : Fin 512) (j : Fin 1024) (b : Fin 16) (r : Fin 2048) (hb : b.val = t.val / 4)
    (hr : r.val = t.val % 4 * 512 + i.val) : (show FVec Ideal S1x512x1024 .f32 from iblk m c 0 t) (ix3 0 i j)
      = (show FVec Ideal S16x2048x1024 .f32 from m ((c : Thread nD τ).loc main_arg0)) (ix3 b r j) := by
  have hi := idx t
  show iblk m c 0 t (ix3 0 i j) = _
  blk_simp [iblk]
  entry_read
  pointwise
  blk_point [hi]

/-- The block of mixer outputs read at a position. -/
theorem blk_o (c : Dev nD) (t : Fin cfg0.N) (i : Fin 512) (j : Fin 1024) (b : Fin 16) (r : Fin 2048) (hb : b.val = t.val / 4)
    (hr : r.val = t.val % 4 * 512 + i.val) : (show FVec Ideal S1x512x1024 .bf16 from iblk m c 2 t) (ix3 0 i j)
      = (show FVec Ideal S16x2048x1024 .bf16 from m ((c : Thread nD τ).loc main_arg2)) (ix3 b r j) := by
  have hi := idx t
  show iblk m c 2 t (ix3 0 i j) = _
  blk_simp [iblk]
  entry_read
  pointwise
  blk_point [hi]

/-- The modulation vectors as the call takes them: the samples' rows, then padding. -/
theorem mods_val (c : Dev nD) : V m c main_v7 = shapeCast S24x1x6144 (pad S24x6144 ![0, 0] ![8, 0] ![0, 0]
      (show FVec Ideal S16x6144 .f32 from m ((c : Thread nD τ).loc main_arg1)) (sitofp .f32 (constantI S_ 32 0#32)) pads_S16x6144_S24x6144_080_000 h_S_)
      shapeCasts_S24x6144_S24x1x6144 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The same read at a row of a sample. -/
theorem mods_at (c : Dev nD) (j : S24x1x6144.Idx) (b : Fin 16) (e : Fin 6144) (hb : b.val = (j 0).val) (he : e.val = (j 2).val) :
    V m c main_v7 j = (show FVec Ideal S16x6144 .f32 from m ((c : Thread nD τ).loc main_arg1)) (ix2 b e) := by
  have h16 : (j 0).val < 16 := by omega
  rw [mods_val]
  pointwise
  rw [dif_pos h16]
  blk_ext

/-- The gain of the norm before the feed-forward as the call takes it: the layer's row. -/
theorem gain_val (c : Dev nD) : V m c main_v5 = shapeCast S1x1024 (shapeCast S1024 (extractStridedSlice S1x1024 ![1, 0]
      (show FVec Ideal S4x1024 .f32 from m ((c : Thread nD τ).loc main_arg4)) slices_S4x1024_S1x1024_1_0) shapeCasts_S1x1024_S1024)
      shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The sample's gate of the output projection. -/
theorem blk_gate1 (c : Dev nD) (t : Fin cfg0.N) (j : Fin 1024) (b : Fin 16) (hb : b.val = t.val / 4) :
    (show FVec Ideal S1x1x1024 .f32 from iblk m c 1 t) (ix3 0 0 j)
      = (show FVec Ideal S16x6144 .f32 from m ((c : Thread nD τ).loc main_arg1)) (ix2 b ⟨2048 + j.val, by omega⟩) := by
  have hi := idx t
  show iblk m c 1 t (ix3 0 0 j) = _
  blk_simp [iblk]
  refine mods_at m c _ b _ ?_ ?_
  all_goals
    blk_simp [hi]
    try omega

/-- The sample's shift. -/
theorem blk_sh (c : Dev nD) (t : Fin cfg0.N) (j : Fin 1024) (b : Fin 16) (hb : b.val = t.val / 4) :
    (show FVec Ideal S1x1x1024 .f32 from iblk m c 5 t) (ix3 0 0 j)
      = (show FVec Ideal S16x6144 .f32 from m ((c : Thread nD τ).loc main_arg1)) (ix2 b ⟨3072 + j.val, by omega⟩) := by
  have hi := idx t
  show iblk m c 5 t (ix3 0 0 j) = _
  blk_simp [iblk]
  refine mods_at m c _ b _ ?_ ?_
  all_goals
    blk_simp [hi]
    try omega

/-- The sample's scale. -/
theorem blk_sc (c : Dev nD) (t : Fin cfg0.N) (j : Fin 1024) (b : Fin 16) (hb : b.val = t.val / 4) :
    (show FVec Ideal S1x1x1024 .f32 from iblk m c 6 t) (ix3 0 0 j)
      = (show FVec Ideal S16x6144 .f32 from m ((c : Thread nD τ).loc main_arg1)) (ix2 b ⟨4096 + j.val, by omega⟩) := by
  have hi := idx t
  show iblk m c 6 t (ix3 0 0 j) = _
  blk_simp [iblk]
  refine mods_at m c _ b _ ?_ ?_
  all_goals
    blk_simp [hi]
    try omega

/-- The sample's gate of the feed-forward. -/
theorem blk_gate2 (c : Dev nD) (t : Fin cfg0.N) (j : Fin 1024) (b : Fin 16) (hb : b.val = t.val / 4) :
    (show FVec Ideal S1x1x1024 .f32 from iblk m c 7 t) (ix3 0 0 j)
      = (show FVec Ideal S16x6144 .f32 from m ((c : Thread nD τ).loc main_arg1)) (ix2 b ⟨5120 + j.val, by omega⟩) := by
  have hi := idx t
  show iblk m c 7 t (ix3 0 0 j) = _
  blk_simp [iblk]
  refine mods_at m c _ b _ ?_ ?_
  all_goals
    blk_simp [hi]
    try omega

/-- The output projection's weights. -/
theorem blk_wo (c : Dev nD) (t : Fin cfg0.N) (k j : Fin 1024) : (show FVec Ideal S1x1024x1024 .bf16 from iblk m c 3 t) (ix3 0 k j)
      = (show FVec Ideal S2x1024x1024 .f32 from m ((c : Thread nD τ).loc main_arg3)) (ix3 0 k j) := by
  have hi := idx t
  show iblk m c 3 t (ix3 0 k j) = _
  blk_simp [iblk]
  entry_read
  pointwise
  blk_point [hi]

/-- The gain of the norm before the feed-forward. -/
theorem blk_g (c : Dev nD) (t : Fin cfg0.N) (j : Fin 1024) : (show FVec Ideal S1x1024 .f32 from iblk m c 4 t) (ix2 0 j)
      = (show FVec Ideal S4x1024 .f32 from m ((c : Thread nD τ).loc main_arg4)) (ix2 1 j) := by
  have hi := idx t
  show iblk m c 4 t (ix2 0 j) = _
  blk_simp [iblk]
  rw [gain_val]
  pointwise
  blk_point [hi]

/-- The feed-forward's first weights. -/
theorem blk_u (c : Dev nD) (t : Fin cfg0.N) (k : Fin 1024) (f : Fin 5632) : (show FVec Ideal S1x1024x5632 .bf16 from iblk m c 8 t) (ix3 0 k f)
      = (show FVec Ideal S4x1024x5632 .f32 from m ((c : Thread nD τ).loc main_arg5)) (ix3 1 k f) := by
  have hi := idx t
  show iblk m c 8 t (ix3 0 k f) = _
  blk_simp [iblk]
  entry_read
  pointwise
  blk_point [hi]

/-- The feed-forward's second weights. -/
theorem blk_d (c : Dev nD) (t : Fin cfg0.N) (f : Fin 2816) (j : Fin 1024) : (show FVec Ideal S1x2816x1024 .bf16 from iblk m c 9 t) (ix3 0 f j)
      = (show FVec Ideal S4x2816x1024 .f32 from m ((c : Thread nD τ).loc main_arg6)) (ix3 1 f j) := by
  have hi := idx t
  show iblk m c 9 t (ix3 0 f j) = _
  blk_simp [iblk]
  entry_read
  pointwise
  blk_point [hi]

/-- What a grid point leaves in its output block is the layer's result where the block element sits. -/
theorem point (c : Dev nD) (t : Fin cfg0.N) (i : Fin 512) (j : Fin 1024) (b : Fin 16) (r : Fin 2048) (e : Fin 1024) (hb : b.val = t.val / 4)
    (hr : r.val = t.val % 4 * 512 + i.val) (he : e.val = j.val) : outsAt0 m c t (ix3 0 i j)
      = body 1 (m ((c : Thread nD τ).loc main_arg0)) (m ((c : Thread nD τ).loc main_arg1)) (odd 0 (m ((c : Thread nD τ).loc main_arg2)) (m ((c : Thread nD τ).loc main_arg3)) b r)
          (m ((c : Thread nD τ).loc main_arg4)) (m ((c : Thread nD τ).loc main_arg5)) (m ((c : Thread nD τ).loc main_arg6)) b r e := by
  obtain rfl : e = j := Fin.ext he
  have hx := fun k => (mix_at (iblk m c 2 t) (iblk m c 3 t) (iblk m c 0 t) (iblk m c 1 t) i k).trans
    (mixed_congr (fun k => blk_x m c t i k b r hb hr) (fun k => blk_gate1 m c t k b hb)
      (proj_congr (fun k => blk_o m c t i k b r hb hr) (fun k j => blk_wo m c t k j)) k)
  unfold outsAt0
  frame_out
  show leave (tiles (hidden (k0_pay2 (iblk m c 2 t) (iblk m c 3 t) (iblk m c 0 t) (iblk m c 1 t))
        (iblk m c 4 t) (iblk m c 6 t) (iblk m c 5 t)) (iblk m c 8 t) (iblk m c 9 t))
      (k0_pay2 (iblk m c 2 t) (iblk m c 3 t) (iblk m c 0 t) (iblk m c 1 t)) (iblk m c 7 t) (ix3 0 i e) = _
  rw [leave_at, tiles_at]
  unfold body
  refine fed_congr e (hx e) (blk_gate2 m c t e b hb) (ffn_congr (fun k => ?_) (fun k f => blk_u m c t k f) (fun f => blk_d m c t f e))
  exact (hid_at _ _ _ _ i k).trans (hid_congr hx (fun k => blk_g m c t k) (fun k => blk_sc m c t k b hb) (fun k => blk_sh m c t k b hb) k)

/-- The kernel's result array after its run is the layer's result, element by element. -/
theorem final (c : Dev nD) : (dats m 0 c).arrAt 10 (cfgs 0).N = fun i : S16x2048x1024.Idx =>
      body 1 (m ((c : Thread nD τ).loc main_arg0)) (m ((c : Thread nD τ).loc main_arg1)) (odd 0 (m ((c : Thread nD τ).loc main_arg2)) (m ((c : Thread nD τ).loc main_arg3)) (i 0) (i 1))
          (m ((c : Thread nD τ).loc main_arg4)) (m ((c : Thread nD τ).loc main_arg5)) (m ((c : Thread nD τ).loc main_arg6)) (i 0) (i 1) (i 2) := by
  refine (dats m 0 c).arrAt_eq_of_covers 10 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_10]
  refine point m c t i j _ _ _ ?_ ?_ ?_
  all_goals
    blk_simp [hi]
    try omega

end Cert.OddKer

end
-- ==== Proof.OddRef.lean ====
module

public import proofs.«01_k».proof.Proof.Gen.ReferenceOddIdeal.Run
public import proofs.«01_k».proof.Proof.LayerRef
public import Idealize.ShloMosaic.Lib.Pointwise

@[expose] public section

set_option maxRecDepth 16384

noncomputable section

namespace Cert.OddRef

open Idealize.ShloMosaic Idealize.ShloMosaic.TcCoe Idealize.SL.Sem
open Cert.ReferenceOddIdeal Cert.Layer Cert.LayerRef

variable (m : (ℓ : Loc nD τ sig) → Buf (Elt Ideal) ℓ)

/-- The reference's result in its stages. -/
theorem res_eq (c : Dev nD) : Value.res_main_v47 m c
      = tokens (1 : Fin 4).val Gen.slices_S4x1024_S1x1024_1_0 Gen.slices_S4x1024x5632_S1x1024x5632_1_0_0 Gen.slices_S4x2816x1024_S1x2816x1024_1_0_0
          (m ((c.tc : Thread nD τ).loc main_arg0)) (m ((c.tc : Thread nD τ).loc main_arg1))
          (projected (m ((c.tc : Thread nD τ).loc main_arg2)) (weights (0 : Fin 2).val Gen.slices_S2x1024x1024_S1x1024x1024_0_0_0 (m ((c.tc : Thread nD τ).loc main_arg3))))
          (m ((c.tc : Thread nD τ).loc main_arg4)) (m ((c.tc : Thread nD τ).loc main_arg5)) (m ((c.tc : Thread nD τ).loc main_arg6)) := by
  unfold Value.res_main_v47 tokens feeding adding acts lanes moved gained gain up down roots mixing projected weights
  rfl

/-- The reference's result, element by element. -/
theorem ref_at (c : Dev nD) (b : Fin 16) (t : Fin 2048) (j : Fin 1024) :
    (show FVec Ideal S16x2048x1024 .f32 from Value.res_main_v47 m c) (ix3 b t j)
      = body 1 (m ((c.tc : Thread nD τ).loc main_arg0)) (m ((c.tc : Thread nD τ).loc main_arg1)) (odd 0 (m ((c.tc : Thread nD τ).loc main_arg2)) (m ((c.tc : Thread nD τ).loc main_arg3)) b t) (m ((c.tc : Thread nD τ).loc main_arg4)) (m ((c.tc : Thread nD τ).loc main_arg5)) (m ((c.tc : Thread nD τ).loc main_arg6)) b t j := by
  rw [res_eq]
  exact tokens_at 1 _ _ _ _ _ _ _ _ _ b t _ (out_at 0 _ _ _ b t) j

end Cert.OddRef

end
-- ==== Proof.Odd.lean ====
module

public import proofs.«01_k».proof.Defs
public import proofs.«01_k».proof.Proof.OddKer
public import proofs.«01_k».proof.Proof.OddRef
public import Idealize.ShloMosaic.Lib.Quiescent

@[expose] public section

set_option maxRecDepth 16384

noncomputable section

namespace Cert.Odd

open Idealize.ShloMosaic Idealize.ShloMosaic.TcCoe Idealize.SL.Sem

attribute [local instance] Cert.KernelOddIdeal.Gen.facts Cert.ReferenceOddIdeal.Gen.facts

/-- The kernel of an odd layer before the last and its reference leave the same array, whatever the arguments. -/
theorem algebraic : Cert.algebraic_KernelOddIdeal_ReferenceOddIdeal := by
  pair_intro
  · run_from Cert.KernelOddIdeal.Gen.run_main m g
    all_goals first
      | with_reducible exact Cert.KernelOddIdeal.Gen.V_main_arg0 m c
      | with_reducible exact Cert.KernelOddIdeal.Gen.V_main_arg1 m c
      | with_reducible exact Cert.KernelOddIdeal.Gen.V_main_arg2 m c
      | with_reducible exact Cert.KernelOddIdeal.Gen.V_main_arg3 m c
      | with_reducible exact Cert.KernelOddIdeal.Gen.V_main_arg4 m c
      | with_reducible exact Cert.KernelOddIdeal.Gen.V_main_arg5 m c
      | with_reducible exact Cert.KernelOddIdeal.Gen.V_main_arg6 m c
  · run_from Cert.ReferenceOddIdeal.Value.run m' g'
    rw [Cert.OddKer.final m c]
    obtain ⟨a0, a1, a2, a3, a4, a5, a6⟩ := hagree c
    funext i
    obtain ⟨b, t, j, rfl⟩ : ∃ b t j, i = ix3 b t j := ⟨_, _, _, eq_ix3 i⟩
    refine (Cert.OddRef.ref_at m' c b t j).trans ?_
    rw [a0, a1, a2, a3, a4, a5, a6]
    rfl

/-- The reference's frame: its arguments end unchanged, and it declares no semaphore. -/
theorem frame_reference : Cert.quiescent_ReferenceOddIdeal := fun m g _ =>
  (θ_run Cert.ReferenceOddIdeal.defs _ _).mono (fun r h => ⟨fun c => (h c).2, sem_eq_zero_of_no_sems (by decide) r.2⟩)
    (Cert.ReferenceOddIdeal.Value.run m g)

end Cert.Odd

end
-- ==== Proof.Heads.lean ====
module

public import proofs.«01_k».proof.Proof.Layer
public import proofs.«01_k».proof.Proof.Softmax

@[expose] public section

set_option maxRecDepth 16384

noncomputable section

namespace Cert.Heads

open Idealize.ShloMosaic Cert.Layer

/-- The number of lanes of a head, as the mean over its lanes divides by it. -/
def wide : EReal := Ideal.ofBits FTy.f32 0x43000000#32

/-- One over the number of lanes of a head, as the other program multiplies by it. -/
def part : EReal := Ideal.ofBits FTy.f32 0x3C000000#32

/-- The scale of the queries, `128 ^ (-1/2)` as the programs hold it. -/
def qscale : EReal := Ideal.ofBits FTy.f32 0x3DB504F3#32

/-- One over the root mean square of a head. -/
def root (t : Fin 128 → EReal) : EReal := Ideal.rsqrt (Ideal.div (∑ c, t c * t c) wide + eps)

/-- A head turned by its token's angles: each lane of the first half with the lane 64 further on. -/
def turned (y : Fin 128 → EReal) (cs sn : Fin 64 → EReal) (j : Fin 128) : EReal :=
  if h : j.val < 64 then y j * cs ⟨j.val, h⟩ - y ⟨64 + j.val, by omega⟩ * sn ⟨j.val, h⟩
  else y j * cs ⟨j.val - 64, by omega⟩ + y ⟨j.val - 64, by omega⟩ * sn ⟨j.val - 64, by omega⟩

/-- A head normalised, scaled by its gain and turned. -/
def headed (t g : Fin 128 → EReal) (cs sn : Fin 64 → EReal) : Fin 128 → EReal := turned (fun c => t c * root t * g c) cs sn

/-- The same turn with the angles' tables laid out over all lanes, the sines' sign in the table. -/
def spun (y c s : Fin 128 → EReal) (j : Fin 128) : EReal := y j * c j + y ⟨(j.val + 64) % 128, by omega⟩ * s j

/-- The two ways to turn a head agree. -/
theorem spun_eq (y c s : Fin 128 → EReal) (cs sn : Fin 64 → EReal) (hc : ∀ j : Fin 128, c j = cs ⟨j.val % 64, by omega⟩)
    (hs : ∀ j : Fin 128, s j = if j.val < 64 then -sn ⟨j.val % 64, by omega⟩ else sn ⟨j.val % 64, by omega⟩) (j : Fin 128) :
    spun y c s j = turned y cs sn j := by
  unfold spun turned
  rw [hc, hs]
  by_cases h : j.val < 64
  · have e : j.val % 64 = j.val := by omega
    have f : (j.val + 64) % 128 = 64 + j.val := by omega
    simp only [h, if_true, dif_pos, e, f, mul_neg, sub_eq_add_neg]
  · have e : j.val % 64 = j.val - 64 := by omega
    have f : (j.val + 64) % 128 = j.val - 64 := by omega
    simp only [h, if_false, dif_neg, e, f, not_false_eq_true]

/-- An extended real that is a real number. -/
def IsReal (x : EReal) : Prop := ∃ r : ℝ, x = (r : EReal)

theorem real_mul {x y : EReal} (a : IsReal x) (b : IsReal y) : IsReal (x * y) := by
  obtain ⟨r, rfl⟩ := a
  obtain ⟨s, rfl⟩ := b
  exact ⟨r * s, by push_cast; rfl⟩

theorem real_add {x y : EReal} (a : IsReal x) (b : IsReal y) : IsReal (x + y) := by
  obtain ⟨r, rfl⟩ := a
  obtain ⟨s, rfl⟩ := b
  exact ⟨r + s, by push_cast; rfl⟩

theorem real_one : IsReal 1 := ⟨1, rfl⟩

theorem real_sum {n : ℕ} {f : Fin n → EReal} (h : ∀ k, IsReal (f k)) : IsReal (∑ k, f k) := by
  choose r hr using h
  exact ⟨∑ k, r k, by rw [← Cert.Softmax.coe_sum]; exact Finset.sum_congr rfl fun k _ => hr k⟩

/-- The number added below the root is a positive real number. -/
theorem eps_pos : ∃ r : ℝ, eps = (r : EReal) ∧ 0 < r := by
  show ∃ r : ℝ, Ideal.ieee 8 23 0x358637BD#32 = (r : EReal) ∧ 0 < r
  unfold Ideal.ieee
  rw [if_neg (by decide), if_neg (by decide)]
  refine ⟨_, rfl, ?_⟩
  rw [if_neg (by decide)]
  have h : ∀ n : ℕ, (0 : ℝ) < 1 * (2 ^ 23 + n : ℕ) := fun n => by positivity
  exact mul_pos (h _) (zpow_pos (by norm_num) _)

/-- The number of lanes of a token is a positive real number. -/
theorem width_pos : ∃ r : ℝ, width = (r : EReal) ∧ 0 < r := by
  show ∃ r : ℝ, Ideal.ieee 8 23 0x44800000#32 = (r : EReal) ∧ 0 < r
  unfold Ideal.ieee
  rw [if_neg (by decide), if_neg (by decide)]
  refine ⟨_, rfl, ?_⟩
  rw [if_neg (by decide)]
  have h : ∀ n : ℕ, (0 : ℝ) < 1 * (2 ^ 23 + n : ℕ) := fun n => by positivity
  exact mul_pos (h _) (zpow_pos (by norm_num) _)

theorem wide_eq : wide = ((128 : ℝ) : EReal) := by
  show Ideal.ieee 8 23 0x43000000#32 = _
  unfold Ideal.ieee
  rw [if_neg (by decide), if_neg (by decide), if_neg (by decide), show (BitVec.extractLsb' 23 8 0x43000000#32).toNat = 134 from by decide,
    show (BitVec.extractLsb' 0 23 0x43000000#32).toNat = 0 from by decide]
  norm_num

theorem part_eq : part = ((1 / 128 : ℝ) : EReal) := by
  show Ideal.ieee 8 23 0x3C000000#32 = _
  unfold Ideal.ieee
  rw [if_neg (by decide), if_neg (by decide), if_neg (by decide), show (BitVec.extractLsb' 23 8 0x3C000000#32).toNat = 120 from by decide,
    show (BitVec.extractLsb' 0 23 0x3C000000#32).toNat = 0 from by decide]
  norm_num

/-- The word of the number one. -/
theorem one_eq : Ideal.ofBits FTy.f32 0x3F800000#32 = 1 := by
  show Ideal.ieee 8 23 0x3F800000#32 = _
  unfold Ideal.ieee
  rw [if_neg (by decide), if_neg (by decide), if_neg (by decide), show (BitVec.extractLsb' 23 8 0x3F800000#32).toNat = 127 from by decide,
    show (BitVec.extractLsb' 0 23 0x3F800000#32).toNat = 0 from by decide]
  norm_num

/-- Multiplying by one over the number of lanes is dividing by it. -/
theorem mul_part (x : EReal) : x * part = Ideal.div x wide := by
  have h : wide ≠ 0 := by
    rw [wide_eq]
    norm_num
  unfold Ideal.div
  rw [if_neg h, wide_eq, part_eq, ← EReal.coe_inv]
  norm_num

/-- One over the root mean square of a token of real numbers is a real number. -/
theorem real_rms {x : Fin 1024 → EReal} (h : ∀ k, IsReal (x k)) : IsReal (rms x) := by
  choose r hr using h
  obtain ⟨e, he, pe⟩ := eps_pos
  obtain ⟨w, hw, pw⟩ := width_pos
  have hw0 : (w : EReal) ≠ 0 := by exact_mod_cast pw.ne'
  have key : Ideal.div (∑ k, x k * x k) width + eps = (((∑ k, r k * r k) * w⁻¹ + e : ℝ) : EReal) := by
    unfold Ideal.div
    rw [he, hw, if_neg hw0, ← EReal.coe_inv]
    simp only [hr, ← EReal.coe_mul, Cert.Softmax.coe_sum, ← EReal.coe_add]
  have pos : 0 < (∑ k, r k * r k) * w⁻¹ + e :=
    add_pos_of_nonneg_of_pos (mul_nonneg (Finset.sum_nonneg fun k _ => mul_self_nonneg _) (inv_nonneg.2 pw.le)) pe
  refine ⟨(Real.sqrt ((∑ k, r k * r k) * w⁻¹ + e))⁻¹, ?_⟩
  unfold rms
  rw [key]
  show (if (_ : ℝ) < 0 then ⊥ else if (_ : ℝ) = 0 then ⊤ else ((Real.sqrt _)⁻¹ : ℝ) : EReal) = _
  rw [if_neg (not_lt.2 pos.le), if_neg pos.ne']

/-- A hidden token of real numbers is one of real numbers. -/
theorem real_hid {x g sc sh : Fin 1024 → EReal} (a : ∀ k, IsReal (x k)) (b : ∀ k, IsReal (g k)) (c : ∀ k, IsReal (sc k)) (d : ∀ k, IsReal (sh k))
    (k : Fin 1024) : IsReal (hid x g sc sh k) :=
  real_add (real_mul (real_mul (real_mul (a k) (real_rms a)) (b k)) (real_add real_one (c k))) (d k)

/-- The squares' sum from their two parts, the second part nothing, is the sum of squares. -/
theorem split_sum {t : Fin 128 → EReal} (h : ∀ c, IsReal (t c)) : (∑ c, t c * t c) + ∑ c, (t c * t c - t c * t c) = ∑ c, t c * t c := by
  have z : ∀ c, t c * t c - t c * t c = 0 := fun c => by
    obtain ⟨r, hr⟩ := real_mul (h c) (h c)
    rw [hr, ← EReal.coe_sub, sub_self]
    rfl
  simp only [z, Finset.sum_const_zero, add_zero]

/-- The hidden token of the second layer's mixer: normalised, then scaled and shifted by its sample's modulation. -/
def token (X : FVec Ideal ⟨3, ![16, 2048, 1024]⟩ .f32) (M : FVec Ideal ⟨2, ![16, 6144]⟩ .f32) (G : FVec Ideal ⟨2, ![4, 1024]⟩ .f32)
    (b : Fin 16) (t : Fin 2048) : Fin 1024 → EReal :=
  hid (fun k => X (ix3 b t k)) (fun k => G (ix2 1 k)) (fun k => M (ix2 b ⟨1024 + k.val, by omega⟩)) (fun k => M (ix2 b ⟨k.val, by omega⟩))

/-- A lane of the queries, keys and values before the heads' norms. -/
def lane (h : Fin 1024 → EReal) (W : Fin 1024 → Fin 1536 → EReal) (f : Fin 1536) : EReal := ∑ k, h k * W k f

/-- The queries. -/
def query (h : Fin 1024 → EReal) (W : Fin 1024 → Fin 1536 → EReal) (g : Fin 128 → EReal) (cs sn : Fin 64 → EReal) (j : Fin 1024) : EReal :=
  headed (fun c => lane h W ⟨j.val / 128 * 128 + c.val, by omega⟩) g cs sn ⟨j.val % 128, by omega⟩ * qscale

/-- The keys. -/
def key (h : Fin 1024 → EReal) (W : Fin 1024 → Fin 1536 → EReal) (g : Fin 128 → EReal) (cs sn : Fin 64 → EReal) (j : Fin 256) : EReal :=
  headed (fun c => lane h W ⟨1024 + (j.val / 128 * 128 + c.val), by omega⟩) g cs sn ⟨j.val % 128, by omega⟩

/-- The values, each head's followed by as many ones. -/
def value (h : Fin 1024 → EReal) (W : Fin 1024 → Fin 1536 → EReal) (j : Fin 512) : EReal :=
  if l : j.val % 256 < 128 then lane h W ⟨1280 + (j.val / 256 * 128 + j.val % 256), by omega⟩ else 1

/-- A lane of real tokens and weights is a real number. -/
theorem real_lane {h : Fin 1024 → EReal} {W : Fin 1024 → Fin 1536 → EReal} (a : ∀ k, IsReal (h k)) (b : ∀ k f, IsReal (W k f)) (f : Fin 1536) :
    IsReal (lane h W f) := real_sum fun k => real_mul (a k) (b k f)

end Cert.Heads

end
-- ==== Proof.QkvKer.lean ====
module

public import proofs.«01_k».proof.Proof.Gen.KernelQkvIdeal.Value
public import proofs.«01_k».proof.Proof.Heads
public import Idealize.ShloMosaic.Lib.Pipeline.ValueKit
public import Idealize.ShloMosaic.Lib.Pointwise
public import Idealize.ShloMosaic.Lib.Claim

@[expose] public section

set_option maxRecDepth 16384

noncomputable section

namespace Cert.QkvKer

open Idealize.ShloMosaic Idealize.ShloMosaic.TcCoe Idealize.SL.Sem
open Idealize.ShloMosaic.Pipeline (Dat)
open Cert.KernelQkvIdeal Cert.KernelQkvIdeal.Gen Cert.Layer Cert.Heads

/-- The block's product: every token's lanes of queries, keys and values. -/
theorem lanes_at (x : Vec Ideal S1x1024x1024 .f32) (g : Vec Ideal S1x1024 .f32) (sc sh : Vec Ideal S1x1x1024 .f32) (w : Vec Ideal S1x1024x1536 .bf16)
    (i : Fin 1024) (f : Fin 1536) : k0_pay6 x g sc sh w (ix2 i f)
      = lane (hid (fun k => x (ix3 0 i k)) (fun k => g (ix2 0 k)) (fun k => sc (ix3 0 0 k)) (fun k => sh (ix3 0 0 k))) (fun k f => w (ix3 0 k f)) f := by
  pointwise [k0_pay6]
  dsimp only [lane, hid, rms, width, eps]

/-- A head normalised and with its gain, its squares summed in two parts. -/
def norm (o : ℕ) (hs : S1024x1536.Slices ![0, o] S1024x128) (T : FVec Ideal S1024x1536 .f32) (g : FVec Ideal S1x128 .f32) : FVec Ideal S1024x128 .f32 :=
  mulf (mulf (extractStridedSlice S1024x128 ![0, o] T hs)
    (rsqrt (addf (mulf (addf
      (matmul dot_S1024x128_S128x128_S1024x128_1_0_0_1_n_n none
        (truncf .bf16 (mulf (extractStridedSlice S1024x128 ![0, o] T hs) (extractStridedSlice S1024x128 ![0, o] T hs)) bitsLt_bf16_f32)
        (k0_pay7 (F := Ideal)) (constant S1024x128 .f32 0x00000000#32))
      (matmul dot_S1024x128_S128x128_S1024x128_1_0_0_1_n_n none
        (truncf .bf16 (subf (mulf (extractStridedSlice S1024x128 ![0, o] T hs) (extractStridedSlice S1024x128 ![0, o] T hs))
          (extf .f32 (truncf .bf16 (mulf (extractStridedSlice S1024x128 ![0, o] T hs) (extractStridedSlice S1024x128 ![0, o] T hs)) bitsLt_bf16_f32) bitsLt_bf16_f32)) bitsLt_bf16_f32)
        (k0_pay7 (F := Ideal)) (constant S1024x128 .f32 0x00000000#32)))
      (broadcast S1024x128 (Scalar.ofBits .f32 0x3C000000#32))) (broadcast S1024x128 (Scalar.ofBits .f32 0x358637BD#32)))))
    (broadcastTo S1024x128 (shapeCast S1x128 g shapeCasts_S1x128_S1x128) broadcasts_S1x128_S1024x128)

/-- A normalised head turned by the tables, scaled and laid out as its store takes it. -/
def spin (s : BitVec 32) (y : FVec Ideal S1024x128 .f32) (C S : FVec Ideal S1024x128 .f32) : FVec Ideal S1x1024x128 .bf16 :=
  shapeCast S1x1024x128 (truncf .bf16 (mulf (addf (mulf y (shapeCast S1024x128 C shapeCasts_S1024x128_S1024x128))
      (mulf (dynamicRotate 1 64#32 none y rotates_S1024x128_d1) (shapeCast S1024x128 S shapeCasts_S1024x128_S1024x128)))
    (broadcast S1024x128 (Scalar.ofBits .f32 s))) bitsLt_bf16_f32) shapeCasts_S1024x128_S1x1024x128

/-- A normalised head's lane, its lanes being real numbers. -/
theorem norm_at (o : ℕ) (hs : S1024x1536.Slices ![0, o] S1024x128) (ho : o + 128 ≤ 1536) (T : FVec Ideal S1024x1536 .f32) (g : FVec Ideal S1x128 .f32)
    (i : Fin 1024) (hT : ∀ f, IsReal (T (ix2 i f))) (j : Fin 128) :
    norm o hs T g (ix2 i j) = T (ix2 i ⟨o + j.val, by omega⟩) * root (fun c => T (ix2 i ⟨o + c.val, by omega⟩)) * g (ix2 0 j) := by
  unfold root
  rw [← split_sum (fun c => hT _), ← mul_part]
  dsimp only [part, eps]
  pointwise [norm, k0_pay7]

/-- A turned head's lane. -/
theorem spin_at (s : BitVec 32) (y C S : FVec Ideal S1024x128 .f32) (i : Fin 1024) (j : Fin 128) :
    spin s y C S (ix3 0 i j) = spun (fun c => y (ix2 i c)) (fun c => C (ix2 i c)) (fun c => S (ix2 i c)) j * Ideal.ofBits FTy.f32 s := by
  have e : (j.val + 128 - 64) % 128 = (j.val + 64) % 128 := by omega
  unfold spun
  pointwise [spin]
  simp only [e]

/-- A head's lane out of the block's product, before its scale. -/
def cell (T : FVec Ideal S1024x1536 .f32) (g : FVec Ideal S1x128 .f32) (C S : FVec Ideal S1024x128 .f32) (i : Fin 1024) (o : ℕ) (ho : o + 128 ≤ 1536)
    (j : Fin 128) : EReal :=
  spun (fun c => T (ix2 i ⟨o + c.val, by omega⟩) * root (fun c => T (ix2 i ⟨o + c.val, by omega⟩)) * g (ix2 0 c)) (fun c => C (ix2 i c)) (fun c => S (ix2 i c)) j

/-- A store of a head is that part of the block's queries or keys. -/
theorem head_cell (s : BitVec 32) (o : ℕ) (hs : S1024x1536.Slices ![0, o] S1024x128) (T : FVec Ideal S1024x1536 .f32) (g : FVec Ideal S1x128 .f32)
    (C S : FVec Ideal S1024x128 .f32) (hT : ∀ i f, IsReal (T (ix2 i f))) (o' : ℕ) (ho : o' + 128 ≤ 1536) (i : Fin 1024) (j : Fin 128) (x : S1x1024x128.Idx)
    (h : o = o') (hi : i.val = (x 1).val) (hj : j.val = (x 2).val) :
    spin s (norm o hs T g) C S x = cell T g C S i o' ho j * Ideal.ofBits FTy.f32 s := by
  subst h
  obtain ⟨z, p, f, rfl⟩ : ∃ z p f, x = ix3 z p f := ⟨_, _, _, eq_ix3 x⟩
  obtain rfl : z = 0 := Subsingleton.elim _ _
  obtain rfl : i = p := Fin.ext hi
  obtain rfl : j = f := Fin.ext hj
  rw [spin_at]
  simp only [norm_at o hs ho T g i (hT i)]
  rfl

/-- The block's product, by the names its body's stores go by. -/
abbrev prod (x0 : Vec Ideal S1x1024x1024 .f32) (x1 : Vec Ideal S1x1024 .f32) (x2 x3 : Vec Ideal S1x1x1024 .f32) (x4 : Vec Ideal S1x1024x1536 .bf16) : FVec Ideal S1024x1536 .f32 :=
  k0_pay6 (View.ld x0 r0_0) (View.ld x1 r0_1) (View.ld x3 r0_2) (View.ld x2 r0_2) (View.ld x4 r0_3)

/-- What the body leaves in its block of queries. -/
theorem out9_cell (x0 : Vec Ideal S1x1024x1024 .f32) (x1 : Vec Ideal S1x1024 .f32) (x2 x3 : Vec Ideal S1x1x1024 .f32) (x4 : Vec Ideal S1x1024x1536 .bf16)
    (x5 x6 : Vec Ideal S1x128 .f32) (x7 x8 : Vec Ideal S1024x128 .f32) (hT : ∀ i f, IsReal (prod x0 x1 x2 x3 x4 (ix2 i f))) (y : S1x1024x1024.Idx) :
    out0_9 x0 x1 x2 x3 x4 x5 x6 x7 x8 y
      = cell (prod x0 x1 x2 x3 x4) (View.ld x5 r0_4) (View.ld x7 r0_5) (View.ld x8 r0_5) (y 1) ((y 2).val / 128 * 128) (by have : (y 2).val < 1024 := (y 2).isLt; omega)
          ⟨(y 2).val % 128, by omega⟩ * Ideal.ofBits FTy.f32 0x3DB504F3#32 := by
  unfold prod at hT ⊢
  unfold out0_9 k0_pay41 k0_pay42 k0_pay11 k0_pay10 k0_pay8
  generalize k0_pay6 (View.ld x0 r0_0) (View.ld x1 r0_1) (View.ld x3 r0_2) (View.ld x2 r0_2) (View.ld x4 r0_3) = T at hT ⊢
  generalize View.ld x5 r0_4 = g
  generalize View.ld x7 r0_5 = C
  generalize View.ld x8 r0_5 = S
  canon_tiles x h
  all_goals
    open_payloads
    exact head_cell _ _ _ T g C S hT _ _ (y 1) _ x (by omega) (by omega) (by simp only; omega)

/-- What the body leaves in its block of keys. -/
theorem out10_cell (x0 : Vec Ideal S1x1024x1024 .f32) (x1 : Vec Ideal S1x1024 .f32) (x2 x3 : Vec Ideal S1x1x1024 .f32) (x4 : Vec Ideal S1x1024x1536 .bf16)
    (x5 x6 : Vec Ideal S1x128 .f32) (x7 x8 : Vec Ideal S1024x128 .f32) (hT : ∀ i f, IsReal (prod x0 x1 x2 x3 x4 (ix2 i f))) (y : S1x1024x256.Idx) :
    out0_10 x0 x1 x2 x3 x4 x5 x6 x7 x8 y
      = cell (prod x0 x1 x2 x3 x4) (View.ld x6 r0_4) (View.ld x7 r0_5) (View.ld x8 r0_5) (y 1) (1024 + (y 2).val / 128 * 128) (by have : (y 2).val < 256 := (y 2).isLt; omega)
          ⟨(y 2).val % 128, by omega⟩ * Ideal.ofBits FTy.f32 0x3F800000#32 := by
  unfold prod at hT ⊢
  unfold out0_10 k0_pay41 k0_pay42
  generalize k0_pay6 (View.ld x0 r0_0) (View.ld x1 r0_1) (View.ld x3 r0_2) (View.ld x2 r0_2) (View.ld x4 r0_3) = T at hT ⊢
  generalize View.ld x6 r0_4 = g
  generalize View.ld x7 r0_5 = C
  generalize View.ld x8 r0_5 = S
  canon_tiles x h
  all_goals
    open_payloads
    exact head_cell _ _ _ T g C S hT _ _ (y 1) _ x (by omega) (by omega) (by simp only; omega)

/-- A head of values as its store takes it. -/
def part (o : ℕ) (hs : S1024x1536.Slices ![0, o] S1024x128) (T : FVec Ideal S1024x1536 .f32) : FVec Ideal S1x1024x128 .bf16 :=
  shapeCast S1x1024x128 (truncf .bf16 (extractStridedSlice S1024x128 ![0, o] T hs) bitsLt_bf16_f32) shapeCasts_S1024x128_S1x1024x128

/-- A lane of a head of values. -/
theorem part_at (o : ℕ) (hs : S1024x1536.Slices ![0, o] S1024x128) (T : FVec Ideal S1024x1536 .f32) (x : S1x1024x128.Idx) (i : Fin 1024) (f : Fin 1536)
    (hi : i.val = (x 1).val) (hf : f.val = o + (x 2).val) : part o hs T x = T (ix2 i f) := by
  obtain ⟨z, p, q, rfl⟩ : ∃ z p q, x = ix3 z p q := ⟨_, _, _, eq_ix3 x⟩
  obtain rfl : z = 0 := Subsingleton.elim _ _
  obtain rfl : i = p := Fin.ext hi
  replace hf : f.val = o + q.val := hf
  have b : o + q.val < 1536 := by omega
  obtain rfl : f = ⟨o + q.val, b⟩ := Fin.ext hf
  pointwise [part]

/-- The ones after a head of values. -/
theorem ones_at (x : S1x1024x128.Idx) : k0_pay3 (F := Ideal) x = (1 : EReal) := by
  obtain ⟨z, p, q, rfl⟩ : ∃ z p q, x = ix3 z p q := ⟨_, _, _, eq_ix3 x⟩
  pointwise [k0_pay3]

/-- What the body leaves in its block of values. -/
theorem out11_at (x0 : Vec Ideal S1x1024x1024 .f32) (x1 : Vec Ideal S1x1024 .f32) (x2 x3 : Vec Ideal S1x1x1024 .f32) (x4 : Vec Ideal S1x1024x1536 .bf16)
    (x5 x6 : Vec Ideal S1x128 .f32) (x7 x8 : Vec Ideal S1024x128 .f32) (y : S1x1024x512.Idx) :
    out0_11 x0 x1 x2 x3 x4 x5 x6 x7 x8 y
      = if l : (y 2).val % 256 < 128 then prod x0 x1 x2 x3 x4 (ix2 (y 1) ⟨1280 + ((y 2).val / 256 * 128 + (y 2).val % 256), by have : (y 2).val < 512 := (y 2).isLt; omega⟩)
          else (1 : EReal) := by
  unfold out0_11 k0_pay41 prod
  generalize k0_pay6 (View.ld x0 r0_0) (View.ld x1 r0_1) (View.ld x3 r0_2) (View.ld x2 r0_2) (View.ld x4 r0_3) = T
  canon_tiles x h
  all_goals
    have hx : (x 2).val < 128 := (x 2).isLt
    first
      | rw [dif_neg (by omega)]
        exact ones_at x
      | rw [dif_pos (by omega)]
        exact part_at _ _ T x _ _ (by omega) (by simp only; omega)

/-- The product of whole blocks. -/
theorem prod_at (x0 : Vec Ideal S1x1024x1024 .f32) (x1 : Vec Ideal S1x1024 .f32) (x2 x3 : Vec Ideal S1x1x1024 .f32) (x4 : Vec Ideal S1x1024x1536 .bf16)
    (i : Fin 1024) (f : Fin 1536) : prod x0 x1 x2 x3 x4 (ix2 i f)
      = lane (hid (fun k => x0 (ix3 0 i k)) (fun k => x1 (ix2 0 k)) (fun k => x3 (ix3 0 0 k)) (fun k => x2 (ix3 0 0 k))) (fun k f => x4 (ix3 0 k f)) f := by
  unfold prod
  frame_out
  exact lanes_at _ _ _ _ _ i f

/-- The blocks of gains and tables read whole. -/
theorem ld_gain (x : Vec Ideal S1x128 .f32) : View.ld x r0_4 = x := by
  frame_out

theorem ld_table (x : Vec Ideal S1024x128 .f32) : View.ld x r0_5 = x := by
  frame_out

variable (m : (ℓ : Loc nD τ sig) → Buf (Elt Ideal) ℓ)

/-- The block every window is at, point by point: sample `t / 2`, half `t % 2` of its tokens. -/
theorem idx : ∀ t : Fin cfg0.N, win0_0.index t = ![t.val / 2, t.val % 2, 0] ∧ win0_1.index t = ![0, 0]
    ∧ win0_2.index t = ![t.val / 2, 0, 0] ∧ win0_3.index t = ![t.val / 2, 0, 1] ∧ win0_4.index t = ![0, 0, 0]
    ∧ win0_5.index t = ![0, 0] ∧ win0_6.index t = ![0, 0] ∧ win0_7.index t = ![t.val % 2, 0] ∧ win0_8.index t = ![t.val % 2, 0]
    ∧ win0_9.index t = ![t.val / 2, t.val % 2, 0] ∧ win0_10.index t = ![t.val / 2, t.val % 2, 0] ∧ win0_11.index t = ![t.val / 2, t.val % 2, 0] :=
  (by decide +kernel : ∀ t : Fin grid0.N, _)

/-- The block of tokens read at a position. -/
theorem blk_x (c : Dev nD) (t : Fin cfg0.N) (i : Fin 1024) (j : Fin 1024) (b : Fin 16) (r : Fin 2048) (hb : b.val = t.val / 2)
    (hr : r.val = t.val % 2 * 1024 + i.val) : (show FVec Ideal S1x1024x1024 .f32 from iblk m c 0 t) (ix3 0 i j)
      = (show FVec Ideal S16x2048x1024 .f32 from m ((c : Thread nD τ).loc main_arg0)) (ix3 b r j) := by
  have hi := idx t
  show iblk m c 0 t (ix3 0 i j) = _
  blk_simp [iblk]
  entry_read
  pointwise
  blk_point [hi]

/-- The modulation vectors as the call takes them: the samples' rows, then padding. -/
theorem mods_val (c : Dev nD) : V m c main_v14 = shapeCast S24x1x6144 (pad S24x6144 ![0, 0] ![8, 0] ![0, 0]
      (show FVec Ideal S16x6144 .f32 from m ((c : Thread nD τ).loc main_arg1)) (sitofp .f32 (constantI S_ 32 0#32)) pads_S16x6144_S24x6144_080_000 h_S_)
      shapeCasts_S24x6144_S24x1x6144 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The same read at a row of a sample. -/
theorem mods_at (c : Dev nD) (j : S24x1x6144.Idx) (b : Fin 16) (e : Fin 6144) (hb : b.val = (j 0).val) (he : e.val = (j 2).val) :
    V m c main_v14 j = (show FVec Ideal S16x6144 .f32 from m ((c : Thread nD τ).loc main_arg1)) (ix2 b e) := by
  have h16 : (j 0).val < 16 := by omega
  rw [mods_val]
  pointwise
  rw [dif_pos h16]
  blk_ext

/-- The first row of the heads' gains as the call takes it. -/
def row (G : FVec Ideal S2x128 .f32) : FVec Ideal S1x128 .f32 :=
  shapeCast S1x128 (shapeCast S128 (extractStridedSlice S1x128 ![0, 0] G slices_S2x128_S1x128_0_0) shapeCasts_S1x128_S128) shapeCasts_S128_S1x128

theorem row_at (G : FVec Ideal S2x128 .f32) (j : Fin 128) : row G (ix2 0 j) = G (ix2 0 j) := by
  pointwise [row]

/-- The cosines' table over all lanes of a head. -/
def cosines (C : FVec Ideal S2048x64 .f32) : FVec Ideal S2048x128 .f32 :=
  concatenate S2048x128 1 [⟨S2048x64, C⟩, ⟨S2048x64, C⟩] concatenates_S2048x64_S2048x64_S2048x128_d1

/-- The sines' table over all lanes of a head, its first half negated. -/
def sines (S : FVec Ideal S2048x64 .f32) : FVec Ideal S2048x128 .f32 :=
  concatenate S2048x128 1 [⟨S2048x64, Host.negf S⟩, ⟨S2048x64, S⟩] concatenates_S2048x64_S2048x64_S2048x128_d1

theorem cosines_at (C : FVec Ideal S2048x64 .f32) (r : Fin 2048) (j : Fin 128) : cosines C (ix2 r j) = C (ix2 r ⟨j.val % 64, by omega⟩) := by
  pointwise [cosines]
  by_cases h : j.val < 64
  · simp only [dif_pos h, show j.val % 64 = j.val by omega]
  · simp only [dif_neg h, show j.val % 64 = j.val - 64 by omega]

theorem sines_at (S : FVec Ideal S2048x64 .f32) (r : Fin 2048) (j : Fin 128) :
    sines S (ix2 r j) = if j.val < 64 then -S (ix2 r ⟨j.val % 64, by omega⟩) else S (ix2 r ⟨j.val % 64, by omega⟩) := by
  pointwise [sines]
  by_cases h : j.val < 64
  · simp only [dif_pos h, if_pos h, show j.val % 64 = j.val by omega]
  · simp only [dif_neg h, if_neg h, show j.val % 64 = j.val - 64 by omega]

/-- What the call takes of the gains and tables. -/
theorem gain_val (c : Dev nD) : V m c main_v3 = shapeCast S1x1024 (shapeCast S1024 (extractStridedSlice S1x1024 ![1, 0]
      (show FVec Ideal S4x1024 .f32 from m ((c : Thread nD τ).loc main_arg2)) slices_S4x1024_S1x1024_1_0) shapeCasts_S1x1024_S1024)
      shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem tables_val (c : Dev nD) : V m c main_v6 = row (m ((c : Thread nD τ).loc main_arg4)) ∧ V m c main_v9 = row (m ((c : Thread nD τ).loc main_arg5))
    ∧ V m c main_v10 = cosines (m ((c : Thread nD τ).loc main_arg6)) ∧ V m c main_v12 = sines (m ((c : Thread nD τ).loc main_arg7)) := by
  refine ⟨?_, ?_, ?_, ?_⟩
  all_goals
    unfold V
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl

/-- The sample's shift. -/
theorem blk_sh (c : Dev nD) (t : Fin cfg0.N) (j : Fin 1024) (b : Fin 16) (hb : b.val = t.val / 2) :
    (show FVec Ideal S1x1x1024 .f32 from iblk m c 2 t) (ix3 0 0 j)
      = (show FVec Ideal S16x6144 .f32 from m ((c : Thread nD τ).loc main_arg1)) (ix2 b ⟨j.val, by omega⟩) := by
  have hi := idx t
  show iblk m c 2 t (ix3 0 0 j) = _
  blk_simp [iblk]
  refine mods_at m c _ b _ ?_ ?_
  all_goals
    blk_simp [hi]
    try omega

/-- The sample's scale. -/
theorem blk_sc (c : Dev nD) (t : Fin cfg0.N) (j : Fin 1024) (b : Fin 16) (hb : b.val = t.val / 2) :
    (show FVec Ideal S1x1x1024 .f32 from iblk m c 3 t) (ix3 0 0 j)
      = (show FVec Ideal S16x6144 .f32 from m ((c : Thread nD τ).loc main_arg1)) (ix2 b ⟨1024 + j.val, by omega⟩) := by
  have hi := idx t
  show iblk m c 3 t (ix3 0 0 j) = _
  blk_simp [iblk]
  refine mods_at m c _ b _ ?_ ?_
  all_goals
    blk_simp [hi]
    try omega

/-- The gain of the norm before the mixer. -/
theorem blk_g (c : Dev nD) (t : Fin cfg0.N) (j : Fin 1024) : (show FVec Ideal S1x1024 .f32 from iblk m c 1 t) (ix2 0 j)
      = (show FVec Ideal S4x1024 .f32 from m ((c : Thread nD τ).loc main_arg2)) (ix2 1 j) := by
  have hi := idx t
  show iblk m c 1 t (ix2 0 j) = _
  blk_simp [iblk]
  rw [gain_val]
  pointwise
  blk_point [hi]

/-- The projection's weights. -/
theorem blk_w (c : Dev nD) (t : Fin cfg0.N) (k : Fin 1024) (f : Fin 1536) : (show FVec Ideal S1x1024x1536 .bf16 from iblk m c 4 t) (ix3 0 k f)
      = (show FVec Ideal S2x1024x1536 .f32 from m ((c : Thread nD τ).loc main_arg3)) (ix3 0 k f) := by
  have hi := idx t
  show iblk m c 4 t (ix3 0 k f) = _
  blk_simp [iblk]
  entry_read
  pointwise
  blk_point [hi]

/-- The queries' gain. -/
theorem blk_qg (c : Dev nD) (t : Fin cfg0.N) (j : Fin 128) : (show FVec Ideal S1x128 .f32 from iblk m c 5 t) (ix2 0 j)
      = (show FVec Ideal S2x128 .f32 from m ((c : Thread nD τ).loc main_arg4)) (ix2 0 j) := by
  have hi := idx t
  show iblk m c 5 t (ix2 0 j) = _
  blk_simp [iblk]
  rw [(tables_val m c).1]
  refine Eq.trans ?_ (row_at _ j)
  blk_point [hi]

/-- The keys' gain. -/
theorem blk_kg (c : Dev nD) (t : Fin cfg0.N) (j : Fin 128) : (show FVec Ideal S1x128 .f32 from iblk m c 6 t) (ix2 0 j)
      = (show FVec Ideal S2x128 .f32 from m ((c : Thread nD τ).loc main_arg5)) (ix2 0 j) := by
  have hi := idx t
  show iblk m c 6 t (ix2 0 j) = _
  blk_simp [iblk]
  rw [(tables_val m c).2.1]
  refine Eq.trans ?_ (row_at _ j)
  blk_point [hi]

/-- The half's cosines. -/
theorem blk_cos (c : Dev nD) (t : Fin cfg0.N) (i : Fin 1024) (j : Fin 128) (r : Fin 2048) (hr : r.val = t.val % 2 * 1024 + i.val) :
    (show FVec Ideal S1024x128 .f32 from iblk m c 7 t) (ix2 i j)
      = (show FVec Ideal S2048x64 .f32 from m ((c : Thread nD τ).loc main_arg6)) (ix2 r ⟨j.val % 64, by omega⟩) := by
  have hi := idx t
  show iblk m c 7 t (ix2 i j) = _
  blk_simp [iblk]
  rw [(tables_val m c).2.2.1]
  refine Eq.trans ?_ (cosines_at _ r j)
  blk_point [hi]

/-- The half's sines, the first half of their lanes negated. -/
theorem blk_sin (c : Dev nD) (t : Fin cfg0.N) (i : Fin 1024) (j : Fin 128) (r : Fin 2048) (hr : r.val = t.val % 2 * 1024 + i.val) :
    (show FVec Ideal S1024x128 .f32 from iblk m c 8 t) (ix2 i j)
      = if j.val < 64 then -(show FVec Ideal S2048x64 .f32 from m ((c : Thread nD τ).loc main_arg7)) (ix2 r ⟨j.val % 64, by omega⟩)
        else (show FVec Ideal S2048x64 .f32 from m ((c : Thread nD τ).loc main_arg7)) (ix2 r ⟨j.val % 64, by omega⟩) := by
  have hi := idx t
  show iblk m c 8 t (ix2 i j) = _
  blk_simp [iblk]
  rw [(tables_val m c).2.2.2]
  refine Eq.trans ?_ (sines_at _ r j)
  generalize sines _ = Z
  blk_point [hi]

/-- What the call is made of, in words: its arguments are real numbers. -/
def Reals (c : Dev nD) : Prop :=
  (∀ b t k, IsReal ((show FVec Ideal S16x2048x1024 .f32 from m ((c : Thread nD τ).loc main_arg0)) (ix3 b t k)))
    ∧ (∀ b k, IsReal ((show FVec Ideal S16x6144 .f32 from m ((c : Thread nD τ).loc main_arg1)) (ix2 b k)))
    ∧ (∀ l k, IsReal ((show FVec Ideal S4x1024 .f32 from m ((c : Thread nD τ).loc main_arg2)) (ix2 l k)))
    ∧ ∀ l k f, IsReal ((show FVec Ideal S2x1024x1536 .f32 from m ((c : Thread nD τ).loc main_arg3)) (ix3 l k f))

/-- The arguments' hidden tokens, weights and angles, by the names the results are stated in. -/
abbrev tok (c : Dev nD) (b : Fin 16) (r : Fin 2048) : Fin 1024 → EReal :=
  token (m ((c : Thread nD τ).loc main_arg0)) (m ((c : Thread nD τ).loc main_arg1)) (m ((c : Thread nD τ).loc main_arg2)) b r

abbrev wts (c : Dev nD) (k : Fin 1024) (f : Fin 1536) : EReal := (show FVec Ideal S2x1024x1536 .f32 from m ((c : Thread nD τ).loc main_arg3)) (ix3 0 k f)

abbrev cosr (c : Dev nD) (r : Fin 2048) (j : Fin 64) : EReal := (show FVec Ideal S2048x64 .f32 from m ((c : Thread nD τ).loc main_arg6)) (ix2 r j)

abbrev sinr (c : Dev nD) (r : Fin 2048) (j : Fin 64) : EReal := (show FVec Ideal S2048x64 .f32 from m ((c : Thread nD τ).loc main_arg7)) (ix2 r j)

abbrev qg (c : Dev nD) (j : Fin 128) : EReal := (show FVec Ideal S2x128 .f32 from m ((c : Thread nD τ).loc main_arg4)) (ix2 0 j)

abbrev kg (c : Dev nD) (j : Fin 128) : EReal := (show FVec Ideal S2x128 .f32 from m ((c : Thread nD τ).loc main_arg5)) (ix2 0 j)

/-- A lane of a block's product. -/
theorem lane_at (c : Dev nD) (t : Fin cfg0.N) (i : Fin 1024) (f : Fin 1536) (b : Fin 16) (r : Fin 2048) (hb : b.val = t.val / 2)
    (hr : r.val = t.val % 2 * 1024 + i.val) :
    prod (iblk m c 0 t) (iblk m c 1 t) (iblk m c 2 t) (iblk m c 3 t) (iblk m c 4 t) (ix2 i f) = lane (tok m c b r) (wts m c) f := by
  refine (prod_at _ _ _ _ _ i f).trans ?_
  have hh := fun k => hid_congr (fun k => blk_x m c t i k b r hb hr) (fun k => blk_g m c t k) (fun k => blk_sc m c t k b hb) (fun k => blk_sh m c t k b hb) k
  have hw := funext fun k => funext fun f => blk_w m c t k f
  exact congrFun (congrArg₂ lane (funext hh) hw) f

/-- Every lane of a block's product is a real number. -/
theorem real_prod (c : Dev nD) (hm : Reals m c) (t : Fin cfg0.N) (i : Fin 1024) (f : Fin 1536) :
    IsReal (prod (iblk m c 0 t) (iblk m c 1 t) (iblk m c 2 t) (iblk m c 3 t) (iblk m c 4 t) (ix2 i f)) := by
  have ht : t.val < 32 := t.isLt
  rw [lane_at m c t i f ⟨t.val / 2, by omega⟩ ⟨t.val % 2 * 1024 + i.val, by omega⟩ rfl rfl]
  exact real_lane (real_hid (fun k => hm.1 _ _ k) (fun k => hm.2.2.1 _ k) (fun k => hm.2.1 _ _) fun k => hm.2.1 _ _) (fun k f => hm.2.2.2 0 k f) f

/-- A head's lane out of a block's product is that head's lane of the result. -/
theorem cell_at (c : Dev nD) (t : Fin cfg0.N) (g : FVec Ideal S1x128 .f32) (G : Fin 128 → EReal) (hg : ∀ j, g (ix2 0 j) = G j) (i : Fin 1024) (o : ℕ) (ho : o + 128 ≤ 1536) (j : Fin 128)
    (b : Fin 16) (r : Fin 2048) (hb : b.val = t.val / 2) (hr : r.val = t.val % 2 * 1024 + i.val) :
    cell (prod (iblk m c 0 t) (iblk m c 1 t) (iblk m c 2 t) (iblk m c 3 t) (iblk m c 4 t)) g (View.ld (iblk m c 7 t) r0_5) (View.ld (iblk m c 8 t) r0_5) i o ho j
      = headed (fun e => lane (tok m c b r) (wts m c) ⟨o + e.val, by omega⟩) G (cosr m c r) (sinr m c r) j := by
  rw [ld_table, ld_table]
  unfold cell headed
  rw [spun_eq _ _ _ (cosr m c r) (sinr m c r) (fun j => blk_cos m c t i j r hr) (fun j => blk_sin m c t i j r hr)]
  simp only [lane_at m c t i _ b r hb hr, hg]

/-- What a grid point leaves in its blocks of queries, keys and values. -/
theorem point9 (c : Dev nD) (hm : Reals m c) (t : Fin cfg0.N) (i : Fin 1024) (j : Fin 1024) (b : Fin 16) (r : Fin 2048) (e : Fin 1024) (hb : b.val = t.val / 2)
    (hr : r.val = t.val % 2 * 1024 + i.val) (he : e.val = j.val) :
    out0_9 (iblk m c 0 t) (iblk m c 1 t) (iblk m c 2 t) (iblk m c 3 t) (iblk m c 4 t) (iblk m c 5 t) (iblk m c 6 t) (iblk m c 7 t) (iblk m c 8 t) (ix3 0 i j)
      = query (tok m c b r) (wts m c) (qg m c) (cosr m c r) (sinr m c r) e := by
  obtain rfl : e = j := Fin.ext he
  rw [out9_cell _ _ _ _ _ _ _ _ _ (real_prod m c hm t), ld_gain]
  exact congrArg (· * qscale) (cell_at m c t _ _ (fun j => blk_qg m c t j) i _ _ _ b r hb hr)

theorem point10 (c : Dev nD) (hm : Reals m c) (t : Fin cfg0.N) (i : Fin 1024) (j : Fin 256) (b : Fin 16) (r : Fin 2048) (e : Fin 256) (hb : b.val = t.val / 2)
    (hr : r.val = t.val % 2 * 1024 + i.val) (he : e.val = j.val) :
    out0_10 (iblk m c 0 t) (iblk m c 1 t) (iblk m c 2 t) (iblk m c 3 t) (iblk m c 4 t) (iblk m c 5 t) (iblk m c 6 t) (iblk m c 7 t) (iblk m c 8 t) (ix3 0 i j)
      = key (tok m c b r) (wts m c) (kg m c) (cosr m c r) (sinr m c r) e := by
  obtain rfl : e = j := Fin.ext he
  have one : Ideal.ofBits FTy.f32 0x3F800000#32 = 1 := one_eq
  rw [out10_cell _ _ _ _ _ _ _ _ _ (real_prod m c hm t), ld_gain, one, mul_one]
  refine (cell_at m c t _ _ (fun j => blk_kg m c t j) i _ _ _ b r hb hr).trans ?_
  unfold key
  simp only [Nat.add_assoc]
  rfl

theorem point11 (c : Dev nD) (t : Fin cfg0.N) (i : Fin 1024) (j : Fin 512) (b : Fin 16) (r : Fin 2048) (e : Fin 512) (hb : b.val = t.val / 2)
    (hr : r.val = t.val % 2 * 1024 + i.val) (he : e.val = j.val) :
    out0_11 (iblk m c 0 t) (iblk m c 1 t) (iblk m c 2 t) (iblk m c 3 t) (iblk m c 4 t) (iblk m c 5 t) (iblk m c 6 t) (iblk m c 7 t) (iblk m c 8 t) (ix3 0 i j)
      = value (tok m c b r) (wts m c) e := by
  obtain rfl : e = j := Fin.ext he
  rw [out11_at]
  unfold value
  by_cases l : e.val % 256 < 128
  · rw [dif_pos l]
    exact (dif_pos l).trans (lane_at m c t i _ b r hb hr)
  · rw [dif_neg l]
    exact dif_neg l

/-- The kernel's queries after its run. -/
theorem final9 (c : Dev nD) (hm : Reals m c) : (dats m 0 c).arrAt 9 (cfgs 0).N = fun i : S16x2048x1024.Idx =>
      query (tok m c (i 0) (i 1)) (wts m c) (qg m c) (cosr m c (i 1)) (sinr m c (i 1)) (i 2) := by
  refine (dats m 0 c).arrAt_eq_of_covers 9 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_9]
  refine point9 m c hm t i j _ _ _ ?_ ?_ ?_
  all_goals
    blk_simp [hi]
    try omega

/-- The kernel's keys after its run. -/
theorem final10 (c : Dev nD) (hm : Reals m c) : (dats m 0 c).arrAt 10 (cfgs 0).N = fun i : S16x2048x256.Idx =>
      key (tok m c (i 0) (i 1)) (wts m c) (kg m c) (cosr m c (i 1)) (sinr m c (i 1)) (i 2) := by
  refine (dats m 0 c).arrAt_eq_of_covers 10 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_10]
  refine point10 m c hm t i j _ _ _ ?_ ?_ ?_
  all_goals
    blk_simp [hi]
    try omega

/-- The kernel's values after its run. -/
theorem final11 (c : Dev nD) : (dats m 0 c).arrAt 11 (cfgs 0).N = fun i : S16x2048x512.Idx => value (tok m c (i 0) (i 1)) (wts m c) (i 2) := by
  refine (dats m 0 c).arrAt_eq_of_covers 11 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_11]
  refine point11 m c t i j _ _ _ ?_ ?_ ?_
  all_goals
    blk_simp [hi]
    try omega

end Cert.QkvKer

end
-- ==== Proof.QkvRef.lean ====
module

public import proofs.«01_k».proof.Proof.Gen.ReferenceQkvIdeal.Run
public import proofs.«01_k».proof.Proof.Heads
public import Idealize.ShloMosaic.Lib.Pointwise
public import Idealize.ShloMosaic.Lib.Pipeline.ValueKit

@[expose] public section

set_option maxRecDepth 16384

noncomputable section

namespace Cert.QkvRef

open Idealize.ShloMosaic Idealize.ShloMosaic.TcCoe Idealize.SL.Sem
open Cert.ReferenceQkvIdeal Cert.Layer Cert.Heads

/-- Every token's heads, `n` of them. -/
abbrev Hd (n w : ℕ) : Shape := ⟨4, ![16, 2048, n, w]⟩

/-- One over the root mean square of every token. -/
def roots (X : FVec Ideal S16x2048x1024 .f32) : FVec Ideal S16x2048x1 .f32 :=
  Host.rsqrt (addf (Host.divf (broadcastInDim S16x2048x1 ![0, 1] Gen.bcast_S16x2048_S16x2048x1_0_1 (Host.reduceAdd (mulf X X) (constant S_ .f32 0x00000000#32) Gen.reducesTo_S16x2048x1024_S16x2048_d2 Gen.h_S_))
    (broadcastInDim S16x2048x1 ![] Gen.bcast_S_S16x2048x1 (constant S_ .f32 0x44800000#32))) (broadcastInDim S16x2048x1 ![] Gen.bcast_S_S16x2048x1 (constant S_ .f32 0x358637BD#32)))

/-- The normalised tokens with their gain, scaled and shifted by their sample's modulation. -/
def moved (X : FVec Ideal S16x2048x1024 .f32) (M : FVec Ideal S16x6144 .f32) (G : FVec Ideal S4x1024 .f32) (R : FVec Ideal S16x2048x1 .f32) :
    FVec Ideal S16x2048x1024 .f32 :=
  addf (mulf (mulf (mulf X (broadcastInDim S16x2048x1024 ![0, 1, 2] Gen.bcast_S16x2048x1_S16x2048x1024_0_1_2 R))
      (broadcastInDim S16x2048x1024 ![0, 1, 2] Gen.bcast_S1x1x1024_S16x2048x1024_0_1_2 (broadcastInDim S1x1x1024 ![2] Gen.bcast_S1024_S1x1x1024_2
        (shapeCast S1024 (extractStridedSlice S1x1024 ![1, 0] G Gen.slices_S4x1024_S1x1024_1_0) Gen.shapeCasts_S1x1024_S1024))))
    (broadcastInDim S16x2048x1024 ![0, 1, 2] Gen.bcast_S16x1x1024_S16x2048x1024_0_1_2 (addf (broadcastInDim S16x1x1024 ![] Gen.bcast_S_S16x1x1024 (constant S_ .f32 0x3F800000#32))
      (extractStridedSlice S16x1x1024 ![0, 0, 1024] (broadcastInDim S16x1x6144 ![0, 2] Gen.bcast_S16x6144_S16x1x6144_0_2 M) Gen.slices_S16x1x6144_S16x1x1024_0_0_1024))))
    (broadcastInDim S16x2048x1024 ![0, 1, 2] Gen.bcast_S16x1x1024_S16x2048x1024_0_1_2 (extractStridedSlice S16x1x1024 ![0, 0, 0] (broadcastInDim S16x1x6144 ![0, 2] Gen.bcast_S16x6144_S16x1x6144_0_2 M) Gen.slices_S16x1x6144_S16x1x1024_0_0_0))

/-- The product with the layer's weights. -/
def lanes (H : FVec Ideal S16x2048x1024 .f32) (W : FVec Ideal S2x1024x1536 .f32) : FVec Ideal S16x2048x1536 .f32 :=
  Host.dotGeneral dot_S16x2048x1024_S1024x1536_S16x2048x1536_2_0_01_1_n_n none H (shapeCast S1024x1536 (extractStridedSlice S1x1024x1536 ![0, 0, 0] W Gen.slices_S2x1024x1536_S1x1024x1536_0_0_0) Gen.shapeCasts_S1x1024x1536_S1024x1536)

/-- The lanes of every token's queries, keys and values. -/
def projected (X : FVec Ideal S16x2048x1024 .f32) (M : FVec Ideal S16x6144 .f32) (G : FVec Ideal S4x1024 .f32) (W : FVec Ideal S2x1024x1536 .f32) :
    FVec Ideal S16x2048x1536 .f32 := lanes (moved X M G (roots X)) W

/-- `n` heads from lane `o` on. -/
def heads (n o r : ℕ) (hs : S16x2048x1536.Slices ![0, 0, o] ⟨3, ![16, 2048, r]⟩) (hc : (⟨3, ![16, 2048, r]⟩ : Shape).ShapeCasts (Hd n 128)) (P : FVec Ideal S16x2048x1536 .f32) :
    FVec Ideal (Hd n 128) .f32 := shapeCast (Hd n 128) (extractStridedSlice ⟨3, ![16, 2048, r]⟩ ![0, 0, o] P hs) hc

/-- One over the root mean square of every head. -/
def hroots (n : ℕ) (h1 : (⟨3, ![16, 2048, n]⟩ : Shape).BroadcastsInDim (Hd n 1) ![0, 1, 2]) (h2 : S_.BroadcastsInDim (Hd n 1) ![])
    (h3 : (Hd n 128).ReducesTo [3] ⟨3, ![16, 2048, n]⟩) (Y : FVec Ideal (Hd n 128) .f32) : FVec Ideal (Hd n 1) .f32 :=
  Host.rsqrt (addf (Host.divf (broadcastInDim (Hd n 1) ![0, 1, 2] h1 (Host.reduceAdd (mulf Y Y) (constant S_ .f32 0x00000000#32) h3 Gen.h_S_))
    (broadcastInDim (Hd n 1) ![] h2 (constant S_ .f32 0x43000000#32))) (broadcastInDim (Hd n 1) ![] h2 (constant S_ .f32 0x358637BD#32)))

/-- The heads normalised, with their gain. -/
def hgained (n : ℕ) (h1 : (Hd n 1).BroadcastsInDim (Hd n 128) ![0, 1, 2, 3]) (h2 : S1x1x1x128.BroadcastsInDim (Hd n 128) ![0, 1, 2, 3])
    (Y : FVec Ideal (Hd n 128) .f32) (R : FVec Ideal (Hd n 1) .f32) (g : FVec Ideal S2x128 .f32) : FVec Ideal (Hd n 128) .f32 :=
  mulf (mulf Y (broadcastInDim (Hd n 128) ![0, 1, 2, 3] h1 R)) (broadcastInDim (Hd n 128) ![0, 1, 2, 3] h2 (broadcastInDim S1x1x1x128 ![3] Gen.bcast_S128_S1x1x1x128_3
    (shapeCast S128 (extractStridedSlice S1x128 ![0, 0] g Gen.slices_S2x128_S1x128_0_0) Gen.shapeCasts_S1x128_S128)))

/-- A table of angles spread over samples and heads. -/
def table (n : ℕ) (h : S1x2048x1x64.BroadcastsInDim (Hd n 64) ![0, 1, 2, 3]) (C : FVec Ideal S2048x64 .f32) : FVec Ideal (Hd n 64) .f32 :=
  broadcastInDim (Hd n 64) ![0, 1, 2, 3] h (broadcastInDim S1x2048x1x64 ![1, 2, 3] Gen.bcast_S2048x1x64_S1x2048x1x64_1_2_3 (shapeCast S2048x1x64 C Gen.shapeCasts_S2048x64_S2048x1x64))

/-- The heads turned by their tokens' angles. -/
def rotated (n : ℕ) (h0 : (Hd n 128).Slices ![0, 0, 0, 0] (Hd n 64)) (h1 : (Hd n 128).Slices ![0, 0, 0, 64] (Hd n 64))
    (hc : Shape.Concatenates [Hd n 64, Hd n 64] (Hd n 128) 3) (Y : FVec Ideal (Hd n 128) .f32) (C S : FVec Ideal (Hd n 64) .f32) : FVec Ideal (Hd n 128) .f32 :=
  concatenate (Hd n 128) 3 [⟨Hd n 64, subf (mulf (extractStridedSlice (Hd n 64) ![0, 0, 0, 0] Y h0) C) (mulf (extractStridedSlice (Hd n 64) ![0, 0, 0, 64] Y h1) S)⟩,
    ⟨Hd n 64, addf (mulf (extractStridedSlice (Hd n 64) ![0, 0, 0, 64] Y h1) C) (mulf (extractStridedSlice (Hd n 64) ![0, 0, 0, 0] Y h0) S)⟩] hc

theorem projected_at (X : FVec Ideal S16x2048x1024 .f32) (M : FVec Ideal S16x6144 .f32) (G : FVec Ideal S4x1024 .f32) (W : FVec Ideal S2x1024x1536 .f32)
    (b : Fin 16) (t : Fin 2048) (f : Fin 1536) : projected X M G W (ix3 b t f) = lane (token X M G b t) (fun k f => W (ix3 0 k f)) f := by
  have hr : roots X (ix3 b t 0) = rms (fun k => X (ix3 b t k)) := by
    dsimp only [rms, width, eps]
    pointwise [roots]
  have hm : ∀ R j, moved X M G R (ix3 b t j) = X (ix3 b t j) * R (ix3 b t 0) * G (ix2 1 j) * (1 + M (ix2 b ⟨1024 + j.val, by omega⟩)) + M (ix2 b ⟨j.val, by omega⟩) :=
    fun R j => by
      pointwise [moved]
  have hl : ∀ H, lanes H W (ix3 b t f) = ∑ k, H (ix3 b t k) * W (ix3 0 k f) := fun H => by
    pointwise [lanes]
  unfold projected
  rw [hl]
  simp only [hm, hr]
  rfl

theorem hroots_at (n : ℕ) (hn : n = 8 ∨ n = 2) (h1 : (⟨3, ![16, 2048, n]⟩ : Shape).BroadcastsInDim (Hd n 1) ![0, 1, 2]) (h2 : S_.BroadcastsInDim (Hd n 1) ![])
    (h3 : (Hd n 128).ReducesTo [3] ⟨3, ![16, 2048, n]⟩) (Y : FVec Ideal (Hd n 128) .f32) (b : Fin 16) (t : Fin 2048) (e : Fin n) :
    hroots n h1 h2 h3 Y (ix4 b t e 0) = root (fun c => Y (ix4 b t e c)) := by
  dsimp only [root, wide, eps]
  rcases hn with rfl | rfl
  all_goals pointwise [hroots]

theorem hgained_at (n : ℕ) (hn : n = 8 ∨ n = 2) (h1 : (Hd n 1).BroadcastsInDim (Hd n 128) ![0, 1, 2, 3]) (h2 : S1x1x1x128.BroadcastsInDim (Hd n 128) ![0, 1, 2, 3])
    (Y : FVec Ideal (Hd n 128) .f32) (R : FVec Ideal (Hd n 1) .f32) (g : FVec Ideal S2x128 .f32) (b : Fin 16) (t : Fin 2048) (e : Fin n) (c : Fin 128) :
    hgained n h1 h2 Y R g (ix4 b t e c) = Y (ix4 b t e c) * R (ix4 b t e 0) * g (ix2 0 c) := by
  rcases hn with rfl | rfl
  all_goals pointwise [hgained]

theorem table_at (n : ℕ) (hn : n = 8 ∨ n = 2) (h : S1x2048x1x64.BroadcastsInDim (Hd n 64) ![0, 1, 2, 3]) (C : FVec Ideal S2048x64 .f32)
    (b : Fin 16) (t : Fin 2048) (e : Fin n) (c : Fin 64) : table n h C (ix4 b t e c) = C (ix2 t c) := by
  rcases hn with rfl | rfl
  all_goals pointwise [table]

theorem rotated_at (n : ℕ) (hn : n = 8 ∨ n = 2) (h0 : (Hd n 128).Slices ![0, 0, 0, 0] (Hd n 64)) (h1 : (Hd n 128).Slices ![0, 0, 0, 64] (Hd n 64))
    (hc : Shape.Concatenates [Hd n 64, Hd n 64] (Hd n 128) 3) (Y : FVec Ideal (Hd n 128) .f32) (C S : FVec Ideal (Hd n 64) .f32)
    (b : Fin 16) (t : Fin 2048) (e : Fin n) (c : Fin 128) :
    rotated n h0 h1 hc Y C S (ix4 b t e c) = turned (fun c => Y (ix4 b t e c)) (fun c => C (ix4 b t e c)) (fun c => S (ix4 b t e c)) c := by
  rcases hn with rfl | rfl
  all_goals
    pointwise [rotated]
    unfold turned
    by_cases h : c.val < 64
    · simp only [dif_pos h]
    · simp only [dif_neg h, show 64 + (c.val - 64) = c.val by omega]

/-- The heads normalised, scaled and turned. -/
theorem turned_at (n : ℕ) (hn : n = 8 ∨ n = 2) (h1 : (⟨3, ![16, 2048, n]⟩ : Shape).BroadcastsInDim (Hd n 1) ![0, 1, 2]) (h2 : S_.BroadcastsInDim (Hd n 1) ![])
    (h3 : (Hd n 128).ReducesTo [3] ⟨3, ![16, 2048, n]⟩) (h4 : (Hd n 1).BroadcastsInDim (Hd n 128) ![0, 1, 2, 3]) (h5 : S1x1x1x128.BroadcastsInDim (Hd n 128) ![0, 1, 2, 3])
    (h6 : S1x2048x1x64.BroadcastsInDim (Hd n 64) ![0, 1, 2, 3]) (h7 : (Hd n 128).Slices ![0, 0, 0, 0] (Hd n 64)) (h8 : (Hd n 128).Slices ![0, 0, 0, 64] (Hd n 64))
    (h9 : Shape.Concatenates [Hd n 64, Hd n 64] (Hd n 128) 3) (Y : FVec Ideal (Hd n 128) .f32) (g : FVec Ideal S2x128 .f32) (C S : FVec Ideal S2048x64 .f32)
    (b : Fin 16) (t : Fin 2048) (e : Fin n) (c : Fin 128) :
    rotated n h7 h8 h9 (hgained n h4 h5 Y (hroots n h1 h2 h3 Y) g) (table n h6 C) (table n h6 S) (ix4 b t e c)
      = headed (fun c => Y (ix4 b t e c)) (fun c => g (ix2 0 c)) (fun c => C (ix2 t c)) (fun c => S (ix2 t c)) c := by
  rw [rotated_at n hn]
  simp only [hgained_at n hn, hroots_at n hn, table_at n hn]
  rfl

/-- The queries as the reference computes them. -/
def queries (P : FVec Ideal S16x2048x1536 .f32) (g : FVec Ideal S2x128 .f32) (C S : FVec Ideal S2048x64 .f32) : FVec Ideal S16x2048x8x128 .f32 :=
  rotated 8 Gen.slices_S16x2048x8x128_S16x2048x8x64_0_0_0_0 Gen.slices_S16x2048x8x128_S16x2048x8x64_0_0_0_64 Gen.concatenates_S16x2048x8x64_S16x2048x8x64_S16x2048x8x128_d3
    (hgained 8 Gen.bcast_S16x2048x8x1_S16x2048x8x128_0_1_2_3 Gen.bcast_S1x1x1x128_S16x2048x8x128_0_1_2_3
      (heads 8 0 1024 Gen.slices_S16x2048x1536_S16x2048x1024_0_0_0 Gen.shapeCasts_S16x2048x1024_S16x2048x8x128 P)
      (hroots 8 Gen.bcast_S16x2048x8_S16x2048x8x1_0_1_2 Gen.bcast_S_S16x2048x8x1 Gen.reducesTo_S16x2048x8x128_S16x2048x8_d3
        (heads 8 0 1024 Gen.slices_S16x2048x1536_S16x2048x1024_0_0_0 Gen.shapeCasts_S16x2048x1024_S16x2048x8x128 P)) g)
    (table 8 Gen.bcast_S1x2048x1x64_S16x2048x8x64_0_1_2_3 C) (table 8 Gen.bcast_S1x2048x1x64_S16x2048x8x64_0_1_2_3 S)

/-- The keys as the reference computes them. -/
def keys (P : FVec Ideal S16x2048x1536 .f32) (g : FVec Ideal S2x128 .f32) (C S : FVec Ideal S2048x64 .f32) : FVec Ideal S16x2048x2x128 .f32 :=
  rotated 2 Gen.slices_S16x2048x2x128_S16x2048x2x64_0_0_0_0 Gen.slices_S16x2048x2x128_S16x2048x2x64_0_0_0_64 Gen.concatenates_S16x2048x2x64_S16x2048x2x64_S16x2048x2x128_d3
    (hgained 2 Gen.bcast_S16x2048x2x1_S16x2048x2x128_0_1_2_3 Gen.bcast_S1x1x1x128_S16x2048x2x128_0_1_2_3
      (heads 2 1024 256 Gen.slices_S16x2048x1536_S16x2048x256_0_0_1024 Gen.shapeCasts_S16x2048x256_S16x2048x2x128 P)
      (hroots 2 Gen.bcast_S16x2048x2_S16x2048x2x1_0_1_2 Gen.bcast_S_S16x2048x2x1 Gen.reducesTo_S16x2048x2x128_S16x2048x2_d3
        (heads 2 1024 256 Gen.slices_S16x2048x1536_S16x2048x256_0_0_1024 Gen.shapeCasts_S16x2048x256_S16x2048x2x128 P)) g)
    (table 2 Gen.bcast_S1x2048x1x64_S16x2048x2x64_0_1_2_3 C) (table 2 Gen.bcast_S1x2048x1x64_S16x2048x2x64_0_1_2_3 S)

/-- The queries' scale and their layout. -/
def scaled (Q : FVec Ideal S16x2048x8x128 .f32) : FVec Ideal S16x2048x1024 .bf16 :=
  truncf .bf16 (shapeCast S16x2048x1024 (mulf Q (broadcastInDim S16x2048x8x128 ![] Gen.bcast_S_S16x2048x8x128 (constant S_ .f32 0x3DB504F3#32)))
    Gen.shapeCasts_S16x2048x8x128_S16x2048x1024) Gen.bitsLt_bf16_f32

/-- The keys' layout. -/
def laid (K : FVec Ideal S16x2048x2x128 .f32) : FVec Ideal S16x2048x256 .bf16 :=
  truncf .bf16 (shapeCast S16x2048x256 K Gen.shapeCasts_S16x2048x2x128_S16x2048x256) Gen.bitsLt_bf16_f32

/-- The values' heads, each followed by as many ones. -/
def padded (P : FVec Ideal S16x2048x1536 .f32) : FVec Ideal S16x2048x512 .bf16 :=
  truncf .bf16 (shapeCast S16x2048x512 (concatenate S16x2048x2x256 3
    [⟨S16x2048x2x128, heads 2 1280 256 Gen.slices_S16x2048x1536_S16x2048x256_0_0_1280 Gen.shapeCasts_S16x2048x256_S16x2048x2x128 P⟩,
      ⟨S16x2048x2x128, broadcastInDim S16x2048x2x128 ![] Gen.bcast_S_S16x2048x2x128 (constant S_ .f32 0x3F800000#32)⟩]
    Gen.concatenates_S16x2048x2x128_S16x2048x2x128_S16x2048x2x256_d3) Gen.shapeCasts_S16x2048x2x256_S16x2048x512) Gen.bitsLt_bf16_f32

theorem queries_at (P : FVec Ideal S16x2048x1536 .f32) (g : FVec Ideal S2x128 .f32) (C S : FVec Ideal S2048x64 .f32) (b : Fin 16) (t : Fin 2048) (e : Fin 8) (c : Fin 128) :
    queries P g C S (ix4 b t e c) = headed (fun c => P (ix3 b t ⟨e.val * 128 + c.val, by omega⟩)) (fun c => g (ix2 0 c)) (fun c => C (ix2 t c)) (fun c => S (ix2 t c)) c := by
  have h : ∀ c, heads 8 0 1024 Gen.slices_S16x2048x1536_S16x2048x1024_0_0_0 Gen.shapeCasts_S16x2048x1024_S16x2048x8x128 P (ix4 b t e c)
      = P (ix3 b t ⟨e.val * 128 + c.val, by omega⟩) := fun c => by
    pointwise [heads]
    try blk_ext
  unfold queries
  rw [turned_at 8 (.inl rfl)]
  simp only [h]

theorem keys_at (P : FVec Ideal S16x2048x1536 .f32) (g : FVec Ideal S2x128 .f32) (C S : FVec Ideal S2048x64 .f32) (b : Fin 16) (t : Fin 2048) (e : Fin 2) (c : Fin 128) :
    keys P g C S (ix4 b t e c) = headed (fun c => P (ix3 b t ⟨1024 + (e.val * 128 + c.val), by omega⟩)) (fun c => g (ix2 0 c)) (fun c => C (ix2 t c)) (fun c => S (ix2 t c)) c := by
  have h : ∀ c, heads 2 1024 256 Gen.slices_S16x2048x1536_S16x2048x256_0_0_1024 Gen.shapeCasts_S16x2048x256_S16x2048x2x128 P (ix4 b t e c)
      = P (ix3 b t ⟨1024 + (e.val * 128 + c.val), by omega⟩) := fun c => by
    pointwise [heads]
    try blk_ext
  unfold keys
  rw [turned_at 2 (.inr rfl)]
  simp only [h]

theorem scaled_at (Q : FVec Ideal S16x2048x8x128 .f32) (b : Fin 16) (t : Fin 2048) (j : Fin 1024) :
    scaled Q (ix3 b t j) = Q (ix4 b t ⟨j.val / 128, by omega⟩ ⟨j.val % 128, by omega⟩) * qscale := by
  dsimp only [qscale]
  pointwise [scaled]

theorem laid_at (K : FVec Ideal S16x2048x2x128 .f32) (b : Fin 16) (t : Fin 2048) (j : Fin 256) :
    laid K (ix3 b t j) = K (ix4 b t ⟨j.val / 128, by omega⟩ ⟨j.val % 128, by omega⟩) := by
  pointwise [laid]

theorem padded_at (P : FVec Ideal S16x2048x1536 .f32) (b : Fin 16) (t : Fin 2048) (j : Fin 512) :
    padded P (ix3 b t j) = if l : j.val % 256 < 128 then P (ix3 b t ⟨1280 + (j.val / 256 * 128 + j.val % 256), by omega⟩) else 1 := by
  pointwise [padded, heads]
  try blk_ext

/-- The three results, element by element, out of the arguments. -/
theorem q_at (X : FVec Ideal S16x2048x1024 .f32) (M : FVec Ideal S16x6144 .f32) (G : FVec Ideal S4x1024 .f32) (W : FVec Ideal S2x1024x1536 .f32)
    (g : FVec Ideal S2x128 .f32) (C S : FVec Ideal S2048x64 .f32) (b : Fin 16) (t : Fin 2048) (j : Fin 1024) :
    scaled (queries (projected X M G W) g C S) (ix3 b t j)
      = query (token X M G b t) (fun k f => W (ix3 0 k f)) (fun c => g (ix2 0 c)) (fun c => C (ix2 t c)) (fun c => S (ix2 t c)) j := by
  rw [scaled_at, queries_at]
  simp only [projected_at]
  rfl

theorem k_at (X : FVec Ideal S16x2048x1024 .f32) (M : FVec Ideal S16x6144 .f32) (G : FVec Ideal S4x1024 .f32) (W : FVec Ideal S2x1024x1536 .f32)
    (g : FVec Ideal S2x128 .f32) (C S : FVec Ideal S2048x64 .f32) (b : Fin 16) (t : Fin 2048) (j : Fin 256) :
    laid (keys (projected X M G W) g C S) (ix3 b t j)
      = key (token X M G b t) (fun k f => W (ix3 0 k f)) (fun c => g (ix2 0 c)) (fun c => C (ix2 t c)) (fun c => S (ix2 t c)) j := by
  rw [laid_at, keys_at]
  simp only [projected_at]
  rfl

theorem v_at (X : FVec Ideal S16x2048x1024 .f32) (M : FVec Ideal S16x6144 .f32) (G : FVec Ideal S4x1024 .f32) (W : FVec Ideal S2x1024x1536 .f32)
    (b : Fin 16) (t : Fin 2048) (j : Fin 512) :
    padded (projected X M G W) (ix3 b t j) = value (token X M G b t) (fun k f => W (ix3 0 k f)) j := by
  rw [padded_at]
  simp only [projected_at]
  rfl

variable (m : (ℓ : Loc nD τ sig) → Buf (Elt Ideal) ℓ)

/-- The reference's first result in its stages. -/
theorem q_eq (c : Dev nD) : Value.res_main_v110 m c
      = scaled (queries (projected (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg6)) (m ((c.tc : Thread nD τ).loc main_arg7))) := by
  unfold Value.res_main_v110 scaled queries rotated table hgained hroots heads projected lanes moved roots
  rfl

/-- The reference's second result in its stages. -/
theorem k_eq (c : Dev nD) : Value.res_main_v112 m c
      = laid (keys (projected (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg5)) (m ((c.tc : Thread nD τ).loc main_arg6)) (m ((c.tc : Thread nD τ).loc main_arg7))) := by
  unfold Value.res_main_v112 laid keys rotated table hgained hroots heads projected lanes moved roots
  rfl

end Cert.QkvRef

end
-- ==== Proof.Qkv.lean ====
module

public import proofs.«01_k».proof.Defs
public import proofs.«01_k».proof.Proof.Attention
public import proofs.«01_k».proof.Proof.QkvKer
public import proofs.«01_k».proof.Proof.QkvRef
public import proofs.«01_k».proof.Proof.Gen.Pre_finite_tokens
public import Idealize.ShloMosaic.Lib.Quiescent

@[expose] public section

set_option maxRecDepth 16384

noncomputable section

namespace Cert.Qkv

open Idealize.ShloMosaic Idealize.ShloMosaic.TcCoe Idealize.SL.Sem

attribute [local instance] Cert.KernelQkvIdeal.Gen.facts Cert.ReferenceQkvIdeal.Gen.facts Cert.Pre_finite_tokens.Gen.facts

/-- The precondition says that the tokens, the modulation, the norm's gain and the projection are real numbers. -/
theorem real_of_pre (x : FVec Ideal ⟨3, ![16, 2048, 1024]⟩ .f32) (mod : FVec Ideal ⟨2, ![16, 6144]⟩ .f32)
    (gain : FVec Ideal ⟨2, ![4, 1024]⟩ .f32) (w : FVec Ideal ⟨3, ![2, 1024, 1536]⟩ .f32) (qg kg : FVec Ideal ⟨2, ![2, 128]⟩ .f32)
    (cs sn : FVec Ideal ⟨2, ![2048, 64]⟩ .f32) :
    ((Cert.Pre_finite_tokens.fn (F := Ideal) x mod gain w qg kg cs sn).1 = (fun _ => 1#1) → ∀ i, ∃ r : ℝ, x i = (r : EReal))
    ∧ ((Cert.Pre_finite_tokens.fn (F := Ideal) x mod gain w qg kg cs sn).2.1 = (fun _ => 1#1) → ∀ i, ∃ r : ℝ, mod i = (r : EReal))
    ∧ ((Cert.Pre_finite_tokens.fn (F := Ideal) x mod gain w qg kg cs sn).2.2.1 = (fun _ => 1#1) → ∀ i, ∃ r : ℝ, gain i = (r : EReal))
    ∧ ((Cert.Pre_finite_tokens.fn (F := Ideal) x mod gain w qg kg cs sn).2.2.2 = (fun _ => 1#1) → ∀ i, ∃ r : ℝ, w i = (r : EReal)) := by
  refine ⟨fun h i => ?_, fun h i => ?_, fun h i => ?_, fun h i => ?_⟩
  all_goals
    have hi := congrFun h i
    exact Cert.Attention.real_of_abs hi

set_option maxHeartbeats 2000000 in
/-- The kernel and the reference leave the same queries, keys and values on real tokens, modulation, gain and projection. -/
theorem algebraic : Cert.algebraic_KernelQkvIdeal_ReferenceQkvIdeal_pre_finite_tokens := by
  pair_intro
  · run_from Cert.KernelQkvIdeal.Gen.run_main m g
    all_goals first
      | with_reducible exact Cert.KernelQkvIdeal.Gen.V_main_arg0 m c
      | with_reducible exact Cert.KernelQkvIdeal.Gen.V_main_arg1 m c
      | with_reducible exact Cert.KernelQkvIdeal.Gen.V_main_arg2 m c
      | with_reducible exact Cert.KernelQkvIdeal.Gen.V_main_arg3 m c
      | with_reducible exact Cert.KernelQkvIdeal.Gen.V_main_arg4 m c
      | with_reducible exact Cert.KernelQkvIdeal.Gen.V_main_arg5 m c
      | with_reducible exact Cert.KernelQkvIdeal.Gen.V_main_arg6 m c
      | with_reducible exact Cert.KernelQkvIdeal.Gen.V_main_arg7 m c
  · run_from Cert.ReferenceQkvIdeal.Value.run m' g'
    all_goals
      obtain ⟨h0, h1, h2, h3⟩ := hpre c
      obtain ⟨p0, p1, p2, p3⟩ := real_of_pre _ _ _ _ _ _ _ _
      have hm : Cert.QkvKer.Reals m c := ⟨fun _ _ _ => p0 h0 _, fun _ _ => p1 h1 _, fun _ _ => p2 h2 _, fun _ _ _ => p3 h3 _⟩
      obtain ⟨a0, a1, a2, a3, a4, a5, a6, a7⟩ := hagree c
    · rw [Cert.QkvKer.final9 m c hm, Cert.QkvRef.q_eq]
      funext i
      obtain ⟨b, t, j, rfl⟩ : ∃ b t j, i = ix3 b t j := ⟨_, _, _, eq_ix3 i⟩
      refine (Cert.QkvRef.q_at _ _ _ _ _ _ _ b t j).trans ?_
      rw [a0, a1, a2, a3, a4, a6, a7]
      rfl
    · rw [Cert.QkvKer.final10 m c hm, Cert.QkvRef.k_eq]
      funext i
      obtain ⟨b, t, j, rfl⟩ : ∃ b t j, i = ix3 b t j := ⟨_, _, _, eq_ix3 i⟩
      refine (Cert.QkvRef.k_at _ _ _ _ _ _ _ b t j).trans ?_
      rw [a0, a1, a2, a3, a5, a6, a7]
      rfl
    · rw [Cert.QkvKer.final11 m c]
      funext i
      obtain ⟨b, t, j, rfl⟩ : ∃ b t j, i = ix3 b t j := ⟨_, _, _, eq_ix3 i⟩
      exact Cert.QkvRef.v_at _ _ _ _ b t j

/-- The reference's frame: its arguments end unchanged, and it declares no semaphore. -/
theorem frame_reference : Cert.quiescent_ReferenceQkvIdeal := fun m g _ =>
  (θ_run Cert.ReferenceQkvIdeal.defs _ _).mono (fun r h => ⟨fun c => (h c).2.2.2, sem_eq_zero_of_no_sems (by decide) r.2⟩)
    (Cert.ReferenceQkvIdeal.Value.run m g)

end Cert.Qkv

end
-- ==== Proof.Rows.lean ====
module

public import proofs.«01_k».proof.Proof.Layer

@[expose] public section

noncomputable section

namespace Cert.Rows

open Idealize.ShloMosaic Cert.Layer

/-- The rows of conditioning a call takes: the sixteen samples', then the context's, then zeros. -/
def row (S : Fin 16 → Fin 1024 → EReal) (x : Fin 1024 → EReal) (i : Fin 24) (k : Fin 1024) : EReal :=
  if h : i.val < 16 then S ⟨i.val, h⟩ k else if i.val = 16 then x k else 0

/-- One number of a row's modulation vector: the activated row through the layer's weights, and their bias. -/
def modulated (S : Fin 16 → Fin 1024 → EReal) (x : Fin 1024 → EReal) (w : Fin 1024 → EReal) (b : EReal) (i : Fin 24) : EReal :=
  (∑ k, silu (row S x i k) * w k) + b

end Cert.Rows

end
-- ==== Proof.ModsKer.lean ====
module

public import proofs.«01_k».proof.Proof.Gen.KernelModsIdeal.Value
public import proofs.«01_k».proof.Proof.Rows
public import Idealize.ShloMosaic.Lib.Routing.OpsSet
public import Idealize.ShloMosaic.Lib.Routing.OpsOne
public import Idealize.ShloMosaic.Lib.Pipeline.ValueKit
public import Idealize.ShloMosaic.Lib.Pointwise
public import Idealize.ShloMosaic.Lib.Claim

@[expose] public section

set_option maxRecDepth 16384

noncomputable section

namespace Cert.ModsKer

open Idealize.ShloMosaic Idealize.ShloMosaic.TcCoe Idealize.SL.Sem
open Idealize.ShloMosaic.Pipeline (Dat)
open Cert.KernelModsIdeal Cert.KernelModsIdeal.Gen Cert.Layer Cert.Rows

/-- The block's product: a row activated, through the block's weights, with its bias. -/
theorem prod_at (v : Vec Ideal S24x1024 .f32) (w : Vec Ideal S1x1024x1024 .f32) (b : Vec Ideal S1x1x1024 .f32) (i : Fin 24) (n : Fin 1024) :
    k0_pay1 v w b (ix3 0 i n) = (∑ k, silu (v (ix2 i k)) * w (ix3 0 k n)) + b (ix3 0 0 n) := by
  dsimp only [silu]
  pointwise [k0_pay1]

/-- An update of the samples' rows lands at its own place. -/
theorem lands_rows (idx : IVec S1 32) (h0 : (idx (ix1 0)).toInt = 0) (r : Fin 16) (e : Fin 1024) (i : Fin 24) (k : Fin 1024) :
    scatter_S24x1024_S1_S16x1024_01_n_0_0.resultIdx? (ix2 r e) idx = some (ix2 i k) ↔ r.val = i.val ∧ e = k := by
  have hs0 : scatter_S24x1024_S1_S16x1024_01_n_0_0.start (ix2 r e) idx 0 = 0 := by
    refine Eq.trans ?_ h0
    unfold ScatterDims.start
    rw [dif_pos (show (0 : Fin 2) ∈ scatter_S24x1024_S1_S16x1024_01_n_0_0.scatterDimsToOperandDims from List.mem_singleton.2 rfl)]
    congr 2
    funext b
    match b with
    | ⟨0, _⟩ => exact Subsingleton.elim (α := Fin 1) _ _
  have hs1 : scatter_S24x1024_S1_S16x1024_01_n_0_0.start (ix2 r e) idx 1 = 0 := rfl
  have hw0 : scatter_S24x1024_S1_S16x1024_01_n_0_0.window (ix2 r e) 0 = r.val := rfl
  have hw1 : scatter_S24x1024_S1_S16x1024_01_n_0_0.window (ix2 r e) 1 = e.val := rfl
  refine (Routing.resultIdx?_ix2 (R := 24) (C := 1024) _ _ idx i k).trans ?_
  rw [Fin.ext_iff, hs0, hs1, hw0, hw1]
  omega

/-- An update of the context's row lands in the seventeenth. -/
theorem lands_row (idx : IVec S1 32) (h0 : (idx (ix1 0)).toInt = 16) (e : Fin 1024) (i : Fin 24) (k : Fin 1024) :
    scatter_S24x1024_S1_S1024_0_0_0_0.resultIdx? (ix1 e) idx = some (ix2 i k) ↔ i.val = 16 ∧ e = k := by
  have hs0 : scatter_S24x1024_S1_S1024_0_0_0_0.start (ix1 e) idx 0 = 16 := by
    refine Eq.trans ?_ h0
    unfold ScatterDims.start
    rw [dif_pos (show (0 : Fin 2) ∈ scatter_S24x1024_S1_S1024_0_0_0_0.scatterDimsToOperandDims from List.mem_singleton.2 rfl)]
    congr 2
    funext b
    match b with
    | ⟨0, _⟩ => exact Subsingleton.elim (α := Fin 1) _ _
  have hs1 : scatter_S24x1024_S1_S1024_0_0_0_0.start (ix1 e) idx 1 = 0 := rfl
  have hw0 : scatter_S24x1024_S1_S1024_0_0_0_0.window (ix1 e) 0 = 0 := rfl
  have hw1 : scatter_S24x1024_S1_S1024_0_0_0_0.window (ix1 e) 1 = e.val := rfl
  refine (Routing.resultIdx?_ix2 (R := 24) (C := 1024) _ _ idx i k).trans ?_
  rw [Fin.ext_iff, hs0, hs1, hw0, hw1]
  omega

/-- Zeros with the samples' rows set first and the context's row set after them. -/
def stacked (S : FVec Ideal S16x1024 .f32) (x : FVec Ideal S1024 .f32) : FVec Ideal S24x1024 .f32 :=
  Host.scatter scatter_S24x1024_S1_S1024_0_0_0_0 (fun _ b => b)
    (Host.scatter scatter_S24x1024_S1_S16x1024_01_n_0_0 (fun _ b => b) (broadcastInDim S24x1024 ![] bcast_S_S24x1024 (constant S_ .f32 0x00000000#32))
      (broadcastInDim S1 ![] bcast_S_S1 (constantI S_ 32 0#32)) S)
    (broadcastInDim S1 ![] bcast_S_S1 (constantI S_ 32 16#32)) x

/-- The same read at a row. -/
theorem stacked_at (S : FVec Ideal S16x1024 .f32) (x : FVec Ideal S1024 .f32) (i : Fin 24) (k : Fin 1024) :
    stacked S x (ix2 i k) = row (fun i k => S (ix2 i k)) (fun k => x (ix1 k)) i k := by
  have h0 : ((broadcastInDim S1 ![] bcast_S_S1 (constantI S_ 32 0#32) : IVec S1 32) (ix1 0)).toInt = 0 := by rfl
  have h16 : ((broadcastInDim S1 ![] bcast_S_S1 (constantI S_ 32 16#32) : IVec S1 32) (ix1 0)).toInt = 16 := by rfl
  unfold stacked row
  by_cases h : i.val = 16
  · rw [dif_neg (by omega), if_pos h]
    refine Routing.scatter_set_hit _ _ _ _ _ _ (fun q hq => ?_) (ix1 k) ((lands_row _ h16 k i k).2 ⟨h, rfl⟩)
    obtain ⟨e, rfl⟩ : ∃ e, q = ix1 e := ⟨_, eq_ix1 q⟩
    rw [((lands_row _ h16 e i k).1 hq).2]
  · rw [Routing.scatter_set_miss _ _ _ _ _ fun q hq => ?_]
    · by_cases l : i.val < 16
      · rw [dif_pos l]
        refine Routing.scatter_set_hit _ _ _ _ _ _ (fun q hq => ?_) (ix2 ⟨i.val, l⟩ k) ((lands_rows _ h0 _ k i k).2 ⟨rfl, rfl⟩)
        obtain ⟨r, e, rfl⟩ : ∃ r e, q = ix2 r e := ⟨_, _, eq_ix2 q⟩
        obtain ⟨a, rfl⟩ := (lands_rows _ h0 r e i k).1 hq
        obtain rfl : r = ⟨i.val, l⟩ := Fin.ext a
        rfl
      · rw [dif_neg l, if_neg h, Routing.scatter_set_miss _ _ _ _ _ fun q hq => ?_]
        · pointwise
        · obtain ⟨r, e, rfl⟩ : ∃ r e, q = ix2 r e := ⟨_, _, eq_ix2 q⟩
          have := ((lands_rows _ h0 r e i k).1 hq).1
          omega
    · obtain ⟨e, rfl⟩ : ∃ e, q = ix1 e := ⟨_, eq_ix1 q⟩
      exact h ((lands_row _ h16 e i k).1 hq).1

variable (m : (ℓ : Loc nD τ sig) → Buf (Elt Ideal) ℓ)

/-- The block every window is at, point by point: layer `t / 6`, block `t % 6` of its lanes. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- The rows as the call takes them. -/
theorem rows_val (c : Dev nD) : V m c main_v4 = stacked (m ((c : Thread nD τ).loc main_arg0)) (m ((c : Thread nD τ).loc main_arg1)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp <;> rfl

/-- The rows read at a row. -/
theorem blk_rows (c : Dev nD) (t : Fin cfg0.N) (i : Fin 24) (k : Fin 1024) : (show FVec Ideal S24x1024 .f32 from iblk m c 0 t) (ix2 i k)
      = row (fun i k => (show FVec Ideal S16x1024 .f32 from m ((c : Thread nD τ).loc main_arg0)) (ix2 i k))
          (fun k => (show FVec Ideal S1024 .f32 from m ((c : Thread nD τ).loc main_arg1)) (ix1 k)) i k := by
  have hi := idx t
  show iblk m c 0 t (ix2 i k) = _
  blk_simp [iblk]
  rw [rows_val]
  refine Eq.trans ?_ (stacked_at _ _ i k)
  generalize stacked _ _ = Z
  blk_point [hi]

/-- The block of a layer's weights. -/
theorem blk_w (c : Dev nD) (t : Fin cfg0.N) (k : Fin 1024) (j : Fin 1024) (l : Fin 4) (n : Fin 6144) (hl : l.val = t.val / 6)
    (hn : n.val = t.val % 6 * 1024 + j.val) : (show FVec Ideal S1x1024x1024 .f32 from iblk m c 1 t) (ix3 0 k j)
      = (show FVec Ideal S4x1024x6144 .f32 from m ((c : Thread nD τ).loc main_arg2)) (ix3 l k n) := by
  have hi := idx t
  show iblk m c 1 t (ix3 0 k j) = _
  blk_simp [iblk]
  entry_read
  blk_point [hi]

/-- The block of a layer's bias. -/
theorem blk_b (c : Dev nD) (t : Fin cfg0.N) (j : Fin 1024) (l : Fin 4) (n : Fin 6144) (hl : l.val = t.val / 6)
    (hn : n.val = t.val % 6 * 1024 + j.val) : (show FVec Ideal S1x1x1024 .f32 from iblk m c 2 t) (ix3 0 0 j)
      = (show FVec Ideal S4x6144 .f32 from m ((c : Thread nD τ).loc main_arg3)) (ix2 l n) := by
  have hi := idx t
  show iblk m c 2 t (ix3 0 0 j) = _
  blk_simp [iblk]
  entry_read
  pointwise
  blk_point [hi]

/-- The modulation vectors the kernel leaves, number by number. -/
def out (c : Dev nD) (l : Fin 4) (i : Fin 24) (n : Fin 6144) : EReal :=
  modulated (fun i k => (show FVec Ideal S16x1024 .f32 from m ((c : Thread nD τ).loc main_arg0)) (ix2 i k))
    (fun k => (show FVec Ideal S1024 .f32 from m ((c : Thread nD τ).loc main_arg1)) (ix1 k))
    (fun k => (show FVec Ideal S4x1024x6144 .f32 from m ((c : Thread nD τ).loc main_arg2)) (ix3 l k n))
    ((show FVec Ideal S4x6144 .f32 from m ((c : Thread nD τ).loc main_arg3)) (ix2 l n)) i

/-- What a point leaves in its block. -/
theorem point3 (c : Dev nD) (t : Fin cfg0.N) (i : Fin 24) (j : Fin 1024) (l : Fin 4) (r : Fin 24) (n : Fin 6144) (hl : l.val = t.val / 6)
    (hr : r.val = i.val) (hn : n.val = t.val % 6 * 1024 + j.val) :
    out0_3 (iblk m c 0 t) (iblk m c 1 t) (iblk m c 2 t) (ix3 0 i j) = out m c l r n := by
  obtain rfl : r = i := Fin.ext hr
  unfold out0_3
  frame_out
  refine (prod_at _ _ _ r j).trans ?_
  exact congrArg₂ (· + ·) (Finset.sum_congr rfl fun k _ => congrArg₂ (fun a b => silu a * b) (blk_rows m c t r k) (blk_w m c t k j l n hl hn))
    (blk_b m c t j l n hl hn)

/-- The kernel's result array after its run is the modulation vectors. -/
theorem final3 (c : Dev nD) : (dats m 0 c).arrAt 3 (cfgs 0).N = fun i : S4x24x6144.Idx => out m c (i 0) (i 1) (i 2) := by
  refine (dats m 0 c).arrAt_eq_of_covers 3 _ (by decide +kernel) fun t _ y => ?_
  have hi := idx t
  obtain ⟨o, i, j, rfl⟩ : ∃ o i j, y = ix3 o i j := ⟨_, _, _, eq_ix3 y⟩
  obtain rfl : o = 0 := Subsingleton.elim _ _
  blk_simp
  rw [after0_3]
  refine point3 m c t i j _ _ _ ?_ ?_ ?_
  all_goals
    blk_simp [hi]
    try omega

end Cert.ModsKer

end
-- ==== Proof.ModsRef.lean ====
module

public import proofs.«01_k».proof.Proof.Gen.ReferenceModsIdeal.Run
public import proofs.«01_k».proof.Proof.Rows
public import Idealize.ShloMosaic.Lib.Pointwise
public import Idealize.ShloMosaic.Lib.Pipeline.ValueKit

@[expose] public section

set_option maxRecDepth 16384

noncomputable section

namespace Cert.ModsRef

open Idealize.ShloMosaic Idealize.ShloMosaic.TcCoe Idealize.SL.Sem
open Cert.ReferenceModsIdeal Cert.Layer Cert.Rows

/-- The rows of conditioning: the samples', the context's, and zeros. -/
def stacked (S : FVec Ideal S16x1024 .f32) (x : FVec Ideal S1024 .f32) : FVec Ideal S24x1024 .f32 :=
  concatenate S24x1024 0 [⟨S16x1024, S⟩, ⟨S1x1024, broadcastInDim S1x1024 ![1] Gen.bcast_S1024_S1x1024_1 x⟩,
    ⟨S7x1024, broadcastInDim S7x1024 ![] Gen.bcast_S_S7x1024 (constant S_ .f32 0x00000000#32)⟩] Gen.concatenates_S16x1024_S1x1024_S7x1024_S24x1024_d0

/-- The activated rows. -/
def acts (C : FVec Ideal S24x1024 .f32) : FVec Ideal S24x1024 .f32 :=
  mulf C (Host.divf (broadcastInDim S24x1024 ![] Gen.bcast_S_S24x1024 (constant S_ .f32 0x3F800000#32))
    (addf (broadcastInDim S24x1024 ![] Gen.bcast_S_S24x1024 (constant S_ .f32 0x3F800000#32)) (Host.exp (Host.negf C))))

/-- The rows through every layer's weights, with the layer's bias. -/
def through (A : FVec Ideal S24x1024 .f32) (W : FVec Ideal S4x1024x6144 .f32) (b : FVec Ideal S4x6144 .f32) : FVec Ideal S4x24x6144 .f32 :=
  addf (transpose S4x24x6144 [1, 0, 2] (Host.dotGeneral dot_S24x1024_S4x1024x6144_S24x4x6144_1_1_0_02_n_n none A W) Gen.transposes_S24x4x6144_S4x24x6144_1_0_2)
    (broadcastInDim S4x24x6144 ![0, 1, 2] Gen.bcast_S4x1x6144_S4x24x6144_0_1_2 (broadcastInDim S4x1x6144 ![0, 2] Gen.bcast_S4x6144_S4x1x6144_0_2 b))

theorem stacked_at (S : FVec Ideal S16x1024 .f32) (x : FVec Ideal S1024 .f32) (i : Fin 24) (k : Fin 1024) :
    stacked S x (ix2 i k) = row (fun i k => S (ix2 i k)) (fun k => x (ix1 k)) i k := by
  pointwise [stacked]
  unfold row
  by_cases h : i.val < 16
  · rw [dif_pos h, dif_pos h]
  · rw [dif_neg h, dif_neg h]
    by_cases e : i.val = 16
    · rw [dif_pos (by omega), if_pos e]
    · rw [dif_neg (by omega), if_neg e]

theorem acts_at (C : FVec Ideal S24x1024 .f32) (i : Fin 24) (k : Fin 1024) : acts C (ix2 i k) = silu (C (ix2 i k)) := by
  dsimp only [silu, Ideal.logistic]
  pointwise [acts]

theorem through_at (A : FVec Ideal S24x1024 .f32) (W : FVec Ideal S4x1024x6144 .f32) (b : FVec Ideal S4x6144 .f32) (l : Fin 4) (i : Fin 24) (n : Fin 6144) :
    through A W b (ix3 l i n) = (∑ k, A (ix2 i k) * W (ix3 l k n)) + b (ix2 l n) := by
  pointwise [through]

/-- The reference's result at an index. -/
theorem ref_at (S : FVec Ideal S16x1024 .f32) (x : FVec Ideal S1024 .f32) (W : FVec Ideal S4x1024x6144 .f32) (b : FVec Ideal S4x6144 .f32)
    (l : Fin 4) (i : Fin 24) (n : Fin 6144) : through (acts (stacked S x)) W b (ix3 l i n)
      = modulated (fun i k => S (ix2 i k)) (fun k => x (ix1 k)) (fun k => W (ix3 l k n)) (b (ix2 l n)) i := by
  rw [through_at]
  simp only [acts_at, stacked_at]
  rfl

end Cert.ModsRef

end
-- ==== Proof.Mods.lean ====
module

public import proofs.«01_k».proof.Defs
public import proofs.«01_k».proof.Proof.ModsKer
public import proofs.«01_k».proof.Proof.ModsRef
public import Idealize.ShloMosaic.Lib.Quiescent

@[expose] public section

set_option maxRecDepth 16384

noncomputable section

namespace Cert.Mods

open Idealize.ShloMosaic Idealize.ShloMosaic.TcCoe Idealize.SL.Sem

attribute [local instance] Cert.KernelModsIdeal.Gen.facts Cert.ReferenceModsIdeal.Gen.facts

set_option maxHeartbeats 2000000 in
/-- The modulation kernel and its reference leave the same array, whatever the arguments. -/
theorem algebraic : Cert.algebraic_KernelModsIdeal_ReferenceModsIdeal := by
  pair_intro
  · run_from Cert.KernelModsIdeal.Gen.run_main m g
    all_goals first
      | with_reducible exact Cert.KernelModsIdeal.Gen.V_main_arg0 m c
      | with_reducible exact Cert.KernelModsIdeal.Gen.V_main_arg1 m c
      | with_reducible exact Cert.KernelModsIdeal.Gen.V_main_arg2 m c
      | with_reducible exact Cert.KernelModsIdeal.Gen.V_main_arg3 m c
  · run_from Cert.ReferenceModsIdeal.Value.run m' g'
    · rw [Cert.ModsKer.final3 m c]
      funext i
      obtain ⟨l, i, n, rfl⟩ : ∃ l r n, i = ix3 l r n := ⟨_, _, _, eq_ix3 i⟩
      exact Cert.ModsRef.ref_at _ _ _ _ l i n

/-- The reference's frame: its arguments end unchanged, and it declares no semaphore. -/
theorem frame_reference : Cert.quiescent_ReferenceModsIdeal := fun m g _ =>
  (θ_run Cert.ReferenceModsIdeal.defs _ _).mono (fun r h => ⟨fun c => (h c).2, sem_eq_zero_of_no_sems (by decide) r.2⟩)
    (Cert.ReferenceModsIdeal.Value.run m g)

end Cert.Mods

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelLast
public import proofs.«01_k».proof.Proof.Gen.KernelLast.Skeleton
public import proofs.«01_k».proof.Proof.Gen.KernelLast.Launch
public import proofs.«01_k».proof.Proof.Gen.KernelLast.Points
public import proofs.«01_k».proof.Proof.Gen.KernelLast.Frame
public import proofs.«01_k».proof.Proof.Gen.KernelLastIdeal
public import proofs.«01_k».proof.Proof.Gen.KernelLastIdeal.Skeleton
public import proofs.«01_k».proof.Proof.Gen.KernelLastIdeal.Launch
public import proofs.«01_k».proof.Proof.Gen.KernelLastIdeal.Points
public import proofs.«01_k».proof.Proof.Gen.KernelLastIdeal.Frame
public import proofs.«01_k».proof.Proof.Gen.ReferenceLastIdeal
public import proofs.«01_k».proof.Proof.Gen.KernelEven
public import proofs.«01_k».proof.Proof.Gen.KernelEven.Skeleton
public import proofs.«01_k».proof.Proof.Gen.KernelEven.Launch
public import proofs.«01_k».proof.Proof.Gen.KernelEven.Points
public import proofs.«01_k».proof.Proof.Gen.KernelEven.Frame
public import proofs.«01_k».proof.Proof.Gen.KernelEvenIdeal
public import proofs.«01_k».proof.Proof.Gen.KernelEvenIdeal.Skeleton
public import proofs.«01_k».proof.Proof.Gen.KernelEvenIdeal.Launch
public import proofs.«01_k».proof.Proof.Gen.KernelEvenIdeal.Points
public import proofs.«01_k».proof.Proof.Gen.KernelEvenIdeal.Frame
public import proofs.«01_k».proof.Proof.Gen.ReferenceEvenIdeal
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelOdd
public import proofs.«01_k».proof.Proof.Gen.KernelOdd.Skeleton
public import proofs.«01_k».proof.Proof.Gen.KernelOdd.Launch
public import proofs.«01_k».proof.Proof.Gen.KernelOdd.Points
public import proofs.«01_k».proof.Proof.Gen.KernelOdd.Frame
public import proofs.«01_k».proof.Proof.Gen.KernelOddIdeal
public import proofs.«01_k».proof.Proof.Gen.KernelOddIdeal.Skeleton
public import proofs.«01_k».proof.Proof.Gen.KernelOddIdeal.Launch
public import proofs.«01_k».proof.Proof.Gen.KernelOddIdeal.Points
public import proofs.«01_k».proof.Proof.Gen.KernelOddIdeal.Frame
public import proofs.«01_k».proof.Proof.Gen.ReferenceOddIdeal
public import proofs.«01_k».proof.Proof.Gen.Pre_finite_scores
public import proofs.«01_k».proof.Proof.Gen.KernelIdeal.Value
public import proofs.«01_k».proof.Proof.Gen.KernelEvenIdeal.Value
public import proofs.«01_k».proof.Proof.Gen.KernelLastIdeal.Value
public import proofs.«01_k».proof.Proof.Gen.ReferenceIdeal.Run
public import proofs.«01_k».proof.Proof.Gen.ReferenceEvenIdeal.Run
public import proofs.«01_k».proof.Proof.Gen.ReferenceLastIdeal.Run
public import proofs.«01_k».proof.Proof.Gen.KernelMixIdeal.Value
public import proofs.«01_k».proof.Proof.Gen.ReferenceMixIdeal.Run
public import proofs.«01_k».proof.Proof.Gen.KernelOddIdeal.Value
public import proofs.«01_k».proof.Proof.Gen.ReferenceOddIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelMods
public import proofs.«01_k».proof.Proof.Gen.KernelMods.Skeleton
public import proofs.«01_k».proof.Proof.Gen.KernelMods.Launch
public import proofs.«01_k».proof.Proof.Gen.KernelMods.Points
public import proofs.«01_k».proof.Proof.Gen.KernelMods.Frame
public import proofs.«01_k».proof.Proof.Gen.KernelModsIdeal
public import proofs.«01_k».proof.Proof.Gen.KernelModsIdeal.Skeleton
public import proofs.«01_k».proof.Proof.Gen.KernelModsIdeal.Launch
public import proofs.«01_k».proof.Proof.Gen.KernelModsIdeal.Points
public import proofs.«01_k».proof.Proof.Gen.KernelModsIdeal.Frame
public import proofs.«01_k».proof.Proof.Gen.KernelModsIdeal.Value
public import proofs.«01_k».proof.Proof.Gen.ReferenceModsIdeal
public import proofs.«01_k».proof.Proof.Gen.ReferenceModsIdeal.Run
public import proofs.«01_k».proof.Proof.Gen.Pre_finite_tokens
public import Idealize.ShloMosaic.Adequacy
public import Idealize.ShloMosaic.Init
public import proofs.«01_k».proof.Proof.Attention
public import proofs.«01_k».proof.Proof.Last
public import proofs.«01_k».proof.Proof.Even
public import proofs.«01_k».proof.Proof.Mix
public import proofs.«01_k».proof.Proof.Odd
public import proofs.«01_k».proof.Proof.Qkv
public import proofs.«01_k».proof.Proof.Mods

@[expose] public section

noncomputable section

namespace Cert.Proof

open Idealize.ShloMosaic Idealize.SL.Sem

attribute [local instance] Cert.Kernel.Gen.facts Cert.KernelIdeal.Gen.facts Cert.ReferenceIdeal.Gen.facts
  Cert.KernelLast.Gen.facts Cert.KernelLastIdeal.Gen.facts Cert.ReferenceLastIdeal.Gen.facts
  Cert.KernelEven.Gen.facts Cert.KernelEvenIdeal.Gen.facts Cert.ReferenceEvenIdeal.Gen.facts
  Cert.KernelMix.Gen.facts Cert.KernelMixIdeal.Gen.facts Cert.ReferenceMixIdeal.Gen.facts
  Cert.KernelOdd.Gen.facts Cert.KernelOddIdeal.Gen.facts Cert.ReferenceOddIdeal.Gen.facts
  Cert.KernelQkv.Gen.facts Cert.KernelQkvIdeal.Gen.facts Cert.ReferenceQkvIdeal.Gen.facts
  Cert.KernelMods.Gen.facts Cert.KernelModsIdeal.Gen.facts Cert.ReferenceModsIdeal.Gen.facts
  Cert.Pre_finite_scores.Gen.facts Cert.Pre_finite_tokens.Gen.facts

/-- Every claim of the certificate: the frames of the kernels and references, that each ideal kernel is the
    printed one over the extended reals, and that kernel and reference compute the same function. -/
theorem claim : Cert.Claim :=
  ⟨Cert.Kernel.Gen.facts, Cert.KernelIdeal.Gen.facts, Cert.ReferenceIdeal.Gen.facts,
   Cert.KernelLast.Gen.facts, Cert.KernelLastIdeal.Gen.facts, Cert.ReferenceLastIdeal.Gen.facts,
   Cert.KernelEven.Gen.facts, Cert.KernelEvenIdeal.Gen.facts, Cert.ReferenceEvenIdeal.Gen.facts,
   Cert.KernelMix.Gen.facts, Cert.KernelMixIdeal.Gen.facts, Cert.ReferenceMixIdeal.Gen.facts,
   Cert.KernelOdd.Gen.facts, Cert.KernelOddIdeal.Gen.facts, Cert.ReferenceOddIdeal.Gen.facts,
   Cert.KernelQkv.Gen.facts, Cert.KernelQkvIdeal.Gen.facts, Cert.ReferenceQkvIdeal.Gen.facts,
   Cert.KernelMods.Gen.facts, Cert.KernelModsIdeal.Gen.facts, Cert.ReferenceModsIdeal.Gen.facts,
   Cert.Pre_finite_scores.Gen.facts, Cert.Pre_finite_tokens.Gen.facts,
   fun m ρ _ => Cert.Kernel.Gen.frame m ρ,
   fun m ρ _ => Cert.KernelIdeal.Gen.frame m ρ,
   fun m ρ _ => Cert.KernelIdeal.Gen.frame m ρ,
   Cert.Attention.frame_reference,
   fun m ρ _ => Cert.Attention.frame_reference m ρ trivial,
   fun m ρ _ => Cert.KernelLast.Gen.frame m ρ,
   fun m ρ _ => Cert.KernelLastIdeal.Gen.frame m ρ,
   Cert.Last.frame_reference,
   fun m ρ _ => Cert.KernelEven.Gen.frame m ρ,
   fun m ρ _ => Cert.KernelEvenIdeal.Gen.frame m ρ,
   Cert.Even.frame_reference,
   fun m ρ _ => Cert.KernelMix.Gen.frame m ρ,
   fun m ρ _ => Cert.KernelMixIdeal.Gen.frame m ρ,
   Cert.Mix.frame_reference,
   fun m ρ _ => Cert.KernelOdd.Gen.frame m ρ,
   fun m ρ _ => Cert.KernelOddIdeal.Gen.frame m ρ,
   Cert.Odd.frame_reference,
   fun m ρ _ => Cert.KernelQkv.Gen.frame m ρ,
   fun m ρ _ => Cert.KernelQkvIdeal.Gen.frame m ρ,
   fun m ρ _ => Cert.KernelQkvIdeal.Gen.frame m ρ,
   Cert.Qkv.frame_reference,
   fun m ρ _ => Cert.Qkv.frame_reference m ρ trivial,
   fun m ρ _ => Cert.KernelMods.Gen.frame m ρ,
   fun m ρ _ => Cert.KernelModsIdeal.Gen.frame m ρ,
   Cert.Mods.frame_reference,
   trivial,
   Cert.Attention.algebraic,
   trivial,
   Cert.Last.algebraic,
   trivial,
   Cert.Even.algebraic,
   trivial,
   Cert.Mix.algebraic,
   trivial,
   Cert.Odd.algebraic,
   trivial,
   Cert.Qkv.algebraic,
   trivial,
   Cert.Mods.algebraic⟩

end Cert.Proof

end
